-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_sorted_segments : Cert.Pre_sorted_segments.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_ids_in_range.lean ====
abbrev S50000x256 : Shape := ⟨2, ![50000, 256]⟩
abbrev S50000 : Shape := ⟨1, ![50000]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Pre_sorted_segments.lean ====
abbrev S50000x256 : Shape := ⟨2, ![50000, 256]⟩
abbrev S50000 : Shape := ⟨1, ![50000]⟩
abbrev S_ : Shape := ⟨0, ![]⟩
abbrev S49999 : Shape := ⟨1, ![49999]⟩

class Facts : Prop where
  bcast_S_S50000 : S_.BroadcastsInDim S50000 (![] : Fin 0 → Fin S50000.rank)
  reducesTo_S50000_S_d0 : S50000.ReducesTo [0] S_
  h_S_ : 0 < S_.numel
  slices_S50000_S49999_0 : S50000.Slices ![0] S49999
  slices_S50000_S49999_1 : S50000.Slices ![1] S49999
  reducesTo_S49999_S_d0 : S49999.ReducesTo [0] S_

variable [Facts]

def fn {F : FTy → Type} [FloatOps F] (main_arg0 : FVec F S50000x256 .f32) (main_arg1 : IVec S50000 32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 64#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : IVec S49999 32 := (extractStridedSlice S49999 ![0] · slices_S50000_S49999_0) main_arg1
  let main_v7 : IVec S49999 32 := (extractStridedSlice S49999 ![1] · slices_S50000_S49999_1) main_arg1
  let main_v8 : IVec S49999 1 := cmpi .sle main_v6 main_v7
  let main_c_2 : IVec S_ 1 := constantI S_ 1 1#1
  let main_v9 : IVec S_ 1 := (fun x v => Host.reduce IntOp.andi x v reducesTo_S49999_S_d0 h_S_) main_v8 main_c_2
  let main_v10 : IVec S_ 1 := andi main_v5 main_v9
  main_v10
-- ==== Kernel.lean ====
abbrev S50000x256 : Shape := ⟨2, ![50000, 256]⟩
abbrev S50000 : Shape := ⟨1, ![50000]⟩
abbrev S37200 : Shape := ⟨1, ![37200]⟩
abbrev S31x1x1200 : Shape := ⟨3, ![31, 1, 1200]⟩
abbrev S32x64x256 : Shape := ⟨3, ![32, 64, 256]⟩
abbrev S80x256 : Shape := ⟨2, ![80, 256]⟩
abbrev S400 : Shape := ⟨1, ![400]⟩
abbrev S64x256 : Shape := ⟨2, ![64, 256]⟩
abbrev S_ : Shape := ⟨0, ![]⟩
abbrev S16 : Shape := ⟨1, ![16]⟩
abbrev S1x16 : Shape := ⟨2, ![1, 16]⟩
abbrev S1 : Shape := ⟨1, ![1]⟩
abbrev S1x64x256 : Shape := ⟨3, ![1, 64, 256]⟩
abbrev S1x1x1200 : Shape := ⟨3, ![1, 1, 1200]⟩
abbrev S1200x256 : Shape := ⟨2, ![1200, 256]⟩
abbrev S1200 : Shape := ⟨1, ![1200]⟩
abbrev S64x1200 : Shape := ⟨2, ![64, 1200]⟩
abbrev S1x1200 : Shape := ⟨2, ![1, 1200]⟩

abbrev nBuf : Table → Nat
  | .hbm => 9
  | .local .tc .vmem => 13
  | .local .scVector .vmem => 5
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S37200, .i32⟩
  | .hbm, ⟨3, _⟩ => ⟨S31x1x1200, .i32⟩
  | .hbm, ⟨4, _⟩ => ⟨S32x64x256, .f32⟩
  | .hbm, ⟨5, _⟩ => ⟨S32x64x256, .f32⟩
  | .hbm, ⟨6, _⟩ => ⟨S64x256, .f32⟩
  | .hbm, ⟨7, _⟩ => ⟨S64x256, .f32⟩
  | .hbm, ⟨8, _⟩ => ⟨S64x256, .f32⟩
  | .local .tc .vmem, ⟨0, _⟩ => ⟨S1x1x1200, .i32⟩
  | .local .tc .vmem, ⟨1, _⟩ => ⟨S1x1x1200, .i32⟩
  | .local .tc .vmem, ⟨2, _⟩ => ⟨S1200x256, .f32⟩
  | .local .tc .vmem, ⟨3, _⟩ => ⟨S1200x256, .f32⟩
  | .local .tc .vmem, ⟨4, _⟩ => ⟨S64x256, .f32⟩
  | .local .tc .vmem, ⟨5, _⟩ => ⟨S64x256, .f32⟩
  | .local .tc .vmem, ⟨6, _⟩ => ⟨S64x256, .f32⟩
  | .local .tc .vmem, ⟨7, _⟩ => ⟨S64x256, .f32⟩
  | .local .tc .vmem, ⟨8, _⟩ => ⟨S64x256, .f32⟩
  | .local .tc .vmem, ⟨9, _⟩ => ⟨S64x256, .f32⟩
  | .local .tc .vmem, ⟨10, _⟩ => ⟨S32x64x256, .f32⟩
  | .local .tc .vmem, ⟨11, _⟩ => ⟨S32x64x256, .f32⟩
  | .local .tc .vmem, ⟨12, _⟩ => ⟨S64x256, .f32⟩
  | .local .scVector .vmem, ⟨0, _⟩ => ⟨S80x256, .f32⟩
  | .local .scVector .vmem, ⟨1, _⟩ => ⟨S80x256, .f32⟩
  | .local .scVector .vmem, ⟨2, _⟩ => ⟨S400, .i32⟩
  | .local .scVector .vmem, ⟨3, _⟩ => ⟨S64x256, .f32⟩
  | .local .scVector .vmem, ⟨4, _⟩ => ⟨S64x256, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_arg0_scv : Ref sig .scVector := ⟨.hbm, 0, rfl⟩
abbrev main_arg1_scv : Ref sig .scVector := ⟨.hbm, 1, rfl⟩
abbrev main_v2_0_scv : Ref sig .scVector := ⟨.hbm, 4, rfl⟩
abbrev main_v2_1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_scratch0 : Ref sig .tc := ⟨.vmem, 6, rfl⟩
abbrev cc1_scratch1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c37200_i32 : BitVec 32 := 37200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v3 : BitVec 32 := Scalar.addi c37200_i32 v2
  ![v3.toNat]
@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off2 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v13 : Index := Scalar.indexCast arg13
  let c0 : Index := 0#32
  ![v13.toNat, 0]
def k0_off3 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v22 : Index := Scalar.indexCast arg13
  let c16 : Index := 16#32
  ![v22.toNat, 16]
def k0_off4 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v31 : Index := Scalar.indexCast arg13
  let c32 : Index := 32#32
  ![v31.toNat, 32]
def k0_off5 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v40 : Index := Scalar.indexCast arg13
  let c48 : Index := 48#32
  ![v40.toNat, 48]
def k0_off6 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v49 : Index := Scalar.indexCast arg13
  let c64 : Index := 64#32
  ![v49.toNat, 64]
def k0_off7 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v58 : Index := Scalar.indexCast arg13
  let c80 : Index := 80#32
  ![v58.toNat, 80]
def k0_off8 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v67 : Index := Scalar.indexCast arg13
  let c96 : Index := 96#32
  ![v67.toNat, 96]
def k0_off9 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v76 : Index := Scalar.indexCast arg13
  let c112 : Index := 112#32
  ![v76.toNat, 112]
def k0_off10 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v85 : Index := Scalar.indexCast arg13
  let c128 : Index := 128#32
  ![v85.toNat, 128]
def k0_off11 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v94 : Index := Scalar.indexCast arg13
  let c144 : Index := 144#32
  ![v94.toNat, 144]
def k0_off12 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v103 : Index := Scalar.indexCast arg13
  let c160 : Index := 160#32
  ![v103.toNat, 160]
def k0_off13 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v112 : Index := Scalar.indexCast arg13
  let c176 : Index := 176#32
  ![v112.toNat, 176]
def k0_off14 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v121 : Index := Scalar.indexCast arg13
  let c192 : Index := 192#32
  ![v121.toNat, 192]
def k0_off15 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v130 : Index := Scalar.indexCast arg13
  let c208 : Index := 208#32
  ![v130.toNat, 208]
def k0_off16 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v139 : Index := Scalar.indexCast arg13
  let c224 : Index := 224#32
  ![v139.toNat, 224]
def k0_off17 (k0_t1 : Fin k0_t1_loop.trips) : Fin 2 → Nat :=
  let c0_i32_0 : BitVec 32 := 0#32
  let c1_i32 : BitVec 32 := 1#32
  let arg13 : BitVec 32 := Scf.iv c0_i32_0 c1_i32 k0_t1
  let v148 : Index := Scalar.indexCast arg13
  let c240 : Index := 240#32
  ![v148.toNat, 240]
def k0_off18 (i : grid0.Coords) (c0_i32_2 : BitVec 32) : Fin 2 → Nat :=
  let c37200_i32 : BitVec 32 := 37200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v3 : BitVec 32 := Scalar.addi c37200_i32 v2
  let v5 : BitVec 32 := Scalar.addi v3 c0_i32_2
  let c0_i32_3 : BitVec 32 := 0#32
  ![v5.toNat, 0]
@[reducible] def k0_t2_loop : Scf.Loop 32 :=
  let c0_i32_8 : BitVec 32 := 0#32
  let c3_i32 : BitVec 32 := 3#32
  let v11 : BitVec 32 := Scalar.addi c0_i32_8 c3_i32
  let c1_i32_9 : BitVec 32 := 1#32
  ⟨c0_i32_8, v11, c1_i32_9⟩
def k0_cond1 (k0_t2 : Fin k0_t2_loop.trips) : BitVec 1 :=
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c5_i32 : BitVec 32 := 5#32
  let v14 : BitVec 1 := Scalar.cmpi .slt v13 c5_i32
  let v15 : BitVec 32 := Scalar.extui v14
  let c0_i32_13 : BitVec 32 := 0#32
  let v16 : BitVec 1 := Scalar.cmpi .ne v15 c0_i32_13
  v16

def k0_off19 (i : grid0.Coords) (k0_t2 : Fin k0_t2_loop.trips) : Fin 2 → Nat :=
  let c37200_i32 : BitVec 32 := 37200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v3 : BitVec 32 := Scalar.addi c37200_i32 v2
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c80_i32_18 : BitVec 32 := 80#32
  let v22 : BitVec 32 := Scalar.muli v13 c80_i32_18
  let v23 : BitVec 32 := Scalar.addi v3 v22
  let c0_i32_19 : BitVec 32 := 0#32
  ![v23.toNat, 0]
def k0_off20 (k0_t2 : Fin k0_t2_loop.trips) : Fin 1 → Nat :=
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c80_i32_21 : BitVec 32 := 80#32
  let v26 : BitVec 32 := Scalar.muli v13 c80_i32_21
  let v27 : Index := Scalar.indexCast v26
  ![v27.toNat]
def k0_off21 (k0_t2 : Fin k0_t2_loop.trips) : Fin 1 → Nat :=
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c80_i32_21 : BitVec 32 := 80#32
  let v26 : BitVec 32 := Scalar.muli v13 c80_i32_21
  let c80_i32_22 : BitVec 32 := 80#32
  let v32 : BitVec 32 := Scalar.addi v26 c80_i32_22
  let c16_i32 : BitVec 32 := 16#32
  let v33 : BitVec 32 := Scalar.subi v32 c16_i32
  let v34 : Index := Scalar.indexCast v33
  ![v34.toNat]
@[reducible] def k0_t3_loop : Scf.Loop 32 :=
  let c0_i32_28 : BitVec 32 := 0#32
  let c5_i32_29 : BitVec 32 := 5#32
  let v50 : BitVec 32 := Scalar.addi c0_i32_28 c5_i32_29
  let c1_i32_30 : BitVec 32 := 1#32
  ⟨c0_i32_28, v50, c1_i32_30⟩
def k0_off22 (k0_t3 : Fin k0_t3_loop.trips) (c0_i32_156 : BitVec 32) : Fin 2 → Nat :=
  let c0_i32_28 : BitVec 32 := 0#32
  let c1_i32_30 : BitVec 32 := 1#32
  let arg14 : BitVec 32 := Scf.iv c0_i32_28 c1_i32_30 k0_t3
  let c16_i32_155 : BitVec 32 := 16#32
  let v385 : BitVec 32 := Scalar.muli arg14 c16_i32_155
  let v386 : BitVec 32 := Scalar.addi v385 c0_i32_156
  let v387 : Index := Scalar.indexCast v386
  let c0_157 : Index := 0#32
  ![v387.toNat, 0]
def k0_off23 (k0_t3 : Fin k0_t3_loop.trips) (c0_i32_158 : BitVec 32) : Fin 2 → Nat :=
  let c0_i32_28 : BitVec 32 := 0#32
  let c1_i32_30 : BitVec 32 := 1#32
  let arg14 : BitVec 32 := Scf.iv c0_i32_28 c1_i32_30 k0_t3
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c0_160 : Index := 0#32
  ![v392.toNat, 0]
def k0_off24 (v31 : BitVec 32) : Fin 2 → Nat :=
  let v52 : Index := Scalar.indexCast v31
  let c0 : Index := 0#32
  ![v52.toNat, 0]
def k0_cond2 (v31 : BitVec 32) (v38 : BitVec 32) : BitVec 1 :=
  let v39 : BitVec 1 := Scalar.cmpi .eq v31 v38
  let v40 : BitVec 32 := Scalar.extui v39
  let c0_i32_23 : BitVec 32 := 0#32
  let v41 : BitVec 1 := Scalar.cmpi .ne v40 c0_i32_23
  v41

@[reducible] def k0_t4_loop : Scf.Loop 32 :=
  let c0_i32_36 : BitVec 32 := 0#32
  let c5_i32_37 : BitVec 32 := 5#32
  let v71 : BitVec 32 := Scalar.addi c0_i32_36 c5_i32_37
  let c1_i32_38 : BitVec 32 := 1#32
  ⟨c0_i32_36, v71, c1_i32_38⟩
def k0_off25 (k0_t4 : Fin k0_t4_loop.trips) (c0_i32_156 : BitVec 32) : Fin 2 → Nat :=
  let c0_i32_36 : BitVec 32 := 0#32
  let c1_i32_38 : BitVec 32 := 1#32
  let arg14 : BitVec 32 := Scf.iv c0_i32_36 c1_i32_38 k0_t4
  let c16_i32_155 : BitVec 32 := 16#32
  let v385 : BitVec 32 := Scalar.muli arg14 c16_i32_155
  let v386 : BitVec 32 := Scalar.addi v385 c0_i32_156
  let v387 : Index := Scalar.indexCast v386
  let c16_157 : Index := 16#32
  ![v387.toNat, 16]
def k0_off26 (k0_t4 : Fin k0_t4_loop.trips) (c0_i32_158 : BitVec 32) : Fin 2 → Nat :=
  let c0_i32_36 : BitVec 32 := 0#32
  let c1_i32_38 : BitVec 32 := 1#32
  let arg14 : BitVec 32 := Scf.iv c0_i32_36 c1_i32_38 k0_t4
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c16_160 : Index := 16#32
  ![v392.toNat, 16]
def k0_off27 (v31 : BitVec 32) : Fin 2 → Nat :=
  let v73 : Index := Scalar.indexCast v31
  let c16 : Index := 16#32
  ![v73.toNat, 16]
@[reducible] def k0_t5_loop : Scf.Loop 32 :=
  let c0_i32_44 : BitVec 32 := 0#32
  let c5_i32_45 : BitVec 32 := 5#32
  let v92 : BitVec 32 := Scalar.addi c0_i32_44 c5_i32_45
  let c1_i32_46 : BitVec 32 := 1#32
  ⟨c0_i32_44, v92, c1_i32_46⟩
def k0_off28 (k0_t5 : Fin k0_t5_loop.trips) (c0_i32_156 : BitVec 32) : Fin 2 → Nat :=
  let c0_i32_44 : BitVec 32 := 0#32
  let c1_i32_46 : BitVec 32 := 1#32
  let arg14 : BitVec 32 := Scf.iv c0_i32_44 c1_i32_46 k0_t5
  let c16_i32_155 : BitVec 32 := 16#32
  let v385 : BitVec 32 := Scalar.muli arg14 c16_i32_155
  let v386 : BitVec 32 := Scalar.addi v385 c0_i32_156
  let v387 : Index := Scalar.indexCast v386
  let c32_157 : Index := 32#32
  ![v387.toNat, 32]
def k0_off29 (k0_t5 : Fin k0_t5_loop.trips) (c0_i32_158 : BitVec 32) : Fin 2 → Nat :=
  let c0_i32_44 : BitVec 32 := 0#32
  let c1_i32_46 : BitVec 32 := 1#32
  let arg14 : BitVec 32 := Scf.iv c0_i32_44 c1_i32_46 k0_t5
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c32_160 : Index := 32#32
  ![v392.toNat, 32]
def k0_off30 (v31 : BitVec 32) : Fin 2 → Nat :=
  let v94 : Index := Scalar.indexCast v31
  let c32 : Index := 32#32
  ![v94.toNat, 32]
@[reducible] def k0_t6_loop : Scf.Loop 32 :=
  let c0_i32_52 : BitVec 32 := 0#32
  let c5_i32_53 : BitVec 32 := 5#32
  let v113 : BitVec 32 := Scalar.addi c0_i32_52 c5_i32_53
  let c1_i32_54 : BitVec 32 := 1#32
  ⟨c0_i32_52, v113, c1_i32_54⟩
def k0_off31 (k0_t6 : Fin k0_t6_loop.trips) (c0_i32_156 : BitVec 32) : Fin 2 → Nat :=
  let c0_i32_52 : BitVec 32 := 0#32
  let c1_i32_54 : BitVec 32 := 1#32
  let arg14 : BitVec 32 := Scf.iv c0_i32_52 c1_i32_54 k0_t6
  let c16_i32_155 : BitVec 32 := 16#32
  let v385 : BitVec 32 := Scalar.muli arg14 c16_i32_155
  let v386 : BitVec 32 := Scalar.addi v385 c0_i32_156
  let v387 : Index := Scalar.indexCast v386
  let c48_157 : Index := 48#32
  ![v387.toNat, 48]
def k0_off32 (k0_t6 : Fin k0_t6_loop.trips) (c0_i32_158 : BitVec 32) : Fin 2 → Nat :=
  let c0_i32_52 : BitVec 32 := 0#32
  let c1_i32_54 : BitVec 32 := 1#32
  let arg14 : BitVec 32 := Scf.iv c0_i32_52 c1_i32_54 k0_t6
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c48_160 : Index := 48#32
  ![v392.toNat, 48]
def k0_off33 (v31 : BitVec 32) : Fin 2 → Nat :=
  let v115 : Index := Scalar.indexCast v31
  let c48 : Index := 48#32
  ![v115.toNat, 48]
@[reducible] def k0_t7_loop : Scf.Loop 32 :=
  let c0_i32_60 : BitVec 32 := 0#32
  let c5_i32_61 : BitVec 32 := 5#32
  let v134 : BitVec 32 := Scalar.addi c0_i32_60 c5_i32_61
  let c1_i32_62 : BitVec 32 := 1#32
  ⟨c0_i32_60, v134, c1_i32_62⟩
def k0_off34 (k0_t7 : Fin k0_t7_loop.trips) (c0_i32_156 : BitVec 32) : Fin 2 → Nat :=
  let c0_i32_60 : BitVec 32 := 0#32
  let c1_i32_62 : BitVec 32 := 1#32
  let arg14 : BitVec 32 := Scf.iv c0_i32_60 c1_i32_62 k0_t7
  let c16_i32_155 : BitVec 32 := 16#32
  let v385 : BitVec 32 := Scalar.muli arg14 c16_i32_155
  let v386 : BitVec 32 := Scalar.addi v385 c0_i32_156
  let v387 : Index := Scalar.indexCast v386
  let c64_157 : Index := 64#32
  ![v387.toNat, 64]
def k0_off35 (k0_t7 : Fin k0_t7_loop.trips) (c0_i32_158 : BitVec 32) : Fin 2 → Nat :=
  let c0_i32_60 : BitVec 32 := 0#32
  let c1_i32_62 : BitVec 32 := 1#32
  let arg14 : BitVec 32 := Scf.iv c0_i32_60 c1_i32_62 k0_t7
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c64_160 : Index := 64#32
  ![v392.toNat, 64]
def k0_off36 (v31 : BitVec 32) : Fin 2 → Nat :=
  let v136 : Index := Scalar.indexCast v31
  let c64 : Index := 64#32
  ![v136.toNat, 64]
@[reducible] def k0_t8_loop : Scf.Loop 32 :=
  let c0_i32_68 : BitVec 32 := 0#32
  let c5_i32_69 : BitVec 32 := 5#32
  let v155 : BitVec 32 := Scalar.addi c0_i32_68 c5_i32_69
  let c1_i32_70 : BitVec 32 := 1#32
  ⟨c0_i32_68, v155, c1_i32_70⟩
def k0_off37 (k0_t8 : Fin k0_t8_loop.trips) (c0_i32_156 : BitVec 32) : Fin 2 → Nat :=
  let c0_i32_68 : BitVec 32 := 0#32
  let c1_i32_70 : BitVec 32 := 1#32
  let arg14 : BitVec 32 := Scf.iv c0_i32_68 c1_i32_70 k0_t8
  let c16_i32_155 : BitVec 32 := 16#32
  let v385 : BitVec 32 := Scalar.muli arg14 c16_i32_155
  let v386 : BitVec 32 := Scalar.addi v385 c0_i32_156
  let v387 : Index := Scalar.indexCast v386
  let c80_157 : Index := 80#32
  ![v387.toNat, 80]
def k0_off38 (k0_t8 : Fin k0_t8_loop.trips) (c0_i32_158 : BitVec 32) : Fin 2 → Nat :=
  let c0_i32_68 : BitVec 32 := 0#32
  let c1_i32_70 : BitVec 32 := 1#32
  let arg14 : BitVec 32 := Scf.iv c0_i32_68 c1_i32_70 k0_t8
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c80_160 : Index := 80#32
  ![v392.toNat, 80]
def k0_off39 (v31 : BitVec 32) : Fin 2 → Nat :=
  let v157 : Index := Scalar.indexCast v31
  let c80 : Index := 80#32
  ![v157.toNat, 80]
@[reducible] def k0_t9_loop : Scf.Loop 32 :=
  let c0_i32_76 : BitVec 32 := 0#32
  let c5_i32_77 : BitVec 32 := 5#32
  let v176 : BitVec 32 := Scalar.addi c0_i32_76 c5_i32_77
  let c1_i32_78 : BitVec 32 := 1#32
  ⟨c0_i32_76, v176, c1_i32_78⟩
def k0_off40 (k0_t9 : Fin k0_t9_loop.trips) (c0_i32_156 : BitVec 32) : Fin 2 → Nat :=
  let c0_i32_76 : BitVec 32 := 0#32
  let c1_i32_78 : BitVec 32 := 1#32
  let arg14 : BitVec 32 := Scf.iv c0_i32_76 c1_i32_78 k0_t9
  let c16_i32_155 : BitVec 32 := 16#32
  let v385 : BitVec 32 := Scalar.muli arg14 c16_i32_155
  let v386 : BitVec 32 := Scalar.addi v385 c0_i32_156
  let v387 : Index := Scalar.indexCast v386
  let c96_157 : Index := 96#32
  ![v387.toNat, 96]
def k0_off41 (k0_t9 : Fin k0_t9_loop.trips) (c0_i32_158 : BitVec 32) : Fin 2 → Nat :=
  let c0_i32_76 : BitVec 32 := 0#32
  let c1_i32_78 : BitVec 32 := 1#32
  let arg14 : BitVec 32 := Scf.iv c0_i32_76 c1_i32_78 k0_t9
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c96_160 : Index := 96#32
  ![v392.toNat, 96]
def k0_off42 (v31 : BitVec 32) : Fin 2 → Nat :=
  let v178 : Index := Scalar.indexCast v31
  let c96 : Index := 96#32
  ![v178.toNat, 96]
@[reducible] def k0_t10_loop : Scf.Loop 32 :=
  let c0_i32_84 : BitVec 32 := 0#32
  let c5_i32_85 : BitVec 32 := 5#32
  let v197 : BitVec 32 := Scalar.addi c0_i32_84 c5_i32_85
  let c1_i32_86 : BitVec 32 := 1#32
  ⟨c0_i32_84, v197, c1_i32_86⟩
def k0_off43 (k0_t10 : Fin k0_t10_loop.trips) (c0_i32_156 : BitVec 32) : Fin 2 → Nat :=
  let c0_i32_84 : BitVec 32 := 0#32
  let c1_i32_86 : BitVec 32 := 1#32
  let arg14 : BitVec 32 := Scf.iv c0_i32_84 c1_i32_86 k0_t10
  let c16_i32_155 : BitVec 32 := 16#32
  let v385 : BitVec 32 := Scalar.muli arg14 c16_i32_155
  let v386 : BitVec 32 := Scalar.addi v385 c0_i32_156
  let v387 : Index := Scalar.indexCast v386
  let c112_157 : Index := 112#32
  ![v387.toNat, 112]
def k0_off44 (k0_t10 : Fin k0_t10_loop.trips) (c0_i32_158 : BitVec 32) : Fin 2 → Nat :=
  let c0_i32_84 : BitVec 32 := 0#32
  let c1_i32_86 : BitVec 32 := 1#32
  let arg14 : BitVec 32 := Scf.iv c0_i32_84 c1_i32_86 k0_t10
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c112_160 : Index := 112#32
  ![v392.toNat, 112]
def k0_off45 (v31 : BitVec 32) : Fin 2 → Nat :=
  let v199 : Index := Scalar.indexCast v31
  let c112 : Index := 112#32
  ![v199.toNat, 112]
@[reducible] def k0_t11_loop : Scf.Loop 32 :=
  let c0_i32_92 : BitVec 32 := 0#32
  let c5_i32_93 : BitVec 32 := 5#32
  let v218 : BitVec 32 := Scalar.addi c0_i32_92 c5_i32_93
  let c1_i32_94 : BitVec 32 := 1#32
  ⟨c0_i32_92, v218, c1_i32_94⟩
def k0_off46 (k0_t11 : Fin k0_t11_loop.trips) (c0_i32_156 : BitVec 32) : Fin 2 → Nat :=
  let c0_i32_92 : BitVec 32 := 0#32
  let c1_i32_94 : BitVec 32 := 1#32
  let arg14 : BitVec 32 := Scf.iv c0_i32_92 c1_i32_94 k0_t11
  let c16_i32_155 : BitVec 32 := 16#32
  let v385 : BitVec 32 := Scalar.muli arg14 c16_i32_155
  let v386 : BitVec 32 := Scalar.addi v385 c0_i32_156
  let v387 : Index := Scalar.indexCast v386
  let c128_157 : Index := 128#32
  ![v387.toNat, 128]
def k0_off47 (k0_t11 : Fin k0_t11_loop.trips) (c0_i32_158 : BitVec 32) : Fin 2 → Nat :=
  let c0_i32_92 : BitVec 32 := 0#32
  let c1_i32_94 : BitVec 32 := 1#32
  let arg14 : BitVec 32 := Scf.iv c0_i32_92 c1_i32_94 k0_t11
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c128_160 : Index := 128#32
  ![v392.toNat, 128]
def k0_off48 (v31 : BitVec 32) : Fin 2 → Nat :=
  let v220 : Index := Scalar.indexCast v31
  let c128 : Index := 128#32
  ![v220.toNat, 128]
@[reducible] def k0_t12_loop : Scf.Loop 32 :=
  let c0_i32_100 : BitVec 32 := 0#32
  let c5_i32_101 : BitVec 32 := 5#32
  let v239 : BitVec 32 := Scalar.addi c0_i32_100 c5_i32_101
  let c1_i32_102 : BitVec 32 := 1#32
  ⟨c0_i32_100, v239, c1_i32_102⟩
def k0_off49 (k0_t12 : Fin k0_t12_loop.trips) (c0_i32_156 : BitVec 32) : Fin 2 → Nat :=
  let c0_i32_100 : BitVec 32 := 0#32
  let c1_i32_102 : BitVec 32 := 1#32
  let arg14 : BitVec 32 := Scf.iv c0_i32_100 c1_i32_102 k0_t12
  let c16_i32_155 : BitVec 32 := 16#32
  let v385 : BitVec 32 := Scalar.muli arg14 c16_i32_155
  let v386 : BitVec 32 := Scalar.addi v385 c0_i32_156
  let v387 : Index := Scalar.indexCast v386
  let c144_157 : Index := 144#32
  ![v387.toNat, 144]
def k0_off50 (k0_t12 : Fin k0_t12_loop.trips) (c0_i32_158 : BitVec 32) : Fin 2 → Nat :=
  let c0_i32_100 : BitVec 32 := 0#32
  let c1_i32_102 : BitVec 32 := 1#32
  let arg14 : BitVec 32 := Scf.iv c0_i32_100 c1_i32_102 k0_t12
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c144_160 : Index := 144#32
  ![v392.toNat, 144]
def k0_off51 (v31 : BitVec 32) : Fin 2 → Nat :=
  let v241 : Index := Scalar.indexCast v31
  let c144 : Index := 144#32
  ![v241.toNat, 144]
@[reducible] def k0_t13_loop : Scf.Loop 32 :=
  let c0_i32_108 : BitVec 32 := 0#32
  let c5_i32_109 : BitVec 32 := 5#32
  let v260 : BitVec 32 := Scalar.addi c0_i32_108 c5_i32_109
  let c1_i32_110 : BitVec 32 := 1#32
  ⟨c0_i32_108, v260, c1_i32_110⟩
def k0_off52 (k0_t13 : Fin k0_t13_loop.trips) (c0_i32_156 : BitVec 32) : Fin 2 → Nat :=
  let c0_i32_108 : BitVec 32 := 0#32
  let c1_i32_110 : BitVec 32 := 1#32
  let arg14 : BitVec 32 := Scf.iv c0_i32_108 c1_i32_110 k0_t13
  let c16_i32_155 : BitVec 32 := 16#32
  let v385 : BitVec 32 := Scalar.muli arg14 c16_i32_155
  let v386 : BitVec 32 := Scalar.addi v385 c0_i32_156
  let v387 : Index := Scalar.indexCast v386
  let c160_157 : Index := 160#32
  ![v387.toNat, 160]
def k0_off53 (k0_t13 : Fin k0_t13_loop.trips) (c0_i32_158 : BitVec 32) : Fin 2 → Nat :=
  let c0_i32_108 : BitVec 32 := 0#32
  let c1_i32_110 : BitVec 32 := 1#32
  let arg14 : BitVec 32 := Scf.iv c0_i32_108 c1_i32_110 k0_t13
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c160_160 : Index := 160#32
  ![v392.toNat, 160]
def k0_off54 (v31 : BitVec 32) : Fin 2 → Nat :=
  let v262 : Index := Scalar.indexCast v31
  let c160 : Index := 160#32
  ![v262.toNat, 160]
@[reducible] def k0_t14_loop : Scf.Loop 32 :=
  let c0_i32_116 : BitVec 32 := 0#32
  let c5_i32_117 : BitVec 32 := 5#32
  let v281 : BitVec 32 := Scalar.addi c0_i32_116 c5_i32_117
  let c1_i32_118 : BitVec 32 := 1#32
  ⟨c0_i32_116, v281, c1_i32_118⟩
def k0_off55 (k0_t14 : Fin k0_t14_loop.trips) (c0_i32_156 : BitVec 32) : Fin 2 → Nat :=
  let c0_i32_116 : BitVec 32 := 0#32
  let c1_i32_118 : BitVec 32 := 1#32
  let arg14 : BitVec 32 := Scf.iv c0_i32_116 c1_i32_118 k0_t14
  let c16_i32_155 : BitVec 32 := 16#32
  let v385 : BitVec 32 := Scalar.muli arg14 c16_i32_155
  let v386 : BitVec 32 := Scalar.addi v385 c0_i32_156
  let v387 : Index := Scalar.indexCast v386
  let c176_157 : Index := 176#32
  ![v387.toNat, 176]
def k0_off56 (k0_t14 : Fin k0_t14_loop.trips) (c0_i32_158 : BitVec 32) : Fin 2 → Nat :=
  let c0_i32_116 : BitVec 32 := 0#32
  let c1_i32_118 : BitVec 32 := 1#32
  let arg14 : BitVec 32 := Scf.iv c0_i32_116 c1_i32_118 k0_t14
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c176_160 : Index := 176#32
  ![v392.toNat, 176]
def k0_off57 (v31 : BitVec 32) : Fin 2 → Nat :=
  let v283 : Index := Scalar.indexCast v31
  let c176 : Index := 176#32
  ![v283.toNat, 176]
@[reducible] def k0_t15_loop : Scf.Loop 32 :=
  let c0_i32_124 : BitVec 32 := 0#32
  let c5_i32_125 : BitVec 32 := 5#32
  let v302 : BitVec 32 := Scalar.addi c0_i32_124 c5_i32_125
  let c1_i32_126 : BitVec 32 := 1#32
  ⟨c0_i32_124, v302, c1_i32_126⟩
def k0_off58 (k0_t15 : Fin k0_t15_loop.trips) (c0_i32_156 : BitVec 32) : Fin 2 → Nat :=
  let c0_i32_124 : BitVec 32 := 0#32
  let c1_i32_126 : BitVec 32 := 1#32
  let arg14 : BitVec 32 := Scf.iv c0_i32_124 c1_i32_126 k0_t15
  let c16_i32_155 : BitVec 32 := 16#32
  let v385 : BitVec 32 := Scalar.muli arg14 c16_i32_155
  let v386 : BitVec 32 := Scalar.addi v385 c0_i32_156
  let v387 : Index := Scalar.indexCast v386
  let c192_157 : Index := 192#32
  ![v387.toNat, 192]
def k0_off59 (k0_t15 : Fin k0_t15_loop.trips) (c0_i32_158 : BitVec 32) : Fin 2 → Nat :=
  let c0_i32_124 : BitVec 32 := 0#32
  let c1_i32_126 : BitVec 32 := 1#32
  let arg14 : BitVec 32 := Scf.iv c0_i32_124 c1_i32_126 k0_t15
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c192_160 : Index := 192#32
  ![v392.toNat, 192]
def k0_off60 (v31 : BitVec 32) : Fin 2 → Nat :=
  let v304 : Index := Scalar.indexCast v31
  let c192 : Index := 192#32
  ![v304.toNat, 192]
@[reducible] def k0_t16_loop : Scf.Loop 32 :=
  let c0_i32_132 : BitVec 32 := 0#32
  let c5_i32_133 : BitVec 32 := 5#32
  let v323 : BitVec 32 := Scalar.addi c0_i32_132 c5_i32_133
  let c1_i32_134 : BitVec 32 := 1#32
  ⟨c0_i32_132, v323, c1_i32_134⟩
def k0_off61 (k0_t16 : Fin k0_t16_loop.trips) (c0_i32_156 : BitVec 32) : Fin 2 → Nat :=
  let c0_i32_132 : BitVec 32 := 0#32
  let c1_i32_134 : BitVec 32 := 1#32
  let arg14 : BitVec 32 := Scf.iv c0_i32_132 c1_i32_134 k0_t16
  let c16_i32_155 : BitVec 32 := 16#32
  let v385 : BitVec 32 := Scalar.muli arg14 c16_i32_155
  let v386 : BitVec 32 := Scalar.addi v385 c0_i32_156
  let v387 : Index := Scalar.indexCast v386
  let c208_157 : Index := 208#32
  ![v387.toNat, 208]
def k0_off62 (k0_t16 : Fin k0_t16_loop.trips) (c0_i32_158 : BitVec 32) : Fin 2 → Nat :=
  let c0_i32_132 : BitVec 32 := 0#32
  let c1_i32_134 : BitVec 32 := 1#32
  let arg14 : BitVec 32 := Scf.iv c0_i32_132 c1_i32_134 k0_t16
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c208_160 : Index := 208#32
  ![v392.toNat, 208]
def k0_off63 (v31 : BitVec 32) : Fin 2 → Nat :=
  let v325 : Index := Scalar.indexCast v31
  let c208 : Index := 208#32
  ![v325.toNat, 208]
@[reducible] def k0_t17_loop : Scf.Loop 32 :=
  let c0_i32_140 : BitVec 32 := 0#32
  let c5_i32_141 : BitVec 32 := 5#32
  let v344 : BitVec 32 := Scalar.addi c0_i32_140 c5_i32_141
  let c1_i32_142 : BitVec 32 := 1#32
  ⟨c0_i32_140, v344, c1_i32_142⟩
def k0_off64 (k0_t17 : Fin k0_t17_loop.trips) (c0_i32_156 : BitVec 32) : Fin 2 → Nat :=
  let c0_i32_140 : BitVec 32 := 0#32
  let c1_i32_142 : BitVec 32 := 1#32
  let arg14 : BitVec 32 := Scf.iv c0_i32_140 c1_i32_142 k0_t17
  let c16_i32_155 : BitVec 32 := 16#32
  let v385 : BitVec 32 := Scalar.muli arg14 c16_i32_155
  let v386 : BitVec 32 := Scalar.addi v385 c0_i32_156
  let v387 : Index := Scalar.indexCast v386
  let c224_157 : Index := 224#32
  ![v387.toNat, 224]
def k0_off65 (k0_t17 : Fin k0_t17_loop.trips) (c0_i32_158 : BitVec 32) : Fin 2 → Nat :=
  let c0_i32_140 : BitVec 32 := 0#32
  let c1_i32_142 : BitVec 32 := 1#32
  let arg14 : BitVec 32 := Scf.iv c0_i32_140 c1_i32_142 k0_t17
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c224_160 : Index := 224#32
  ![v392.toNat, 224]
def k0_off66 (v31 : BitVec 32) : Fin 2 → Nat :=
  let v346 : Index := Scalar.indexCast v31
  let c224 : Index := 224#32
  ![v346.toNat, 224]
@[reducible] def k0_t18_loop : Scf.Loop 32 :=
  let c0_i32_148 : BitVec 32 := 0#32
  let c5_i32_149 : BitVec 32 := 5#32
  let v365 : BitVec 32 := Scalar.addi c0_i32_148 c5_i32_149
  let c1_i32_150 : BitVec 32 := 1#32
  ⟨c0_i32_148, v365, c1_i32_150⟩
def k0_off67 (k0_t18 : Fin k0_t18_loop.trips) (c0_i32_156 : BitVec 32) : Fin 2 → Nat :=
  let c0_i32_148 : BitVec 32 := 0#32
  let c1_i32_150 : BitVec 32 := 1#32
  let arg14 : BitVec 32 := Scf.iv c0_i32_148 c1_i32_150 k0_t18
  let c16_i32_155 : BitVec 32 := 16#32
  let v385 : BitVec 32 := Scalar.muli arg14 c16_i32_155
  let v386 : BitVec 32 := Scalar.addi v385 c0_i32_156
  let v387 : Index := Scalar.indexCast v386
  let c240_157 : Index := 240#32
  ![v387.toNat, 240]
def k0_off68 (k0_t18 : Fin k0_t18_loop.trips) (c0_i32_158 : BitVec 32) : Fin 2 → Nat :=
  let c0_i32_148 : BitVec 32 := 0#32
  let c1_i32_150 : BitVec 32 := 1#32
  let arg14 : BitVec 32 := Scf.iv c0_i32_148 c1_i32_150 k0_t18
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c240_160 : Index := 240#32
  ![v392.toNat, 240]
def k0_off69 (v31 : BitVec 32) : Fin 2 → Nat :=
  let v367 : Index := Scalar.indexCast v31
  let c240 : Index := 240#32
  ![v367.toNat, 240]

def k0_chk1 (k0_t2 : Fin k0_t2_loop.trips) (v31 : BitVec 32) (v38 : BitVec 32) : Prop :=
  (∀ (k0_h1 : k0_cond1 k0_t2 = 1#1), ∀ (k0_h2 : k0_cond2 v31 v38 = 1#1), ∀ a, (k0_off24 v31) a + S1x16.size a ≤ S64x256.size a) ∧
  (∀ (k0_h1 : k0_cond1 k0_t2 = 1#1), ∀ (k0_h2 : k0_cond2 v31 v38 = 1#1), ∀ a, (k0_off27 v31) a + S1x16.size a ≤ S64x256.size a) ∧
  (∀ (k0_h1 : k0_cond1 k0_t2 = 1#1), ∀ (k0_h2 : k0_cond2 v31 v38 = 1#1), ∀ a, (k0_off30 v31) a + S1x16.size a ≤ S64x256.size a) ∧
  (∀ (k0_h1 : k0_cond1 k0_t2 = 1#1), ∀ (k0_h2 : k0_cond2 v31 v38 = 1#1), ∀ a, (k0_off33 v31) a + S1x16.size a ≤ S64x256.size a) ∧
  (∀ (k0_h1 : k0_cond1 k0_t2 = 1#1), ∀ (k0_h2 : k0_cond2 v31 v38 = 1#1), ∀ a, (k0_off36 v31) a + S1x16.size a ≤ S64x256.size a) ∧
  (∀ (k0_h1 : k0_cond1 k0_t2 = 1#1), ∀ (k0_h2 : k0_cond2 v31 v38 = 1#1), ∀ a, (k0_off39 v31) a + S1x16.size a ≤ S64x256.size a) ∧
  (∀ (k0_h1 : k0_cond1 k0_t2 = 1#1), ∀ (k0_h2 : k0_cond2 v31 v38 = 1#1), ∀ a, (k0_off42 v31) a + S1x16.size a ≤ S64x256.size a) ∧
  (∀ (k0_h1 : k0_cond1 k0_t2 = 1#1), ∀ (k0_h2 : k0_cond2 v31 v38 = 1#1), ∀ a, (k0_off45 v31) a + S1x16.size a ≤ S64x256.size a) ∧
  (∀ (k0_h1 : k0_cond1 k0_t2 = 1#1), ∀ (k0_h2 : k0_cond2 v31 v38 = 1#1), ∀ a, (k0_off48 v31) a + S1x16.size a ≤ S64x256.size a) ∧
  (∀ (k0_h1 : k0_cond1 k0_t2 = 1#1), ∀ (k0_h2 : k0_cond2 v31 v38 = 1#1), ∀ a, (k0_off51 v31) a + S1x16.size a ≤ S64x256.size a) ∧
  (∀ (k0_h1 : k0_cond1 k0_t2 = 1#1), ∀ (k0_h2 : k0_cond2 v31 v38 = 1#1), ∀ a, (k0_off54 v31) a + S1x16.size a ≤ S64x256.size a) ∧
  (∀ (k0_h1 : k0_cond1 k0_t2 = 1#1), ∀ (k0_h2 : k0_cond2 v31 v38 = 1#1), ∀ a, (k0_off57 v31) a + S1x16.size a ≤ S64x256.size a) ∧
  (∀ (k0_h1 : k0_cond1 k0_t2 = 1#1), ∀ (k0_h2 : k0_cond2 v31 v38 = 1#1), ∀ a, (k0_off60 v31) a + S1x16.size a ≤ S64x256.size a) ∧
  (∀ (k0_h1 : k0_cond1 k0_t2 = 1#1), ∀ (k0_h2 : k0_cond2 v31 v38 = 1#1), ∀ a, (k0_off63 v31) a + S1x16.size a ≤ S64x256.size a) ∧
  (∀ (k0_h1 : k0_cond1 k0_t2 = 1#1), ∀ (k0_h2 : k0_cond2 v31 v38 = 1#1), ∀ a, (k0_off66 v31) a + S1x16.size a ≤ S64x256.size a) ∧
  (∀ (k0_h1 : k0_cond1 k0_t2 = 1#1), ∀ (k0_h2 : k0_cond2 v31 v38 = 1#1), ∀ a, (k0_off69 v31) a + S1x16.size a ≤ S64x256.size a)
theorem k0_off24_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off24 v31) a + S1x16.size a ≤ S64x256.size a := fun k0_t2 v31 v38 k0_hw1 k0_h1 k0_h2 => k0_hw1.1 k0_h1 k0_h2
theorem k0_off27_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off27 v31) a + S1x16.size a ≤ S64x256.size a := fun k0_t2 v31 v38 k0_hw1 k0_h1 k0_h2 => k0_hw1.2.1 k0_h1 k0_h2
theorem k0_off30_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off30 v31) a + S1x16.size a ≤ S64x256.size a := fun k0_t2 v31 v38 k0_hw1 k0_h1 k0_h2 => k0_hw1.2.2.1 k0_h1 k0_h2
theorem k0_off33_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off33 v31) a + S1x16.size a ≤ S64x256.size a := fun k0_t2 v31 v38 k0_hw1 k0_h1 k0_h2 => k0_hw1.2.2.2.1 k0_h1 k0_h2
theorem k0_off36_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off36 v31) a + S1x16.size a ≤ S64x256.size a := fun k0_t2 v31 v38 k0_hw1 k0_h1 k0_h2 => k0_hw1.2.2.2.2.1 k0_h1 k0_h2
theorem k0_off39_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off39 v31) a + S1x16.size a ≤ S64x256.size a := fun k0_t2 v31 v38 k0_hw1 k0_h1 k0_h2 => k0_hw1.2.2.2.2.2.1 k0_h1 k0_h2
theorem k0_off42_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off42 v31) a + S1x16.size a ≤ S64x256.size a := fun k0_t2 v31 v38 k0_hw1 k0_h1 k0_h2 => k0_hw1.2.2.2.2.2.2.1 k0_h1 k0_h2
theorem k0_off45_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off45 v31) a + S1x16.size a ≤ S64x256.size a := fun k0_t2 v31 v38 k0_hw1 k0_h1 k0_h2 => k0_hw1.2.2.2.2.2.2.2.1 k0_h1 k0_h2
theorem k0_off48_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off48 v31) a + S1x16.size a ≤ S64x256.size a := fun k0_t2 v31 v38 k0_hw1 k0_h1 k0_h2 => k0_hw1.2.2.2.2.2.2.2.2.1 k0_h1 k0_h2
theorem k0_off51_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off51 v31) a + S1x16.size a ≤ S64x256.size a := fun k0_t2 v31 v38 k0_hw1 k0_h1 k0_h2 => k0_hw1.2.2.2.2.2.2.2.2.2.1 k0_h1 k0_h2
theorem k0_off54_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off54 v31) a + S1x16.size a ≤ S64x256.size a := fun k0_t2 v31 v38 k0_hw1 k0_h1 k0_h2 => k0_hw1.2.2.2.2.2.2.2.2.2.2.1 k0_h1 k0_h2
theorem k0_off57_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off57 v31) a + S1x16.size a ≤ S64x256.size a := fun k0_t2 v31 v38 k0_hw1 k0_h1 k0_h2 => k0_hw1.2.2.2.2.2.2.2.2.2.2.2.1 k0_h1 k0_h2
theorem k0_off60_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off60 v31) a + S1x16.size a ≤ S64x256.size a := fun k0_t2 v31 v38 k0_hw1 k0_h1 k0_h2 => k0_hw1.2.2.2.2.2.2.2.2.2.2.2.2.1 k0_h1 k0_h2
theorem k0_off63_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off63 v31) a + S1x16.size a ≤ S64x256.size a := fun k0_t2 v31 v38 k0_hw1 k0_h1 k0_h2 => k0_hw1.2.2.2.2.2.2.2.2.2.2.2.2.2.1 k0_h1 k0_h2
theorem k0_off66_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off66 v31) a + S1x16.size a ≤ S64x256.size a := fun k0_t2 v31 v38 k0_hw1 k0_h1 k0_h2 => k0_hw1.2.2.2.2.2.2.2.2.2.2.2.2.2.2.1 k0_h1 k0_h2
theorem k0_off69_inb : ∀ (k0_t2 : Fin k0_t2_loop.trips) (v31 : BitVec 32) (v38 : BitVec 32) (k0_hw1 : k0_chk1 k0_t2 v31 v38), ∀ (k0_h1 : k0_cond1 k0_t2 = 1#1), ∀ (k0_h2 : k0_cond2 v31 v38 = 1#1), ∀ a, (k0_off69 v31) a + S1x16.size a ≤ S64x256.size a := fun k0_t2 v31 v38 k0_hw1 k0_h1 k0_h2 => k0_hw1.2.2.2.2.2.2.2.2.2.2.2.2.2.2.2 k0_h1 k0_h2

@[reducible] def k0_t19_loop : Scf.Loop 32 :=
  let c0_i32_29 : BitVec 32 := 0#32
  let c5_i32_30 : BitVec 32 := 5#32
  let v49 : BitVec 32 := Scalar.addi c0_i32_29 c5_i32_30
  let c1_i32_31 : BitVec 32 := 1#32
  ⟨c0_i32_29, v49, c1_i32_31⟩
def k0_off70 (k0_t2 : Fin k0_t2_loop.trips) (k0_t19 : Fin k0_t19_loop.trips) : Fin 1 → Nat :=
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c80_i32_21 : BitVec 32 := 80#32
  let v26 : BitVec 32 := Scalar.muli v13 c80_i32_21
  let c0_i32_29 : BitVec 32 := 0#32
  let c1_i32_31 : BitVec 32 := 1#32
  let arg14 : BitVec 32 := Scf.iv c0_i32_29 c1_i32_31 k0_t19
  let c16_i32_33 : BitVec 32 := 16#32
  let v50 : BitVec 32 := Scalar.muli arg14 c16_i32_33
  let v51 : BitVec 32 := Scalar.addi v26 v50
  let v52 : Index := Scalar.indexCast v51
  ![v52.toNat]
@[reducible] def k0_t20_loop : Scf.Loop 32 :=
  let c0_i32_37 : BitVec 32 := 0#32
  let c16_i32_38 : BitVec 32 := 16#32
  let v59 : BitVec 32 := Scalar.addi c0_i32_37 c16_i32_38
  let c1_i32_39 : BitVec 32 := 1#32
  ⟨c0_i32_37, v59, c1_i32_39⟩
def k0_mult1 (k0_t20 : Fin k0_t20_loop.trips) : BitVec 32 :=
  let c0_i32_37 : BitVec 32 := 0#32
  let c1_i32_39 : BitVec 32 := 1#32
  let arg15 : BitVec 32 := Scf.iv c0_i32_37 c1_i32_39 k0_t20
  let c16_i32_135 : BitVec 32 := 16#32
  let v135 : BitVec 32 := Scalar.muli arg15 c16_i32_135
  v135
def k0_off71 (k0_t19 : Fin k0_t19_loop.trips) (k0_t20 : Fin k0_t20_loop.trips) : Fin 2 → Nat :=
  let c0_i32_29 : BitVec 32 := 0#32
  let c1_i32_31 : BitVec 32 := 1#32
  let arg14 : BitVec 32 := Scf.iv c0_i32_29 c1_i32_31 k0_t19
  let c16_i32_34 : BitVec 32 := 16#32
  let v57 : BitVec 32 := Scalar.muli arg14 c16_i32_34
  let c0_i32_35 : BitVec 32 := 0#32
  let v58 : BitVec 32 := Scalar.addi v57 c0_i32_35
  let v137 : Index := Scalar.indexCast v58
  let c0_i32_37 : BitVec 32 := 0#32
  let c1_i32_39 : BitVec 32 := 1#32
  let arg15 : BitVec 32 := Scf.iv c0_i32_37 c1_i32_39 k0_t20
  let c16_i32_135 : BitVec 32 := 16#32
  let v135 : BitVec 32 := Scalar.muli arg15 c16_i32_135
  let v136 : BitVec 32 := v135
  let v138 : Index := Scalar.indexCast v136
  ![v137.toNat, v138.toNat]
def k0_off72 (v56 : BitVec 32) (k0_t20 : Fin k0_t20_loop.trips) : Fin 2 → Nat :=
  let v141 : Index := Scalar.indexCast v56
  let c0_i32_37 : BitVec 32 := 0#32
  let c1_i32_39 : BitVec 32 := 1#32
  let arg15 : BitVec 32 := Scf.iv c0_i32_37 c1_i32_39 k0_t20
  let c16_i32_135 : BitVec 32 := 16#32
  let v135 : BitVec 32 := Scalar.muli arg15 c16_i32_135
  let v136 : BitVec 32 := v135
  let v142 : Index := Scalar.indexCast v136
  ![v141.toNat, v142.toNat]
def k0_cond3 (v31 : BitVec 32) (v38 : BitVec 32) : BitVec 1 :=
  let v42 : BitVec 1 := Scalar.cmpi .ne v31 v38
  let v43 : BitVec 32 := Scalar.extui v42
  let c0_i32_24 : BitVec 32 := 0#32
  let v44 : BitVec 1 := Scalar.cmpi .ne v43 c0_i32_24
  v44

def k0_chk2 (k0_t2 : Fin k0_t2_loop.trips) (v31 : BitVec 32) (v38 : BitVec 32) (v56 : BitVec 32) : Prop :=
  (∀ k0_t20 : Fin k0_t20_loop.trips, ∀ (k0_h1 : k0_cond1 k0_t2 = 1#1), ∀ (k0_h3 : k0_cond3 v31 v38 = 1#1), ∀ a, (k0_off72 v56 k0_t20) a + S1x16.size a ≤ S64x256.size a)
theorem k0_off72_inb : ∀ (k0_t2 : Fin k0_t2_loop.trips) (v31 : BitVec 32) (v38 : BitVec 32) (v56 : BitVec 32) (k0_hw2 : k0_chk2 k0_t2 v31 v38 v56) (k0_t20 : Fin k0_t20_loop.trips), ∀ (k0_h1 : k0_cond1 k0_t2 = 1#1), ∀ (k0_h3 : k0_cond3 v31 v38 = 1#1), ∀ a, (k0_off72 v56 k0_t20) a + S1x16.size a ≤ S64x256.size a := fun k0_t2 v31 v38 v56 k0_hw2 k0_t20 k0_h1 k0_h3 => k0_hw2 k0_t20 k0_h1 k0_h3

@[reducible] def k0_t21_loop : Scf.Loop 32 :=
  let c0_i32_44 : BitVec 32 := 0#32
  let c16_i32_45 : BitVec 32 := 16#32
  let v64 : BitVec 32 := Scalar.addi c0_i32_44 c16_i32_45
  let c1_i32_46 : BitVec 32 := 1#32
  ⟨c0_i32_44, v64, c1_i32_46⟩
def k0_mult2 (k0_t21 : Fin k0_t21_loop.trips) : BitVec 32 :=
  let c0_i32_44 : BitVec 32 := 0#32
  let c1_i32_46 : BitVec 32 := 1#32
  let arg15 : BitVec 32 := Scf.iv c0_i32_44 c1_i32_46 k0_t21
  let c16_i32_135 : BitVec 32 := 16#32
  let v135 : BitVec 32 := Scalar.muli arg15 c16_i32_135
  v135
def k0_off73 (k0_t19 : Fin k0_t19_loop.trips) (k0_t21 : Fin k0_t21_loop.trips) : Fin 2 → Nat :=
  let c0_i32_29 : BitVec 32 := 0#32
  let c1_i32_31 : BitVec 32 := 1#32
  let arg14 : BitVec 32 := Scf.iv c0_i32_29 c1_i32_31 k0_t19
  let c16_i32_41 : BitVec 32 := 16#32
  let v62 : BitVec 32 := Scalar.muli arg14 c16_i32_41
  let c1_i32_42 : BitVec 32 := 1#32
  let v63 : BitVec 32 := Scalar.addi v62 c1_i32_42
  let v137 : Index := Scalar.indexCast v63
  let c0_i32_44 : BitVec 32 := 0#32
  let c1_i32_46 : BitVec 32 := 1#32
  let arg15 : BitVec 32 := Scf.iv c0_i32_44 c1_i32_46 k0_t21
  let c16_i32_135 : BitVec 32 := 16#32
  let v135 : BitVec 32 := Scalar.muli arg15 c16_i32_135
  let v136 : BitVec 32 := v135
  let v138 : Index := Scalar.indexCast v136
  ![v137.toNat, v138.toNat]
def k0_off74 (v61 : BitVec 32) (k0_t21 : Fin k0_t21_loop.trips) : Fin 2 → Nat :=
  let v141 : Index := Scalar.indexCast v61
  let c0_i32_44 : BitVec 32 := 0#32
  let c1_i32_46 : BitVec 32 := 1#32
  let arg15 : BitVec 32 := Scf.iv c0_i32_44 c1_i32_46 k0_t21
  let c16_i32_135 : BitVec 32 := 16#32
  let v135 : BitVec 32 := Scalar.muli arg15 c16_i32_135
  let v136 : BitVec 32 := v135
  let v142 : Index := Scalar.indexCast v136
  ![v141.toNat, v142.toNat]

def k0_chk3 (k0_t2 : Fin k0_t2_loop.trips) (v31 : BitVec 32) (v38 : BitVec 32) (v61 : BitVec 32) : Prop :=
  (∀ k0_t21 : Fin k0_t21_loop.trips, ∀ (k0_h1 : k0_cond1 k0_t2 = 1#1), ∀ (k0_h3 : k0_cond3 v31 v38 = 1#1), ∀ a, (k0_off74 v61 k0_t21) a + S1x16.size a ≤ S64x256.size a)
theorem k0_off74_inb : ∀ (k0_t2 : Fin k0_t2_loop.trips) (v31 : BitVec 32) (v38 : BitVec 32) (v61 : BitVec 32) (k0_hw3 : k0_chk3 k0_t2 v31 v38 v61) (k0_t21 : Fin k0_t21_loop.trips), ∀ (k0_h1 : k0_cond1 k0_t2 = 1#1), ∀ (k0_h3 : k0_cond3 v31 v38 = 1#1), ∀ a, (k0_off74 v61 k0_t21) a + S1x16.size a ≤ S64x256.size a := fun k0_t2 v31 v38 v61 k0_hw3 k0_t21 k0_h1 k0_h3 => k0_hw3 k0_t21 k0_h1 k0_h3

@[reducible] def k0_t22_loop : Scf.Loop 32 :=
  let c0_i32_51 : BitVec 32 := 0#32
  let c16_i32_52 : BitVec 32 := 16#32
  let v69 : BitVec 32 := Scalar.addi c0_i32_51 c16_i32_52
  let c1_i32_53 : BitVec 32 := 1#32
  ⟨c0_i32_51, v69, c1_i32_53⟩
def k0_mult3 (k0_t22 : Fin k0_t22_loop.trips) : BitVec 32 :=
  let c0_i32_51 : BitVec 32 := 0#32
  let c1_i32_53 : BitVec 32 := 1#32
  let arg15 : BitVec 32 := Scf.iv c0_i32_51 c1_i32_53 k0_t22
  let c16_i32_135 : BitVec 32 := 16#32
  let v135 : BitVec 32 := Scalar.muli arg15 c16_i32_135
  v135
def k0_off75 (k0_t19 : Fin k0_t19_loop.trips) (k0_t22 : Fin k0_t22_loop.trips) : Fin 2 → Nat :=
  let c0_i32_29 : BitVec 32 := 0#32
  let c1_i32_31 : BitVec 32 := 1#32
  let arg14 : BitVec 32 := Scf.iv c0_i32_29 c1_i32_31 k0_t19
  let c16_i32_48 : BitVec 32 := 16#32
  let v67 : BitVec 32 := Scalar.muli arg14 c16_i32_48
  let c2_i32_49 : BitVec 32 := 2#32
  let v68 : BitVec 32 := Scalar.addi v67 c2_i32_49
  let v137 : Index := Scalar.indexCast v68
  let c0_i32_51 : BitVec 32 := 0#32
  let c1_i32_53 : BitVec 32 := 1#32
  let arg15 : BitVec 32 := Scf.iv c0_i32_51 c1_i32_53 k0_t22
  let c16_i32_135 : BitVec 32 := 16#32
  let v135 : BitVec 32 := Scalar.muli arg15 c16_i32_135
  let v136 : BitVec 32 := v135
  let v138 : Index := Scalar.indexCast v136
  ![v137.toNat, v138.toNat]
def k0_off76 (v66 : BitVec 32) (k0_t22 : Fin k0_t22_loop.trips) : Fin 2 → Nat :=
  let v141 : Index := Scalar.indexCast v66
  let c0_i32_51 : BitVec 32 := 0#32
  let c1_i32_53 : BitVec 32 := 1#32
  let arg15 : BitVec 32 := Scf.iv c0_i32_51 c1_i32_53 k0_t22
  let c16_i32_135 : BitVec 32 := 16#32
  let v135 : BitVec 32 := Scalar.muli arg15 c16_i32_135
  let v136 : BitVec 32 := v135
  let v142 : Index := Scalar.indexCast v136
  ![v141.toNat, v142.toNat]

def k0_chk4 (k0_t2 : Fin k0_t2_loop.trips) (v31 : BitVec 32) (v38 : BitVec 32) (v66 : BitVec 32) : Prop :=
  (∀ k0_t22 : Fin k0_t22_loop.trips, ∀ (k0_h1 : k0_cond1 k0_t2 = 1#1), ∀ (k0_h3 : k0_cond3 v31 v38 = 1#1), ∀ a, (k0_off76 v66 k0_t22) a + S1x16.size a ≤ S64x256.size a)
theorem k0_off76_inb : ∀ (k0_t2 : Fin k0_t2_loop.trips) (v31 : BitVec 32) (v38 : BitVec 32) (v66 : BitVec 32) (k0_hw4 : k0_chk4 k0_t2 v31 v38 v66) (k0_t22 : Fin k0_t22_loop.trips), ∀ (k0_h1 : k0_cond1 k0_t2 = 1#1), ∀ (k0_h3 : k0_cond3 v31 v38 = 1#1), ∀ a, (k0_off76 v66 k0_t22) a + S1x16.size a ≤ S64x256.size a := fun k0_t2 v31 v38 v66 k0_hw4 k0_t22 k0_h1 k0_h3 => k0_hw4 k0_t22 k0_h1 k0_h3

@[reducible] def k0_t23_loop : Scf.Loop 32 :=
  let c0_i32_58 : BitVec 32 := 0#32
  let c16_i32_59 : BitVec 32 := 16#32
  let v74 : BitVec 32 := Scalar.addi c0_i32_58 c16_i32_59
  let c1_i32_60 : BitVec 32 := 1#32
  ⟨c0_i32_58, v74, c1_i32_60⟩
def k0_mult4 (k0_t23 : Fin k0_t23_loop.trips) : BitVec 32 :=
  let c0_i32_58 : BitVec 32 := 0#32
  let c1_i32_60 : BitVec 32 := 1#32
  let arg15 : BitVec 32 := Scf.iv c0_i32_58 c1_i32_60 k0_t23
  let c16_i32_135 : BitVec 32 := 16#32
  let v135 : BitVec 32 := Scalar.muli arg15 c16_i32_135
  v135
def k0_off77 (k0_t19 : Fin k0_t19_loop.trips) (k0_t23 : Fin k0_t23_loop.trips) : Fin 2 → Nat :=
  let c0_i32_29 : BitVec 32 := 0#32
  let c1_i32_31 : BitVec 32 := 1#32
  let arg14 : BitVec 32 := Scf.iv c0_i32_29 c1_i32_31 k0_t19
  let c16_i32_55 : BitVec 32 := 16#32
  let v72 : BitVec 32 := Scalar.muli arg14 c16_i32_55
  let c3_i32_56 : BitVec 32 := 3#32
  let v73 : BitVec 32 := Scalar.addi v72 c3_i32_56
  let v137 : Index := Scalar.indexCast v73
  let c0_i32_58 : BitVec 32 := 0#32
  let c1_i32_60 : BitVec 32 := 1#32
  let arg15 : BitVec 32 := Scf.iv c0_i32_58 c1_i32_60 k0_t23
  let c16_i32_135 : BitVec 32 := 16#32
  let v135 : BitVec 32 := Scalar.muli arg15 c16_i32_135
  let v136 : BitVec 32 := v135
  let v138 : Index := Scalar.indexCast v136
  ![v137.toNat, v138.toNat]
def k0_off78 (v71 : BitVec 32) (k0_t23 : Fin k0_t23_loop.trips) : Fin 2 → Nat :=
  let v141 : Index := Scalar.indexCast v71
  let c0_i32_58 : BitVec 32 := 0#32
  let c1_i32_60 : BitVec 32 := 1#32
  let arg15 : BitVec 32 := Scf.iv c0_i32_58 c1_i32_60 k0_t23
  let c16_i32_135 : BitVec 32 := 16#32
  let v135 : BitVec 32 := Scalar.muli arg15 c16_i32_135
  let v136 : BitVec 32 := v135
  let v142 : Index := Scalar.indexCast v136
  ![v141.toNat, v142.toNat]

def k0_chk5 (k0_t2 : Fin k0_t2_loop.trips) (v31 : BitVec 32) (v38 : BitVec 32) (v71 : BitVec 32) : Prop :=
  (∀ k0_t23 : Fin k0_t23_loop.trips, ∀ (k0_h1 : k0_cond1 k0_t2 = 1#1), ∀ (k0_h3 : k0_cond3 v31 v38 = 1#1), ∀ a, (k0_off78 v71 k0_t23) a + S1x16.size a ≤ S64x256.size a)
theorem k0_off78_inb : ∀ (k0_t2 : Fin k0_t2_loop.trips) (v31 : BitVec 32) (v38 : BitVec 32) (v71 : BitVec 32) (k0_hw5 : k0_chk5 k0_t2 v31 v38 v71) (k0_t23 : Fin k0_t23_loop.trips), ∀ (k0_h1 : k0_cond1 k0_t2 = 1#1), ∀ (k0_h3 : k0_cond3 v31 v38 = 1#1), ∀ a, (k0_off78 v71 k0_t23) a + S1x16.size a ≤ S64x256.size a := fun k0_t2 v31 v38 v71 k0_hw5 k0_t23 k0_h1 k0_h3 => k0_hw5 k0_t23 k0_h1 k0_h3

@[reducible] def k0_t24_loop : Scf.Loop 32 :=
  let c0_i32_64 : BitVec 32 := 0#32
  let c16_i32_65 : BitVec 32 := 16#32
  let v79 : BitVec 32 := Scalar.addi c0_i32_64 c16_i32_65
  let c1_i32_66 : BitVec 32 := 1#32
  ⟨c0_i32_64, v79, c1_i32_66⟩
def k0_mult5 (k0_t24 : Fin k0_t24_loop.trips) : BitVec 32 :=
  let c0_i32_64 : BitVec 32 := 0#32
  let c1_i32_66 : BitVec 32 := 1#32
  let arg15 : BitVec 32 := Scf.iv c0_i32_64 c1_i32_66 k0_t24
  let c16_i32_135 : BitVec 32 := 16#32
  let v135 : BitVec 32 := Scalar.muli arg15 c16_i32_135
  v135
def k0_off79 (k0_t19 : Fin k0_t19_loop.trips) (k0_t24 : Fin k0_t24_loop.trips) : Fin 2 → Nat :=
  let c0_i32_29 : BitVec 32 := 0#32
  let c1_i32_31 : BitVec 32 := 1#32
  let arg14 : BitVec 32 := Scf.iv c0_i32_29 c1_i32_31 k0_t19
  let c16_i32_62 : BitVec 32 := 16#32
  let v77 : BitVec 32 := Scalar.muli arg14 c16_i32_62
  let c4_i32 : BitVec 32 := 4#32
  let v78 : BitVec 32 := Scalar.addi v77 c4_i32
  let v137 : Index := Scalar.indexCast v78
  let c0_i32_64 : BitVec 32 := 0#32
  let c1_i32_66 : BitVec 32 := 1#32
  let arg15 : BitVec 32 := Scf.iv c0_i32_64 c1_i32_66 k0_t24
  let c16_i32_135 : BitVec 32 := 16#32
  let v135 : BitVec 32 := Scalar.muli arg15 c16_i32_135
  let v136 : BitVec 32 := v135
  let v138 : Index := Scalar.indexCast v136
  ![v137.toNat, v138.toNat]
def k0_off80 (v76 : BitVec 32) (k0_t24 : Fin k0_t24_loop.trips) : Fin 2 → Nat :=
  let v141 : Index := Scalar.indexCast v76
  let c0_i32_64 : BitVec 32 := 0#32
  let c1_i32_66 : BitVec 32 := 1#32
  let arg15 : BitVec 32 := Scf.iv c0_i32_64 c1_i32_66 k0_t24
  let c16_i32_135 : BitVec 32 := 16#32
  let v135 : BitVec 32 := Scalar.muli arg15 c16_i32_135
  let v136 : BitVec 32 := v135
  let v142 : Index := Scalar.indexCast v136
  ![v141.toNat, v142.toNat]

def k0_chk6 (k0_t2 : Fin k0_t2_loop.trips) (v31 : BitVec 32) (v38 : BitVec 32) (v76 : BitVec 32) : Prop :=
  (∀ k0_t24 : Fin k0_t24_loop.trips, ∀ (k0_h1 : k0_cond1 k0_t2 = 1#1), ∀ (k0_h3 : k0_cond3 v31 v38 = 1#1), ∀ a, (k0_off80 v76 k0_t24) a + S1x16.size a ≤ S64x256.size a)
theorem k0_off80_inb : ∀ (k0_t2 : Fin k0_t2_loop.trips) (v31 : BitVec 32) (v38 : BitVec 32) (v76 : BitVec 32) (k0_hw6 : k0_chk6 k0_t2 v31 v38 v76) (k0_t24 : Fin k0_t24_loop.trips), ∀ (k0_h1 : k0_cond1 k0_t2 = 1#1), ∀ (k0_h3 : k0_cond3 v31 v38 = 1#1), ∀ a, (k0_off80 v76 k0_t24) a + S1x16.size a ≤ S64x256.size a := fun k0_t2 v31 v38 v76 k0_hw6 k0_t24 k0_h1 k0_h3 => k0_hw6 k0_t24 k0_h1 k0_h3

@[reducible] def k0_t25_loop : Scf.Loop 32 :=
  let c0_i32_71 : BitVec 32 := 0#32
  let c16_i32_72 : BitVec 32 := 16#32
  let v84 : BitVec 32 := Scalar.addi c0_i32_71 c16_i32_72
  let c1_i32_73 : BitVec 32 := 1#32
  ⟨c0_i32_71, v84, c1_i32_73⟩
def k0_mult6 (k0_t25 : Fin k0_t25_loop.trips) : BitVec 32 :=
  let c0_i32_71 : BitVec 32 := 0#32
  let c1_i32_73 : BitVec 32 := 1#32
  let arg15 : BitVec 32 := Scf.iv c0_i32_71 c1_i32_73 k0_t25
  let c16_i32_135 : BitVec 32 := 16#32
  let v135 : BitVec 32 := Scalar.muli arg15 c16_i32_135
  v135
def k0_off81 (k0_t19 : Fin k0_t19_loop.trips) (k0_t25 : Fin k0_t25_loop.trips) : Fin 2 → Nat :=
  let c0_i32_29 : BitVec 32 := 0#32
  let c1_i32_31 : BitVec 32 := 1#32
  let arg14 : BitVec 32 := Scf.iv c0_i32_29 c1_i32_31 k0_t19
  let c16_i32_68 : BitVec 32 := 16#32
  let v82 : BitVec 32 := Scalar.muli arg14 c16_i32_68
  let c5_i32_69 : BitVec 32 := 5#32
  let v83 : BitVec 32 := Scalar.addi v82 c5_i32_69
  let v137 : Index := Scalar.indexCast v83
  let c0_i32_71 : BitVec 32 := 0#32
  let c1_i32_73 : BitVec 32 := 1#32
  let arg15 : BitVec 32 := Scf.iv c0_i32_71 c1_i32_73 k0_t25
  let c16_i32_135 : BitVec 32 := 16#32
  let v135 : BitVec 32 := Scalar.muli arg15 c16_i32_135
  let v136 : BitVec 32 := v135
  let v138 : Index := Scalar.indexCast v136
  ![v137.toNat, v138.toNat]
def k0_off82 (v81 : BitVec 32) (k0_t25 : Fin k0_t25_loop.trips) : Fin 2 → Nat :=
  let v141 : Index := Scalar.indexCast v81
  let c0_i32_71 : BitVec 32 := 0#32
  let c1_i32_73 : BitVec 32 := 1#32
  let arg15 : BitVec 32 := Scf.iv c0_i32_71 c1_i32_73 k0_t25
  let c16_i32_135 : BitVec 32 := 16#32
  let v135 : BitVec 32 := Scalar.muli arg15 c16_i32_135
  let v136 : BitVec 32 := v135
  let v142 : Index := Scalar.indexCast v136
  ![v141.toNat, v142.toNat]

def k0_chk7 (k0_t2 : Fin k0_t2_loop.trips) (v31 : BitVec 32) (v38 : BitVec 32) (v81 : BitVec 32) : Prop :=
  (∀ k0_t25 : Fin k0_t25_loop.trips, ∀ (k0_h1 : k0_cond1 k0_t2 = 1#1), ∀ (k0_h3 : k0_cond3 v31 v38 = 1#1), ∀ a, (k0_off82 v81 k0_t25) a + S1x16.size a ≤ S64x256.size a)
theorem k0_off82_inb : ∀ (k0_t2 : Fin k0_t2_loop.trips) (v31 : BitVec 32) (v38 : BitVec 32) (v81 : BitVec 32) (k0_hw7 : k0_chk7 k0_t2 v31 v38 v81) (k0_t25 : Fin k0_t25_loop.trips), ∀ (k0_h1 : k0_cond1 k0_t2 = 1#1), ∀ (k0_h3 : k0_cond3 v31 v38 = 1#1), ∀ a, (k0_off82 v81 k0_t25) a + S1x16.size a ≤ S64x256.size a := fun k0_t2 v31 v38 v81 k0_hw7 k0_t25 k0_h1 k0_h3 => k0_hw7 k0_t25 k0_h1 k0_h3

@[reducible] def k0_t26_loop : Scf.Loop 32 :=
  let c0_i32_77 : BitVec 32 := 0#32
  let c16_i32_78 : BitVec 32 := 16#32
  let v89 : BitVec 32 := Scalar.addi c0_i32_77 c16_i32_78
  let c1_i32_79 : BitVec 32 := 1#32
  ⟨c0_i32_77, v89, c1_i32_79⟩
def k0_mult7 (k0_t26 : Fin k0_t26_loop.trips) : BitVec 32 :=
  let c0_i32_77 : BitVec 32 := 0#32
  let c1_i32_79 : BitVec 32 := 1#32
  let arg15 : BitVec 32 := Scf.iv c0_i32_77 c1_i32_79 k0_t26
  let c16_i32_135 : BitVec 32 := 16#32
  let v135 : BitVec 32 := Scalar.muli arg15 c16_i32_135
  v135
def k0_off83 (k0_t19 : Fin k0_t19_loop.trips) (k0_t26 : Fin k0_t26_loop.trips) : Fin 2 → Nat :=
  let c0_i32_29 : BitVec 32 := 0#32
  let c1_i32_31 : BitVec 32 := 1#32
  let arg14 : BitVec 32 := Scf.iv c0_i32_29 c1_i32_31 k0_t19
  let c16_i32_75 : BitVec 32 := 16#32
  let v87 : BitVec 32 := Scalar.muli arg14 c16_i32_75
  let c6_i32 : BitVec 32 := 6#32
  let v88 : BitVec 32 := Scalar.addi v87 c6_i32
  let v137 : Index := Scalar.indexCast v88
  let c0_i32_77 : BitVec 32 := 0#32
  let c1_i32_79 : BitVec 32 := 1#32
  let arg15 : BitVec 32 := Scf.iv c0_i32_77 c1_i32_79 k0_t26
  let c16_i32_135 : BitVec 32 := 16#32
  let v135 : BitVec 32 := Scalar.muli arg15 c16_i32_135
  let v136 : BitVec 32 := v135
  let v138 : Index := Scalar.indexCast v136
  ![v137.toNat, v138.toNat]
def k0_off84 (v86 : BitVec 32) (k0_t26 : Fin k0_t26_loop.trips) : Fin 2 → Nat :=
  let v141 : Index := Scalar.indexCast v86
  let c0_i32_77 : BitVec 32 := 0#32
  let c1_i32_79 : BitVec 32 := 1#32
  let arg15 : BitVec 32 := Scf.iv c0_i32_77 c1_i32_79 k0_t26
  let c16_i32_135 : BitVec 32 := 16#32
  let v135 : BitVec 32 := Scalar.muli arg15 c16_i32_135
  let v136 : BitVec 32 := v135
  let v142 : Index := Scalar.indexCast v136
  ![v141.toNat, v142.toNat]

def k0_chk8 (k0_t2 : Fin k0_t2_loop.trips) (v31 : BitVec 32) (v38 : BitVec 32) (v86 : BitVec 32) : Prop :=
  (∀ k0_t26 : Fin k0_t26_loop.trips, ∀ (k0_h1 : k0_cond1 k0_t2 = 1#1), ∀ (k0_h3 : k0_cond3 v31 v38 = 1#1), ∀ a, (k0_off84 v86 k0_t26) a + S1x16.size a ≤ S64x256.size a)
theorem k0_off84_inb : ∀ (k0_t2 : Fin k0_t2_loop.trips) (v31 : BitVec 32) (v38 : BitVec 32) (v86 : BitVec 32) (k0_hw8 : k0_chk8 k0_t2 v31 v38 v86) (k0_t26 : Fin k0_t26_loop.trips), ∀ (k0_h1 : k0_cond1 k0_t2 = 1#1), ∀ (k0_h3 : k0_cond3 v31 v38 = 1#1), ∀ a, (k0_off84 v86 k0_t26) a + S1x16.size a ≤ S64x256.size a := fun k0_t2 v31 v38 v86 k0_hw8 k0_t26 k0_h1 k0_h3 => k0_hw8 k0_t26 k0_h1 k0_h3

@[reducible] def k0_t27_loop : Scf.Loop 32 :=
  let c0_i32_83 : BitVec 32 := 0#32
  let c16_i32_84 : BitVec 32 := 16#32
  let v94 : BitVec 32 := Scalar.addi c0_i32_83 c16_i32_84
  let c1_i32_85 : BitVec 32 := 1#32
  ⟨c0_i32_83, v94, c1_i32_85⟩
def k0_mult8 (k0_t27 : Fin k0_t27_loop.trips) : BitVec 32 :=
  let c0_i32_83 : BitVec 32 := 0#32
  let c1_i32_85 : BitVec 32 := 1#32
  let arg15 : BitVec 32 := Scf.iv c0_i32_83 c1_i32_85 k0_t27
  let c16_i32_135 : BitVec 32 := 16#32
  let v135 : BitVec 32 := Scalar.muli arg15 c16_i32_135
  v135
def k0_off85 (k0_t19 : Fin k0_t19_loop.trips) (k0_t27 : Fin k0_t27_loop.trips) : Fin 2 → Nat :=
  let c0_i32_29 : BitVec 32 := 0#32
  let c1_i32_31 : BitVec 32 := 1#32
  let arg14 : BitVec 32 := Scf.iv c0_i32_29 c1_i32_31 k0_t19
  let c16_i32_81 : BitVec 32 := 16#32
  let v92 : BitVec 32 := Scalar.muli arg14 c16_i32_81
  let c7_i32 : BitVec 32 := 7#32
  let v93 : BitVec 32 := Scalar.addi v92 c7_i32
  let v137 : Index := Scalar.indexCast v93
  let c0_i32_83 : BitVec 32 := 0#32
  let c1_i32_85 : BitVec 32 := 1#32
  let arg15 : BitVec 32 := Scf.iv c0_i32_83 c1_i32_85 k0_t27
  let c16_i32_135 : BitVec 32 := 16#32
  let v135 : BitVec 32 := Scalar.muli arg15 c16_i32_135
  let v136 : BitVec 32 := v135
  let v138 : Index := Scalar.indexCast v136
  ![v137.toNat, v138.toNat]
def k0_off86 (v91 : BitVec 32) (k0_t27 : Fin k0_t27_loop.trips) : Fin 2 → Nat :=
  let v141 : Index := Scalar.indexCast v91
  let c0_i32_83 : BitVec 32 := 0#32
  let c1_i32_85 : BitVec 32 := 1#32
  let arg15 : BitVec 32 := Scf.iv c0_i32_83 c1_i32_85 k0_t27
  let c16_i32_135 : BitVec 32 := 16#32
  let v135 : BitVec 32 := Scalar.muli arg15 c16_i32_135
  let v136 : BitVec 32 := v135
  let v142 : Index := Scalar.indexCast v136
  ![v141.toNat, v142.toNat]

def k0_chk9 (k0_t2 : Fin k0_t2_loop.trips) (v31 : BitVec 32) (v38 : BitVec 32) (v91 : BitVec 32) : Prop :=
  (∀ k0_t27 : Fin k0_t27_loop.trips, ∀ (k0_h1 : k0_cond1 k0_t2 = 1#1), ∀ (k0_h3 : k0_cond3 v31 v38 = 1#1), ∀ a, (k0_off86 v91 k0_t27) a + S1x16.size a ≤ S64x256.size a)
theorem k0_off86_inb : ∀ (k0_t2 : Fin k0_t2_loop.trips) (v31 : BitVec 32) (v38 : BitVec 32) (v91 : BitVec 32) (k0_hw9 : k0_chk9 k0_t2 v31 v38 v91) (k0_t27 : Fin k0_t27_loop.trips), ∀ (k0_h1 : k0_cond1 k0_t2 = 1#1), ∀ (k0_h3 : k0_cond3 v31 v38 = 1#1), ∀ a, (k0_off86 v91 k0_t27) a + S1x16.size a ≤ S64x256.size a := fun k0_t2 v31 v38 v91 k0_hw9 k0_t27 k0_h1 k0_h3 => k0_hw9 k0_t27 k0_h1 k0_h3

@[reducible] def k0_t28_loop : Scf.Loop 32 :=
  let c0_i32_89 : BitVec 32 := 0#32
  let c16_i32_90 : BitVec 32 := 16#32
  let v99 : BitVec 32 := Scalar.addi c0_i32_89 c16_i32_90
  let c1_i32_91 : BitVec 32 := 1#32
  ⟨c0_i32_89, v99, c1_i32_91⟩
def k0_mult9 (k0_t28 : Fin k0_t28_loop.trips) : BitVec 32 :=
  let c0_i32_89 : BitVec 32 := 0#32
  let c1_i32_91 : BitVec 32 := 1#32
  let arg15 : BitVec 32 := Scf.iv c0_i32_89 c1_i32_91 k0_t28
  let c16_i32_135 : BitVec 32 := 16#32
  let v135 : BitVec 32 := Scalar.muli arg15 c16_i32_135
  v135
def k0_off87 (k0_t19 : Fin k0_t19_loop.trips) (k0_t28 : Fin k0_t28_loop.trips) : Fin 2 → Nat :=
  let c0_i32_29 : BitVec 32 := 0#32
  let c1_i32_31 : BitVec 32 := 1#32
  let arg14 : BitVec 32 := Scf.iv c0_i32_29 c1_i32_31 k0_t19
  let c16_i32_87 : BitVec 32 := 16#32
  let v97 : BitVec 32 := Scalar.muli arg14 c16_i32_87
  let c8_i32 : BitVec 32 := 8#32
  let v98 : BitVec 32 := Scalar.addi v97 c8_i32
  let v137 : Index := Scalar.indexCast v98
  let c0_i32_89 : BitVec 32 := 0#32
  let c1_i32_91 : BitVec 32 := 1#32
  let arg15 : BitVec 32 := Scf.iv c0_i32_89 c1_i32_91 k0_t28
  let c16_i32_135 : BitVec 32 := 16#32
  let v135 : BitVec 32 := Scalar.muli arg15 c16_i32_135
  let v136 : BitVec 32 := v135
  let v138 : Index := Scalar.indexCast v136
  ![v137.toNat, v138.toNat]
def k0_off88 (v96 : BitVec 32) (k0_t28 : Fin k0_t28_loop.trips) : Fin 2 → Nat :=
  let v141 : Index := Scalar.indexCast v96
  let c0_i32_89 : BitVec 32 := 0#32
  let c1_i32_91 : BitVec 32 := 1#32
  let arg15 : BitVec 32 := Scf.iv c0_i32_89 c1_i32_91 k0_t28
  let c16_i32_135 : BitVec 32 := 16#32
  let v135 : BitVec 32 := Scalar.muli arg15 c16_i32_135
  let v136 : BitVec 32 := v135
  let v142 : Index := Scalar.indexCast v136
  ![v141.toNat, v142.toNat]

def k0_chk10 (k0_t2 : Fin k0_t2_loop.trips) (v31 : BitVec 32) (v38 : BitVec 32) (v96 : BitVec 32) : Prop :=
  (∀ k0_t28 : Fin k0_t28_loop.trips, ∀ (k0_h1 : k0_cond1 k0_t2 = 1#1), ∀ (k0_h3 : k0_cond3 v31 v38 = 1#1), ∀ a, (k0_off88 v96 k0_t28) a + S1x16.size a ≤ S64x256.size a)
theorem k0_off88_inb : ∀ (k0_t2 : Fin k0_t2_loop.trips) (v31 : BitVec 32) (v38 : BitVec 32) (v96 : BitVec 32) (k0_hw10 : k0_chk10 k0_t2 v31 v38 v96) (k0_t28 : Fin k0_t28_loop.trips), ∀ (k0_h1 : k0_cond1 k0_t2 = 1#1), ∀ (k0_h3 : k0_cond3 v31 v38 = 1#1), ∀ a, (k0_off88 v96 k0_t28) a + S1x16.size a ≤ S64x256.size a := fun k0_t2 v31 v38 v96 k0_hw10 k0_t28 k0_h1 k0_h3 => k0_hw10 k0_t28 k0_h1 k0_h3

@[reducible] def k0_t29_loop : Scf.Loop 32 :=
  let c0_i32_95 : BitVec 32 := 0#32
  let c16_i32_96 : BitVec 32 := 16#32
  let v104 : BitVec 32 := Scalar.addi c0_i32_95 c16_i32_96
  let c1_i32_97 : BitVec 32 := 1#32
  ⟨c0_i32_95, v104, c1_i32_97⟩
def k0_mult10 (k0_t29 : Fin k0_t29_loop.trips) : BitVec 32 :=
  let c0_i32_95 : BitVec 32 := 0#32
  let c1_i32_97 : BitVec 32 := 1#32
  let arg15 : BitVec 32 := Scf.iv c0_i32_95 c1_i32_97 k0_t29
  let c16_i32_135 : BitVec 32 := 16#32
  let v135 : BitVec 32 := Scalar.muli arg15 c16_i32_135
  v135
def k0_off89 (k0_t19 : Fin k0_t19_loop.trips) (k0_t29 : Fin k0_t29_loop.trips) : Fin 2 → Nat :=
  let c0_i32_29 : BitVec 32 := 0#32
  let c1_i32_31 : BitVec 32 := 1#32
  let arg14 : BitVec 32 := Scf.iv c0_i32_29 c1_i32_31 k0_t19
  let c16_i32_93 : BitVec 32 := 16#32
  let v102 : BitVec 32 := Scalar.muli arg14 c16_i32_93
  let c9_i32 : BitVec 32 := 9#32
  let v103 : BitVec 32 := Scalar.addi v102 c9_i32
  let v137 : Index := Scalar.indexCast v103
  let c0_i32_95 : BitVec 32 := 0#32
  let c1_i32_97 : BitVec 32 := 1#32
  let arg15 : BitVec 32 := Scf.iv c0_i32_95 c1_i32_97 k0_t29
  let c16_i32_135 : BitVec 32 := 16#32
  let v135 : BitVec 32 := Scalar.muli arg15 c16_i32_135
  let v136 : BitVec 32 := v135
  let v138 : Index := Scalar.indexCast v136
  ![v137.toNat, v138.toNat]
def k0_off90 (v101 : BitVec 32) (k0_t29 : Fin k0_t29_loop.trips) : Fin 2 → Nat :=
  let v141 : Index := Scalar.indexCast v101
  let c0_i32_95 : BitVec 32 := 0#32
  let c1_i32_97 : BitVec 32 := 1#32
  let arg15 : BitVec 32 := Scf.iv c0_i32_95 c1_i32_97 k0_t29
  let c16_i32_135 : BitVec 32 := 16#32
  let v135 : BitVec 32 := Scalar.muli arg15 c16_i32_135
  let v136 : BitVec 32 := v135
  let v142 : Index := Scalar.indexCast v136
  ![v141.toNat, v142.toNat]

def k0_chk11 (k0_t2 : Fin k0_t2_loop.trips) (v31 : BitVec 32) (v38 : BitVec 32) (v101 : BitVec 32) : Prop :=
  (∀ k0_t29 : Fin k0_t29_loop.trips, ∀ (k0_h1 : k0_cond1 k0_t2 = 1#1), ∀ (k0_h3 : k0_cond3 v31 v38 = 1#1), ∀ a, (k0_off90 v101 k0_t29) a + S1x16.size a ≤ S64x256.size a)
theorem k0_off90_inb : ∀ (k0_t2 : Fin k0_t2_loop.trips) (v31 : BitVec 32) (v38 : BitVec 32) (v101 : BitVec 32) (k0_hw11 : k0_chk11 k0_t2 v31 v38 v101) (k0_t29 : Fin k0_t29_loop.trips), ∀ (k0_h1 : k0_cond1 k0_t2 = 1#1), ∀ (k0_h3 : k0_cond3 v31 v38 = 1#1), ∀ a, (k0_off90 v101 k0_t29) a + S1x16.size a ≤ S64x256.size a := fun k0_t2 v31 v38 v101 k0_hw11 k0_t29 k0_h1 k0_h3 => k0_hw11 k0_t29 k0_h1 k0_h3

@[reducible] def k0_t30_loop : Scf.Loop 32 :=
  let c0_i32_101 : BitVec 32 := 0#32
  let c16_i32_102 : BitVec 32 := 16#32
  let v109 : BitVec 32 := Scalar.addi c0_i32_101 c16_i32_102
  let c1_i32_103 : BitVec 32 := 1#32
  ⟨c0_i32_101, v109, c1_i32_103⟩
def k0_mult11 (k0_t30 : Fin k0_t30_loop.trips) : BitVec 32 :=
  let c0_i32_101 : BitVec 32 := 0#32
  let c1_i32_103 : BitVec 32 := 1#32
  let arg15 : BitVec 32 := Scf.iv c0_i32_101 c1_i32_103 k0_t30
  let c16_i32_135 : BitVec 32 := 16#32
  let v135 : BitVec 32 := Scalar.muli arg15 c16_i32_135
  v135
def k0_off91 (k0_t19 : Fin k0_t19_loop.trips) (k0_t30 : Fin k0_t30_loop.trips) : Fin 2 → Nat :=
  let c0_i32_29 : BitVec 32 := 0#32
  let c1_i32_31 : BitVec 32 := 1#32
  let arg14 : BitVec 32 := Scf.iv c0_i32_29 c1_i32_31 k0_t19
  let c16_i32_99 : BitVec 32 := 16#32
  let v107 : BitVec 32 := Scalar.muli arg14 c16_i32_99
  let c10_i32 : BitVec 32 := 10#32
  let v108 : BitVec 32 := Scalar.addi v107 c10_i32
  let v137 : Index := Scalar.indexCast v108
  let c0_i32_101 : BitVec 32 := 0#32
  let c1_i32_103 : BitVec 32 := 1#32
  let arg15 : BitVec 32 := Scf.iv c0_i32_101 c1_i32_103 k0_t30
  let c16_i32_135 : BitVec 32 := 16#32
  let v135 : BitVec 32 := Scalar.muli arg15 c16_i32_135
  let v136 : BitVec 32 := v135
  let v138 : Index := Scalar.indexCast v136
  ![v137.toNat, v138.toNat]
def k0_off92 (v106 : BitVec 32) (k0_t30 : Fin k0_t30_loop.trips) : Fin 2 → Nat :=
  let v141 : Index := Scalar.indexCast v106
  let c0_i32_101 : BitVec 32 := 0#32
  let c1_i32_103 : BitVec 32 := 1#32
  let arg15 : BitVec 32 := Scf.iv c0_i32_101 c1_i32_103 k0_t30
  let c16_i32_135 : BitVec 32 := 16#32
  let v135 : BitVec 32 := Scalar.muli arg15 c16_i32_135
  let v136 : BitVec 32 := v135
  let v142 : Index := Scalar.indexCast v136
  ![v141.toNat, v142.toNat]

def k0_chk12 (k0_t2 : Fin k0_t2_loop.trips) (v31 : BitVec 32) (v38 : BitVec 32) (v106 : BitVec 32) : Prop :=
  (∀ k0_t30 : Fin k0_t30_loop.trips, ∀ (k0_h1 : k0_cond1 k0_t2 = 1#1), ∀ (k0_h3 : k0_cond3 v31 v38 = 1#1), ∀ a, (k0_off92 v106 k0_t30) a + S1x16.size a ≤ S64x256.size a)
theorem k0_off92_inb : ∀ (k0_t2 : Fin k0_t2_loop.trips) (v31 : BitVec 32) (v38 : BitVec 32) (v106 : BitVec 32) (k0_hw12 : k0_chk12 k0_t2 v31 v38 v106) (k0_t30 : Fin k0_t30_loop.trips), ∀ (k0_h1 : k0_cond1 k0_t2 = 1#1), ∀ (k0_h3 : k0_cond3 v31 v38 = 1#1), ∀ a, (k0_off92 v106 k0_t30) a + S1x16.size a ≤ S64x256.size a := fun k0_t2 v31 v38 v106 k0_hw12 k0_t30 k0_h1 k0_h3 => k0_hw12 k0_t30 k0_h1 k0_h3

@[reducible] def k0_t31_loop : Scf.Loop 32 :=
  let c0_i32_107 : BitVec 32 := 0#32
  let c16_i32_108 : BitVec 32 := 16#32
  let v114 : BitVec 32 := Scalar.addi c0_i32_107 c16_i32_108
  let c1_i32_109 : BitVec 32 := 1#32
  ⟨c0_i32_107, v114, c1_i32_109⟩
def k0_mult12 (k0_t31 : Fin k0_t31_loop.trips) : BitVec 32 :=
  let c0_i32_107 : BitVec 32 := 0#32
  let c1_i32_109 : BitVec 32 := 1#32
  let arg15 : BitVec 32 := Scf.iv c0_i32_107 c1_i32_109 k0_t31
  let c16_i32_135 : BitVec 32 := 16#32
  let v135 : BitVec 32 := Scalar.muli arg15 c16_i32_135
  v135
def k0_off93 (k0_t19 : Fin k0_t19_loop.trips) (k0_t31 : Fin k0_t31_loop.trips) : Fin 2 → Nat :=
  let c0_i32_29 : BitVec 32 := 0#32
  let c1_i32_31 : BitVec 32 := 1#32
  let arg14 : BitVec 32 := Scf.iv c0_i32_29 c1_i32_31 k0_t19
  let c16_i32_105 : BitVec 32 := 16#32
  let v112 : BitVec 32 := Scalar.muli arg14 c16_i32_105
  let c11_i32 : BitVec 32 := 11#32
  let v113 : BitVec 32 := Scalar.addi v112 c11_i32
  let v137 : Index := Scalar.indexCast v113
  let c0_i32_107 : BitVec 32 := 0#32
  let c1_i32_109 : BitVec 32 := 1#32
  let arg15 : BitVec 32 := Scf.iv c0_i32_107 c1_i32_109 k0_t31
  let c16_i32_135 : BitVec 32 := 16#32
  let v135 : BitVec 32 := Scalar.muli arg15 c16_i32_135
  let v136 : BitVec 32 := v135
  let v138 : Index := Scalar.indexCast v136
  ![v137.toNat, v138.toNat]
def k0_off94 (v111 : BitVec 32) (k0_t31 : Fin k0_t31_loop.trips) : Fin 2 → Nat :=
  let v141 : Index := Scalar.indexCast v111
  let c0_i32_107 : BitVec 32 := 0#32
  let c1_i32_109 : BitVec 32 := 1#32
  let arg15 : BitVec 32 := Scf.iv c0_i32_107 c1_i32_109 k0_t31
  let c16_i32_135 : BitVec 32 := 16#32
  let v135 : BitVec 32 := Scalar.muli arg15 c16_i32_135
  let v136 : BitVec 32 := v135
  let v142 : Index := Scalar.indexCast v136
  ![v141.toNat, v142.toNat]

def k0_chk13 (k0_t2 : Fin k0_t2_loop.trips) (v31 : BitVec 32) (v38 : BitVec 32) (v111 : BitVec 32) : Prop :=
  (∀ k0_t31 : Fin k0_t31_loop.trips, ∀ (k0_h1 : k0_cond1 k0_t2 = 1#1), ∀ (k0_h3 : k0_cond3 v31 v38 = 1#1), ∀ a, (k0_off94 v111 k0_t31) a + S1x16.size a ≤ S64x256.size a)
theorem k0_off94_inb : ∀ (k0_t2 : Fin k0_t2_loop.trips) (v31 : BitVec 32) (v38 : BitVec 32) (v111 : BitVec 32) (k0_hw13 : k0_chk13 k0_t2 v31 v38 v111) (k0_t31 : Fin k0_t31_loop.trips), ∀ (k0_h1 : k0_cond1 k0_t2 = 1#1), ∀ (k0_h3 : k0_cond3 v31 v38 = 1#1), ∀ a, (k0_off94 v111 k0_t31) a + S1x16.size a ≤ S64x256.size a := fun k0_t2 v31 v38 v111 k0_hw13 k0_t31 k0_h1 k0_h3 => k0_hw13 k0_t31 k0_h1 k0_h3

@[reducible] def k0_t32_loop : Scf.Loop 32 :=
  let c0_i32_113 : BitVec 32 := 0#32
  let c16_i32_114 : BitVec 32 := 16#32
  let v119 : BitVec 32 := Scalar.addi c0_i32_113 c16_i32_114
  let c1_i32_115 : BitVec 32 := 1#32
  ⟨c0_i32_113, v119, c1_i32_115⟩
def k0_mult13 (k0_t32 : Fin k0_t32_loop.trips) : BitVec 32 :=
  let c0_i32_113 : BitVec 32 := 0#32
  let c1_i32_115 : BitVec 32 := 1#32
  let arg15 : BitVec 32 := Scf.iv c0_i32_113 c1_i32_115 k0_t32
  let c16_i32_135 : BitVec 32 := 16#32
  let v135 : BitVec 32 := Scalar.muli arg15 c16_i32_135
  v135
def k0_off95 (k0_t19 : Fin k0_t19_loop.trips) (k0_t32 : Fin k0_t32_loop.trips) : Fin 2 → Nat :=
  let c0_i32_29 : BitVec 32 := 0#32
  let c1_i32_31 : BitVec 32 := 1#32
  let arg14 : BitVec 32 := Scf.iv c0_i32_29 c1_i32_31 k0_t19
  let c16_i32_111 : BitVec 32 := 16#32
  let v117 : BitVec 32 := Scalar.muli arg14 c16_i32_111
  let c12_i32 : BitVec 32 := 12#32
  let v118 : BitVec 32 := Scalar.addi v117 c12_i32
  let v137 : Index := Scalar.indexCast v118
  let c0_i32_113 : BitVec 32 := 0#32
  let c1_i32_115 : BitVec 32 := 1#32
  let arg15 : BitVec 32 := Scf.iv c0_i32_113 c1_i32_115 k0_t32
  let c16_i32_135 : BitVec 32 := 16#32
  let v135 : BitVec 32 := Scalar.muli arg15 c16_i32_135
  let v136 : BitVec 32 := v135
  let v138 : Index := Scalar.indexCast v136
  ![v137.toNat, v138.toNat]
def k0_off96 (v116 : BitVec 32) (k0_t32 : Fin k0_t32_loop.trips) : Fin 2 → Nat :=
  let v141 : Index := Scalar.indexCast v116
  let c0_i32_113 : BitVec 32 := 0#32
  let c1_i32_115 : BitVec 32 := 1#32
  let arg15 : BitVec 32 := Scf.iv c0_i32_113 c1_i32_115 k0_t32
  let c16_i32_135 : BitVec 32 := 16#32
  let v135 : BitVec 32 := Scalar.muli arg15 c16_i32_135
  let v136 : BitVec 32 := v135
  let v142 : Index := Scalar.indexCast v136
  ![v141.toNat, v142.toNat]

def k0_chk14 (k0_t2 : Fin k0_t2_loop.trips) (v31 : BitVec 32) (v38 : BitVec 32) (v116 : BitVec 32) : Prop :=
  (∀ k0_t32 : Fin k0_t32_loop.trips, ∀ (k0_h1 : k0_cond1 k0_t2 = 1#1), ∀ (k0_h3 : k0_cond3 v31 v38 = 1#1), ∀ a, (k0_off96 v116 k0_t32) a + S1x16.size a ≤ S64x256.size a)
theorem k0_off96_inb : ∀ (k0_t2 : Fin k0_t2_loop.trips) (v31 : BitVec 32) (v38 : BitVec 32) (v116 : BitVec 32) (k0_hw14 : k0_chk14 k0_t2 v31 v38 v116) (k0_t32 : Fin k0_t32_loop.trips), ∀ (k0_h1 : k0_cond1 k0_t2 = 1#1), ∀ (k0_h3 : k0_cond3 v31 v38 = 1#1), ∀ a, (k0_off96 v116 k0_t32) a + S1x16.size a ≤ S64x256.size a := fun k0_t2 v31 v38 v116 k0_hw14 k0_t32 k0_h1 k0_h3 => k0_hw14 k0_t32 k0_h1 k0_h3

@[reducible] def k0_t33_loop : Scf.Loop 32 :=
  let c0_i32_119 : BitVec 32 := 0#32
  let c16_i32_120 : BitVec 32 := 16#32
  let v124 : BitVec 32 := Scalar.addi c0_i32_119 c16_i32_120
  let c1_i32_121 : BitVec 32 := 1#32
  ⟨c0_i32_119, v124, c1_i32_121⟩
def k0_mult14 (k0_t33 : Fin k0_t33_loop.trips) : BitVec 32 :=
  let c0_i32_119 : BitVec 32 := 0#32
  let c1_i32_121 : BitVec 32 := 1#32
  let arg15 : BitVec 32 := Scf.iv c0_i32_119 c1_i32_121 k0_t33
  let c16_i32_135 : BitVec 32 := 16#32
  let v135 : BitVec 32 := Scalar.muli arg15 c16_i32_135
  v135
def k0_off97 (k0_t19 : Fin k0_t19_loop.trips) (k0_t33 : Fin k0_t33_loop.trips) : Fin 2 → Nat :=
  let c0_i32_29 : BitVec 32 := 0#32
  let c1_i32_31 : BitVec 32 := 1#32
  let arg14 : BitVec 32 := Scf.iv c0_i32_29 c1_i32_31 k0_t19
  let c16_i32_117 : BitVec 32 := 16#32
  let v122 : BitVec 32 := Scalar.muli arg14 c16_i32_117
  let c13_i32 : BitVec 32 := 13#32
  let v123 : BitVec 32 := Scalar.addi v122 c13_i32
  let v137 : Index := Scalar.indexCast v123
  let c0_i32_119 : BitVec 32 := 0#32
  let c1_i32_121 : BitVec 32 := 1#32
  let arg15 : BitVec 32 := Scf.iv c0_i32_119 c1_i32_121 k0_t33
  let c16_i32_135 : BitVec 32 := 16#32
  let v135 : BitVec 32 := Scalar.muli arg15 c16_i32_135
  let v136 : BitVec 32 := v135
  let v138 : Index := Scalar.indexCast v136
  ![v137.toNat, v138.toNat]
def k0_off98 (v121 : BitVec 32) (k0_t33 : Fin k0_t33_loop.trips) : Fin 2 → Nat :=
  let v141 : Index := Scalar.indexCast v121
  let c0_i32_119 : BitVec 32 := 0#32
  let c1_i32_121 : BitVec 32 := 1#32
  let arg15 : BitVec 32 := Scf.iv c0_i32_119 c1_i32_121 k0_t33
  let c16_i32_135 : BitVec 32 := 16#32
  let v135 : BitVec 32 := Scalar.muli arg15 c16_i32_135
  let v136 : BitVec 32 := v135
  let v142 : Index := Scalar.indexCast v136
  ![v141.toNat, v142.toNat]

def k0_chk15 (k0_t2 : Fin k0_t2_loop.trips) (v31 : BitVec 32) (v38 : BitVec 32) (v121 : BitVec 32) : Prop :=
  (∀ k0_t33 : Fin k0_t33_loop.trips, ∀ (k0_h1 : k0_cond1 k0_t2 = 1#1), ∀ (k0_h3 : k0_cond3 v31 v38 = 1#1), ∀ a, (k0_off98 v121 k0_t33) a + S1x16.size a ≤ S64x256.size a)
theorem k0_off98_inb : ∀ (k0_t2 : Fin k0_t2_loop.trips) (v31 : BitVec 32) (v38 : BitVec 32) (v121 : BitVec 32) (k0_hw15 : k0_chk15 k0_t2 v31 v38 v121) (k0_t33 : Fin k0_t33_loop.trips), ∀ (k0_h1 : k0_cond1 k0_t2 = 1#1), ∀ (k0_h3 : k0_cond3 v31 v38 = 1#1), ∀ a, (k0_off98 v121 k0_t33) a + S1x16.size a ≤ S64x256.size a := fun k0_t2 v31 v38 v121 k0_hw15 k0_t33 k0_h1 k0_h3 => k0_hw15 k0_t33 k0_h1 k0_h3

@[reducible] def k0_t34_loop : Scf.Loop 32 :=
  let c0_i32_125 : BitVec 32 := 0#32
  let c16_i32_126 : BitVec 32 := 16#32
  let v129 : BitVec 32 := Scalar.addi c0_i32_125 c16_i32_126
  let c1_i32_127 : BitVec 32 := 1#32
  ⟨c0_i32_125, v129, c1_i32_127⟩
def k0_mult15 (k0_t34 : Fin k0_t34_loop.trips) : BitVec 32 :=
  let c0_i32_125 : BitVec 32 := 0#32
  let c1_i32_127 : BitVec 32 := 1#32
  let arg15 : BitVec 32 := Scf.iv c0_i32_125 c1_i32_127 k0_t34
  let c16_i32_135 : BitVec 32 := 16#32
  let v135 : BitVec 32 := Scalar.muli arg15 c16_i32_135
  v135
def k0_off99 (k0_t19 : Fin k0_t19_loop.trips) (k0_t34 : Fin k0_t34_loop.trips) : Fin 2 → Nat :=
  let c0_i32_29 : BitVec 32 := 0#32
  let c1_i32_31 : BitVec 32 := 1#32
  let arg14 : BitVec 32 := Scf.iv c0_i32_29 c1_i32_31 k0_t19
  let c16_i32_123 : BitVec 32 := 16#32
  let v127 : BitVec 32 := Scalar.muli arg14 c16_i32_123
  let c14_i32 : BitVec 32 := 14#32
  let v128 : BitVec 32 := Scalar.addi v127 c14_i32
  let v137 : Index := Scalar.indexCast v128
  let c0_i32_125 : BitVec 32 := 0#32
  let c1_i32_127 : BitVec 32 := 1#32
  let arg15 : BitVec 32 := Scf.iv c0_i32_125 c1_i32_127 k0_t34
  let c16_i32_135 : BitVec 32 := 16#32
  let v135 : BitVec 32 := Scalar.muli arg15 c16_i32_135
  let v136 : BitVec 32 := v135
  let v138 : Index := Scalar.indexCast v136
  ![v137.toNat, v138.toNat]
def k0_off100 (v126 : BitVec 32) (k0_t34 : Fin k0_t34_loop.trips) : Fin 2 → Nat :=
  let v141 : Index := Scalar.indexCast v126
  let c0_i32_125 : BitVec 32 := 0#32
  let c1_i32_127 : BitVec 32 := 1#32
  let arg15 : BitVec 32 := Scf.iv c0_i32_125 c1_i32_127 k0_t34
  let c16_i32_135 : BitVec 32 := 16#32
  let v135 : BitVec 32 := Scalar.muli arg15 c16_i32_135
  let v136 : BitVec 32 := v135
  let v142 : Index := Scalar.indexCast v136
  ![v141.toNat, v142.toNat]

def k0_chk16 (k0_t2 : Fin k0_t2_loop.trips) (v31 : BitVec 32) (v38 : BitVec 32) (v126 : BitVec 32) : Prop :=
  (∀ k0_t34 : Fin k0_t34_loop.trips, ∀ (k0_h1 : k0_cond1 k0_t2 = 1#1), ∀ (k0_h3 : k0_cond3 v31 v38 = 1#1), ∀ a, (k0_off100 v126 k0_t34) a + S1x16.size a ≤ S64x256.size a)
theorem k0_off100_inb : ∀ (k0_t2 : Fin k0_t2_loop.trips) (v31 : BitVec 32) (v38 : BitVec 32) (v126 : BitVec 32) (k0_hw16 : k0_chk16 k0_t2 v31 v38 v126) (k0_t34 : Fin k0_t34_loop.trips), ∀ (k0_h1 : k0_cond1 k0_t2 = 1#1), ∀ (k0_h3 : k0_cond3 v31 v38 = 1#1), ∀ a, (k0_off100 v126 k0_t34) a + S1x16.size a ≤ S64x256.size a := fun k0_t2 v31 v38 v126 k0_hw16 k0_t34 k0_h1 k0_h3 => k0_hw16 k0_t34 k0_h1 k0_h3

@[reducible] def k0_t35_loop : Scf.Loop 32 :=
  let c0_i32_131 : BitVec 32 := 0#32
  let c16_i32_132 : BitVec 32 := 16#32
  let v134 : BitVec 32 := Scalar.addi c0_i32_131 c16_i32_132
  let c1_i32_133 : BitVec 32 := 1#32
  ⟨c0_i32_131, v134, c1_i32_133⟩
def k0_mult16 (k0_t35 : Fin k0_t35_loop.trips) : BitVec 32 :=
  let c0_i32_131 : BitVec 32 := 0#32
  let c1_i32_133 : BitVec 32 := 1#32
  let arg15 : BitVec 32 := Scf.iv c0_i32_131 c1_i32_133 k0_t35
  let c16_i32_135 : BitVec 32 := 16#32
  let v135 : BitVec 32 := Scalar.muli arg15 c16_i32_135
  v135
def k0_off101 (k0_t19 : Fin k0_t19_loop.trips) (k0_t35 : Fin k0_t35_loop.trips) : Fin 2 → Nat :=
  let c0_i32_29 : BitVec 32 := 0#32
  let c1_i32_31 : BitVec 32 := 1#32
  let arg14 : BitVec 32 := Scf.iv c0_i32_29 c1_i32_31 k0_t19
  let c16_i32_129 : BitVec 32 := 16#32
  let v132 : BitVec 32 := Scalar.muli arg14 c16_i32_129
  let c15_i32 : BitVec 32 := 15#32
  let v133 : BitVec 32 := Scalar.addi v132 c15_i32
  let v137 : Index := Scalar.indexCast v133
  let c0_i32_131 : BitVec 32 := 0#32
  let c1_i32_133 : BitVec 32 := 1#32
  let arg15 : BitVec 32 := Scf.iv c0_i32_131 c1_i32_133 k0_t35
  let c16_i32_135 : BitVec 32 := 16#32
  let v135 : BitVec 32 := Scalar.muli arg15 c16_i32_135
  let v136 : BitVec 32 := v135
  let v138 : Index := Scalar.indexCast v136
  ![v137.toNat, v138.toNat]
def k0_off102 (v131 : BitVec 32) (k0_t35 : Fin k0_t35_loop.trips) : Fin 2 → Nat :=
  let v141 : Index := Scalar.indexCast v131
  let c0_i32_131 : BitVec 32 := 0#32
  let c1_i32_133 : BitVec 32 := 1#32
  let arg15 : BitVec 32 := Scf.iv c0_i32_131 c1_i32_133 k0_t35
  let c16_i32_135 : BitVec 32 := 16#32
  let v135 : BitVec 32 := Scalar.muli arg15 c16_i32_135
  let v136 : BitVec 32 := v135
  let v142 : Index := Scalar.indexCast v136
  ![v141.toNat, v142.toNat]

def k0_chk17 (k0_t2 : Fin k0_t2_loop.trips) (v31 : BitVec 32) (v38 : BitVec 32) (v131 : BitVec 32) : Prop :=
  (∀ k0_t35 : Fin k0_t35_loop.trips, ∀ (k0_h1 : k0_cond1 k0_t2 = 1#1), ∀ (k0_h3 : k0_cond3 v31 v38 = 1#1), ∀ a, (k0_off102 v131 k0_t35) a + S1x16.size a ≤ S64x256.size a)
theorem k0_off102_inb : ∀ (k0_t2 : Fin k0_t2_loop.trips) (v31 : BitVec 32) (v38 : BitVec 32) (v131 : BitVec 32) (k0_hw17 : k0_chk17 k0_t2 v31 v38 v131) (k0_t35 : Fin k0_t35_loop.trips), ∀ (k0_h1 : k0_cond1 k0_t2 = 1#1), ∀ (k0_h3 : k0_cond3 v31 v38 = 1#1), ∀ a, (k0_off102 v131 k0_t35) a + S1x16.size a ≤ S64x256.size a := fun k0_t2 v31 v38 v131 k0_hw17 k0_t35 k0_h1 k0_h3 => k0_hw17 k0_t35 k0_h1 k0_h3

def k0_cond4 (k0_t2 : Fin k0_t2_loop.trips) : BitVec 1 :=
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c2_i32_25 : BitVec 32 := 2#32
  let v45 : BitVec 32 := Scalar.addi v13 c2_i32_25
  let c5_i32_26 : BitVec 32 := 5#32
  let v46 : BitVec 1 := Scalar.cmpi .slt v45 c5_i32_26
  let v47 : BitVec 32 := Scalar.extui v46
  let c0_i32_27 : BitVec 32 := 0#32
  let v48 : BitVec 1 := Scalar.cmpi .ne v47 c0_i32_27
  v48

def k0_off103 (i : grid0.Coords) (k0_t2 : Fin k0_t2_loop.trips) : Fin 2 → Nat :=
  let c37200_i32 : BitVec 32 := 37200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v3 : BitVec 32 := Scalar.addi c37200_i32 v2
  let c2_i32_11 : BitVec 32 := 2#32
  let c0_i32_8 : BitVec 32 := 0#32
  let c1_i32_9 : BitVec 32 := 1#32
  let arg13 : BitVec 32 := Scf.iv c0_i32_8 c1_i32_9 k0_t2
  let v12 : BitVec 32 := Scalar.muli c2_i32_11 arg13
  let c0_i32_12 : BitVec 32 := 0#32
  let v13 : BitVec 32 := Scalar.addi v12 c0_i32_12
  let c2_i32_28 : BitVec 32 := 2#32
  let v49 : BitVec 32 := Scalar.addi v13 c2_i32_28
  let c80_i32_29 : BitVec 32 := 80#32
  let v50 : BitVec 32 := Scalar.muli v49 c80_i32_29
  let v51 : BitVec 32 := Scalar.addi v3 v50
  let c0_i32_30 : BitVec 32 := 0#32
  ![v51.toNat, 0]
def k0_cond5 (k0_t2 : Fin k0_t2_loop.trips) : BitVec 1 :=
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c5_i32_16 : BitVec 32 := 5#32
  let v19 : BitVec 1 := Scalar.cmpi .slt v18 c5_i32_16
  let v20 : BitVec 32 := Scalar.extui v19
  let c0_i32_17 : BitVec 32 := 0#32
  let v21 : BitVec 1 := Scalar.cmpi .ne v20 c0_i32_17
  v21

def k0_off104 (i : grid0.Coords) (k0_t2 : Fin k0_t2_loop.trips) : Fin 2 → Nat :=
  let c37200_i32 : BitVec 32 := 37200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v3 : BitVec 32 := Scalar.addi c37200_i32 v2
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c80_i32_18 : BitVec 32 := 80#32
  let v22 : BitVec 32 := Scalar.muli v18 c80_i32_18
  let v23 : BitVec 32 := Scalar.addi v3 v22
  let c0_i32_19 : BitVec 32 := 0#32
  ![v23.toNat, 0]
def k0_off105 (k0_t2 : Fin k0_t2_loop.trips) : Fin 1 → Nat :=
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c80_i32_21 : BitVec 32 := 80#32
  let v26 : BitVec 32 := Scalar.muli v18 c80_i32_21
  let v27 : Index := Scalar.indexCast v26
  ![v27.toNat]
def k0_off106 (k0_t2 : Fin k0_t2_loop.trips) : Fin 1 → Nat :=
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c80_i32_21 : BitVec 32 := 80#32
  let v26 : BitVec 32 := Scalar.muli v18 c80_i32_21
  let c80_i32_22 : BitVec 32 := 80#32
  let v32 : BitVec 32 := Scalar.addi v26 c80_i32_22
  let c16_i32 : BitVec 32 := 16#32
  let v33 : BitVec 32 := Scalar.subi v32 c16_i32
  let v34 : Index := Scalar.indexCast v33
  ![v34.toNat]
@[reducible] def k0_t36_loop : Scf.Loop 32 :=
  let c0_i32_28 : BitVec 32 := 0#32
  let c5_i32_29 : BitVec 32 := 5#32
  let v50 : BitVec 32 := Scalar.addi c0_i32_28 c5_i32_29
  let c1_i32_30 : BitVec 32 := 1#32
  ⟨c0_i32_28, v50, c1_i32_30⟩
def k0_off107 (k0_t36 : Fin k0_t36_loop.trips) (c0_i32_156 : BitVec 32) : Fin 2 → Nat :=
  let c0_i32_28 : BitVec 32 := 0#32
  let c1_i32_30 : BitVec 32 := 1#32
  let arg14 : BitVec 32 := Scf.iv c0_i32_28 c1_i32_30 k0_t36
  let c16_i32_155 : BitVec 32 := 16#32
  let v385 : BitVec 32 := Scalar.muli arg14 c16_i32_155
  let v386 : BitVec 32 := Scalar.addi v385 c0_i32_156
  let v387 : Index := Scalar.indexCast v386
  let c0_157 : Index := 0#32
  ![v387.toNat, 0]
def k0_off108 (k0_t36 : Fin k0_t36_loop.trips) (c0_i32_158 : BitVec 32) : Fin 2 → Nat :=
  let c0_i32_28 : BitVec 32 := 0#32
  let c1_i32_30 : BitVec 32 := 1#32
  let arg14 : BitVec 32 := Scf.iv c0_i32_28 c1_i32_30 k0_t36
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c0_160 : Index := 0#32
  ![v392.toNat, 0]
def k0_off109 (v31 : BitVec 32) : Fin 2 → Nat :=
  let v52 : Index := Scalar.indexCast v31
  let c0 : Index := 0#32
  ![v52.toNat, 0]
def k0_cond6 (v31 : BitVec 32) (v38 : BitVec 32) : BitVec 1 :=
  let v39 : BitVec 1 := Scalar.cmpi .eq v31 v38
  let v40 : BitVec 32 := Scalar.extui v39
  let c0_i32_23 : BitVec 32 := 0#32
  let v41 : BitVec 1 := Scalar.cmpi .ne v40 c0_i32_23
  v41

@[reducible] def k0_t37_loop : Scf.Loop 32 :=
  let c0_i32_36 : BitVec 32 := 0#32
  let c5_i32_37 : BitVec 32 := 5#32
  let v71 : BitVec 32 := Scalar.addi c0_i32_36 c5_i32_37
  let c1_i32_38 : BitVec 32 := 1#32
  ⟨c0_i32_36, v71, c1_i32_38⟩
def k0_off110 (k0_t37 : Fin k0_t37_loop.trips) (c0_i32_156 : BitVec 32) : Fin 2 → Nat :=
  let c0_i32_36 : BitVec 32 := 0#32
  let c1_i32_38 : BitVec 32 := 1#32
  let arg14 : BitVec 32 := Scf.iv c0_i32_36 c1_i32_38 k0_t37
  let c16_i32_155 : BitVec 32 := 16#32
  let v385 : BitVec 32 := Scalar.muli arg14 c16_i32_155
  let v386 : BitVec 32 := Scalar.addi v385 c0_i32_156
  let v387 : Index := Scalar.indexCast v386
  let c16_157 : Index := 16#32
  ![v387.toNat, 16]
def k0_off111 (k0_t37 : Fin k0_t37_loop.trips) (c0_i32_158 : BitVec 32) : Fin 2 → Nat :=
  let c0_i32_36 : BitVec 32 := 0#32
  let c1_i32_38 : BitVec 32 := 1#32
  let arg14 : BitVec 32 := Scf.iv c0_i32_36 c1_i32_38 k0_t37
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c16_160 : Index := 16#32
  ![v392.toNat, 16]
def k0_off112 (v31 : BitVec 32) : Fin 2 → Nat :=
  let v73 : Index := Scalar.indexCast v31
  let c16 : Index := 16#32
  ![v73.toNat, 16]
@[reducible] def k0_t38_loop : Scf.Loop 32 :=
  let c0_i32_44 : BitVec 32 := 0#32
  let c5_i32_45 : BitVec 32 := 5#32
  let v92 : BitVec 32 := Scalar.addi c0_i32_44 c5_i32_45
  let c1_i32_46 : BitVec 32 := 1#32
  ⟨c0_i32_44, v92, c1_i32_46⟩
def k0_off113 (k0_t38 : Fin k0_t38_loop.trips) (c0_i32_156 : BitVec 32) : Fin 2 → Nat :=
  let c0_i32_44 : BitVec 32 := 0#32
  let c1_i32_46 : BitVec 32 := 1#32
  let arg14 : BitVec 32 := Scf.iv c0_i32_44 c1_i32_46 k0_t38
  let c16_i32_155 : BitVec 32 := 16#32
  let v385 : BitVec 32 := Scalar.muli arg14 c16_i32_155
  let v386 : BitVec 32 := Scalar.addi v385 c0_i32_156
  let v387 : Index := Scalar.indexCast v386
  let c32_157 : Index := 32#32
  ![v387.toNat, 32]
def k0_off114 (k0_t38 : Fin k0_t38_loop.trips) (c0_i32_158 : BitVec 32) : Fin 2 → Nat :=
  let c0_i32_44 : BitVec 32 := 0#32
  let c1_i32_46 : BitVec 32 := 1#32
  let arg14 : BitVec 32 := Scf.iv c0_i32_44 c1_i32_46 k0_t38
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c32_160 : Index := 32#32
  ![v392.toNat, 32]
def k0_off115 (v31 : BitVec 32) : Fin 2 → Nat :=
  let v94 : Index := Scalar.indexCast v31
  let c32 : Index := 32#32
  ![v94.toNat, 32]
@[reducible] def k0_t39_loop : Scf.Loop 32 :=
  let c0_i32_52 : BitVec 32 := 0#32
  let c5_i32_53 : BitVec 32 := 5#32
  let v113 : BitVec 32 := Scalar.addi c0_i32_52 c5_i32_53
  let c1_i32_54 : BitVec 32 := 1#32
  ⟨c0_i32_52, v113, c1_i32_54⟩
def k0_off116 (k0_t39 : Fin k0_t39_loop.trips) (c0_i32_156 : BitVec 32) : Fin 2 → Nat :=
  let c0_i32_52 : BitVec 32 := 0#32
  let c1_i32_54 : BitVec 32 := 1#32
  let arg14 : BitVec 32 := Scf.iv c0_i32_52 c1_i32_54 k0_t39
  let c16_i32_155 : BitVec 32 := 16#32
  let v385 : BitVec 32 := Scalar.muli arg14 c16_i32_155
  let v386 : BitVec 32 := Scalar.addi v385 c0_i32_156
  let v387 : Index := Scalar.indexCast v386
  let c48_157 : Index := 48#32
  ![v387.toNat, 48]
def k0_off117 (k0_t39 : Fin k0_t39_loop.trips) (c0_i32_158 : BitVec 32) : Fin 2 → Nat :=
  let c0_i32_52 : BitVec 32 := 0#32
  let c1_i32_54 : BitVec 32 := 1#32
  let arg14 : BitVec 32 := Scf.iv c0_i32_52 c1_i32_54 k0_t39
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c48_160 : Index := 48#32
  ![v392.toNat, 48]
def k0_off118 (v31 : BitVec 32) : Fin 2 → Nat :=
  let v115 : Index := Scalar.indexCast v31
  let c48 : Index := 48#32
  ![v115.toNat, 48]
@[reducible] def k0_t40_loop : Scf.Loop 32 :=
  let c0_i32_60 : BitVec 32 := 0#32
  let c5_i32_61 : BitVec 32 := 5#32
  let v134 : BitVec 32 := Scalar.addi c0_i32_60 c5_i32_61
  let c1_i32_62 : BitVec 32 := 1#32
  ⟨c0_i32_60, v134, c1_i32_62⟩
def k0_off119 (k0_t40 : Fin k0_t40_loop.trips) (c0_i32_156 : BitVec 32) : Fin 2 → Nat :=
  let c0_i32_60 : BitVec 32 := 0#32
  let c1_i32_62 : BitVec 32 := 1#32
  let arg14 : BitVec 32 := Scf.iv c0_i32_60 c1_i32_62 k0_t40
  let c16_i32_155 : BitVec 32 := 16#32
  let v385 : BitVec 32 := Scalar.muli arg14 c16_i32_155
  let v386 : BitVec 32 := Scalar.addi v385 c0_i32_156
  let v387 : Index := Scalar.indexCast v386
  let c64_157 : Index := 64#32
  ![v387.toNat, 64]
def k0_off120 (k0_t40 : Fin k0_t40_loop.trips) (c0_i32_158 : BitVec 32) : Fin 2 → Nat :=
  let c0_i32_60 : BitVec 32 := 0#32
  let c1_i32_62 : BitVec 32 := 1#32
  let arg14 : BitVec 32 := Scf.iv c0_i32_60 c1_i32_62 k0_t40
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c64_160 : Index := 64#32
  ![v392.toNat, 64]
def k0_off121 (v31 : BitVec 32) : Fin 2 → Nat :=
  let v136 : Index := Scalar.indexCast v31
  let c64 : Index := 64#32
  ![v136.toNat, 64]
@[reducible] def k0_t41_loop : Scf.Loop 32 :=
  let c0_i32_68 : BitVec 32 := 0#32
  let c5_i32_69 : BitVec 32 := 5#32
  let v155 : BitVec 32 := Scalar.addi c0_i32_68 c5_i32_69
  let c1_i32_70 : BitVec 32 := 1#32
  ⟨c0_i32_68, v155, c1_i32_70⟩
def k0_off122 (k0_t41 : Fin k0_t41_loop.trips) (c0_i32_156 : BitVec 32) : Fin 2 → Nat :=
  let c0_i32_68 : BitVec 32 := 0#32
  let c1_i32_70 : BitVec 32 := 1#32
  let arg14 : BitVec 32 := Scf.iv c0_i32_68 c1_i32_70 k0_t41
  let c16_i32_155 : BitVec 32 := 16#32
  let v385 : BitVec 32 := Scalar.muli arg14 c16_i32_155
  let v386 : BitVec 32 := Scalar.addi v385 c0_i32_156
  let v387 : Index := Scalar.indexCast v386
  let c80_157 : Index := 80#32
  ![v387.toNat, 80]
def k0_off123 (k0_t41 : Fin k0_t41_loop.trips) (c0_i32_158 : BitVec 32) : Fin 2 → Nat :=
  let c0_i32_68 : BitVec 32 := 0#32
  let c1_i32_70 : BitVec 32 := 1#32
  let arg14 : BitVec 32 := Scf.iv c0_i32_68 c1_i32_70 k0_t41
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c80_160 : Index := 80#32
  ![v392.toNat, 80]
def k0_off124 (v31 : BitVec 32) : Fin 2 → Nat :=
  let v157 : Index := Scalar.indexCast v31
  let c80 : Index := 80#32
  ![v157.toNat, 80]
@[reducible] def k0_t42_loop : Scf.Loop 32 :=
  let c0_i32_76 : BitVec 32 := 0#32
  let c5_i32_77 : BitVec 32 := 5#32
  let v176 : BitVec 32 := Scalar.addi c0_i32_76 c5_i32_77
  let c1_i32_78 : BitVec 32 := 1#32
  ⟨c0_i32_76, v176, c1_i32_78⟩
def k0_off125 (k0_t42 : Fin k0_t42_loop.trips) (c0_i32_156 : BitVec 32) : Fin 2 → Nat :=
  let c0_i32_76 : BitVec 32 := 0#32
  let c1_i32_78 : BitVec 32 := 1#32
  let arg14 : BitVec 32 := Scf.iv c0_i32_76 c1_i32_78 k0_t42
  let c16_i32_155 : BitVec 32 := 16#32
  let v385 : BitVec 32 := Scalar.muli arg14 c16_i32_155
  let v386 : BitVec 32 := Scalar.addi v385 c0_i32_156
  let v387 : Index := Scalar.indexCast v386
  let c96_157 : Index := 96#32
  ![v387.toNat, 96]
def k0_off126 (k0_t42 : Fin k0_t42_loop.trips) (c0_i32_158 : BitVec 32) : Fin 2 → Nat :=
  let c0_i32_76 : BitVec 32 := 0#32
  let c1_i32_78 : BitVec 32 := 1#32
  let arg14 : BitVec 32 := Scf.iv c0_i32_76 c1_i32_78 k0_t42
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c96_160 : Index := 96#32
  ![v392.toNat, 96]
def k0_off127 (v31 : BitVec 32) : Fin 2 → Nat :=
  let v178 : Index := Scalar.indexCast v31
  let c96 : Index := 96#32
  ![v178.toNat, 96]
@[reducible] def k0_t43_loop : Scf.Loop 32 :=
  let c0_i32_84 : BitVec 32 := 0#32
  let c5_i32_85 : BitVec 32 := 5#32
  let v197 : BitVec 32 := Scalar.addi c0_i32_84 c5_i32_85
  let c1_i32_86 : BitVec 32 := 1#32
  ⟨c0_i32_84, v197, c1_i32_86⟩
def k0_off128 (k0_t43 : Fin k0_t43_loop.trips) (c0_i32_156 : BitVec 32) : Fin 2 → Nat :=
  let c0_i32_84 : BitVec 32 := 0#32
  let c1_i32_86 : BitVec 32 := 1#32
  let arg14 : BitVec 32 := Scf.iv c0_i32_84 c1_i32_86 k0_t43
  let c16_i32_155 : BitVec 32 := 16#32
  let v385 : BitVec 32 := Scalar.muli arg14 c16_i32_155
  let v386 : BitVec 32 := Scalar.addi v385 c0_i32_156
  let v387 : Index := Scalar.indexCast v386
  let c112_157 : Index := 112#32
  ![v387.toNat, 112]
def k0_off129 (k0_t43 : Fin k0_t43_loop.trips) (c0_i32_158 : BitVec 32) : Fin 2 → Nat :=
  let c0_i32_84 : BitVec 32 := 0#32
  let c1_i32_86 : BitVec 32 := 1#32
  let arg14 : BitVec 32 := Scf.iv c0_i32_84 c1_i32_86 k0_t43
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c112_160 : Index := 112#32
  ![v392.toNat, 112]
def k0_off130 (v31 : BitVec 32) : Fin 2 → Nat :=
  let v199 : Index := Scalar.indexCast v31
  let c112 : Index := 112#32
  ![v199.toNat, 112]
@[reducible] def k0_t44_loop : Scf.Loop 32 :=
  let c0_i32_92 : BitVec 32 := 0#32
  let c5_i32_93 : BitVec 32 := 5#32
  let v218 : BitVec 32 := Scalar.addi c0_i32_92 c5_i32_93
  let c1_i32_94 : BitVec 32 := 1#32
  ⟨c0_i32_92, v218, c1_i32_94⟩
def k0_off131 (k0_t44 : Fin k0_t44_loop.trips) (c0_i32_156 : BitVec 32) : Fin 2 → Nat :=
  let c0_i32_92 : BitVec 32 := 0#32
  let c1_i32_94 : BitVec 32 := 1#32
  let arg14 : BitVec 32 := Scf.iv c0_i32_92 c1_i32_94 k0_t44
  let c16_i32_155 : BitVec 32 := 16#32
  let v385 : BitVec 32 := Scalar.muli arg14 c16_i32_155
  let v386 : BitVec 32 := Scalar.addi v385 c0_i32_156
  let v387 : Index := Scalar.indexCast v386
  let c128_157 : Index := 128#32
  ![v387.toNat, 128]
def k0_off132 (k0_t44 : Fin k0_t44_loop.trips) (c0_i32_158 : BitVec 32) : Fin 2 → Nat :=
  let c0_i32_92 : BitVec 32 := 0#32
  let c1_i32_94 : BitVec 32 := 1#32
  let arg14 : BitVec 32 := Scf.iv c0_i32_92 c1_i32_94 k0_t44
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c128_160 : Index := 128#32
  ![v392.toNat, 128]
def k0_off133 (v31 : BitVec 32) : Fin 2 → Nat :=
  let v220 : Index := Scalar.indexCast v31
  let c128 : Index := 128#32
  ![v220.toNat, 128]
@[reducible] def k0_t45_loop : Scf.Loop 32 :=
  let c0_i32_100 : BitVec 32 := 0#32
  let c5_i32_101 : BitVec 32 := 5#32
  let v239 : BitVec 32 := Scalar.addi c0_i32_100 c5_i32_101
  let c1_i32_102 : BitVec 32 := 1#32
  ⟨c0_i32_100, v239, c1_i32_102⟩
def k0_off134 (k0_t45 : Fin k0_t45_loop.trips) (c0_i32_156 : BitVec 32) : Fin 2 → Nat :=
  let c0_i32_100 : BitVec 32 := 0#32
  let c1_i32_102 : BitVec 32 := 1#32
  let arg14 : BitVec 32 := Scf.iv c0_i32_100 c1_i32_102 k0_t45
  let c16_i32_155 : BitVec 32 := 16#32
  let v385 : BitVec 32 := Scalar.muli arg14 c16_i32_155
  let v386 : BitVec 32 := Scalar.addi v385 c0_i32_156
  let v387 : Index := Scalar.indexCast v386
  let c144_157 : Index := 144#32
  ![v387.toNat, 144]
def k0_off135 (k0_t45 : Fin k0_t45_loop.trips) (c0_i32_158 : BitVec 32) : Fin 2 → Nat :=
  let c0_i32_100 : BitVec 32 := 0#32
  let c1_i32_102 : BitVec 32 := 1#32
  let arg14 : BitVec 32 := Scf.iv c0_i32_100 c1_i32_102 k0_t45
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c144_160 : Index := 144#32
  ![v392.toNat, 144]
def k0_off136 (v31 : BitVec 32) : Fin 2 → Nat :=
  let v241 : Index := Scalar.indexCast v31
  let c144 : Index := 144#32
  ![v241.toNat, 144]
@[reducible] def k0_t46_loop : Scf.Loop 32 :=
  let c0_i32_108 : BitVec 32 := 0#32
  let c5_i32_109 : BitVec 32 := 5#32
  let v260 : BitVec 32 := Scalar.addi c0_i32_108 c5_i32_109
  let c1_i32_110 : BitVec 32 := 1#32
  ⟨c0_i32_108, v260, c1_i32_110⟩
def k0_off137 (k0_t46 : Fin k0_t46_loop.trips) (c0_i32_156 : BitVec 32) : Fin 2 → Nat :=
  let c0_i32_108 : BitVec 32 := 0#32
  let c1_i32_110 : BitVec 32 := 1#32
  let arg14 : BitVec 32 := Scf.iv c0_i32_108 c1_i32_110 k0_t46
  let c16_i32_155 : BitVec 32 := 16#32
  let v385 : BitVec 32 := Scalar.muli arg14 c16_i32_155
  let v386 : BitVec 32 := Scalar.addi v385 c0_i32_156
  let v387 : Index := Scalar.indexCast v386
  let c160_157 : Index := 160#32
  ![v387.toNat, 160]
def k0_off138 (k0_t46 : Fin k0_t46_loop.trips) (c0_i32_158 : BitVec 32) : Fin 2 → Nat :=
  let c0_i32_108 : BitVec 32 := 0#32
  let c1_i32_110 : BitVec 32 := 1#32
  let arg14 : BitVec 32 := Scf.iv c0_i32_108 c1_i32_110 k0_t46
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c160_160 : Index := 160#32
  ![v392.toNat, 160]
def k0_off139 (v31 : BitVec 32) : Fin 2 → Nat :=
  let v262 : Index := Scalar.indexCast v31
  let c160 : Index := 160#32
  ![v262.toNat, 160]
@[reducible] def k0_t47_loop : Scf.Loop 32 :=
  let c0_i32_116 : BitVec 32 := 0#32
  let c5_i32_117 : BitVec 32 := 5#32
  let v281 : BitVec 32 := Scalar.addi c0_i32_116 c5_i32_117
  let c1_i32_118 : BitVec 32 := 1#32
  ⟨c0_i32_116, v281, c1_i32_118⟩
def k0_off140 (k0_t47 : Fin k0_t47_loop.trips) (c0_i32_156 : BitVec 32) : Fin 2 → Nat :=
  let c0_i32_116 : BitVec 32 := 0#32
  let c1_i32_118 : BitVec 32 := 1#32
  let arg14 : BitVec 32 := Scf.iv c0_i32_116 c1_i32_118 k0_t47
  let c16_i32_155 : BitVec 32 := 16#32
  let v385 : BitVec 32 := Scalar.muli arg14 c16_i32_155
  let v386 : BitVec 32 := Scalar.addi v385 c0_i32_156
  let v387 : Index := Scalar.indexCast v386
  let c176_157 : Index := 176#32
  ![v387.toNat, 176]
def k0_off141 (k0_t47 : Fin k0_t47_loop.trips) (c0_i32_158 : BitVec 32) : Fin 2 → Nat :=
  let c0_i32_116 : BitVec 32 := 0#32
  let c1_i32_118 : BitVec 32 := 1#32
  let arg14 : BitVec 32 := Scf.iv c0_i32_116 c1_i32_118 k0_t47
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c176_160 : Index := 176#32
  ![v392.toNat, 176]
def k0_off142 (v31 : BitVec 32) : Fin 2 → Nat :=
  let v283 : Index := Scalar.indexCast v31
  let c176 : Index := 176#32
  ![v283.toNat, 176]
@[reducible] def k0_t48_loop : Scf.Loop 32 :=
  let c0_i32_124 : BitVec 32 := 0#32
  let c5_i32_125 : BitVec 32 := 5#32
  let v302 : BitVec 32 := Scalar.addi c0_i32_124 c5_i32_125
  let c1_i32_126 : BitVec 32 := 1#32
  ⟨c0_i32_124, v302, c1_i32_126⟩
def k0_off143 (k0_t48 : Fin k0_t48_loop.trips) (c0_i32_156 : BitVec 32) : Fin 2 → Nat :=
  let c0_i32_124 : BitVec 32 := 0#32
  let c1_i32_126 : BitVec 32 := 1#32
  let arg14 : BitVec 32 := Scf.iv c0_i32_124 c1_i32_126 k0_t48
  let c16_i32_155 : BitVec 32 := 16#32
  let v385 : BitVec 32 := Scalar.muli arg14 c16_i32_155
  let v386 : BitVec 32 := Scalar.addi v385 c0_i32_156
  let v387 : Index := Scalar.indexCast v386
  let c192_157 : Index := 192#32
  ![v387.toNat, 192]
def k0_off144 (k0_t48 : Fin k0_t48_loop.trips) (c0_i32_158 : BitVec 32) : Fin 2 → Nat :=
  let c0_i32_124 : BitVec 32 := 0#32
  let c1_i32_126 : BitVec 32 := 1#32
  let arg14 : BitVec 32 := Scf.iv c0_i32_124 c1_i32_126 k0_t48
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c192_160 : Index := 192#32
  ![v392.toNat, 192]
def k0_off145 (v31 : BitVec 32) : Fin 2 → Nat :=
  let v304 : Index := Scalar.indexCast v31
  let c192 : Index := 192#32
  ![v304.toNat, 192]
@[reducible] def k0_t49_loop : Scf.Loop 32 :=
  let c0_i32_132 : BitVec 32 := 0#32
  let c5_i32_133 : BitVec 32 := 5#32
  let v323 : BitVec 32 := Scalar.addi c0_i32_132 c5_i32_133
  let c1_i32_134 : BitVec 32 := 1#32
  ⟨c0_i32_132, v323, c1_i32_134⟩
def k0_off146 (k0_t49 : Fin k0_t49_loop.trips) (c0_i32_156 : BitVec 32) : Fin 2 → Nat :=
  let c0_i32_132 : BitVec 32 := 0#32
  let c1_i32_134 : BitVec 32 := 1#32
  let arg14 : BitVec 32 := Scf.iv c0_i32_132 c1_i32_134 k0_t49
  let c16_i32_155 : BitVec 32 := 16#32
  let v385 : BitVec 32 := Scalar.muli arg14 c16_i32_155
  let v386 : BitVec 32 := Scalar.addi v385 c0_i32_156
  let v387 : Index := Scalar.indexCast v386
  let c208_157 : Index := 208#32
  ![v387.toNat, 208]
def k0_off147 (k0_t49 : Fin k0_t49_loop.trips) (c0_i32_158 : BitVec 32) : Fin 2 → Nat :=
  let c0_i32_132 : BitVec 32 := 0#32
  let c1_i32_134 : BitVec 32 := 1#32
  let arg14 : BitVec 32 := Scf.iv c0_i32_132 c1_i32_134 k0_t49
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c208_160 : Index := 208#32
  ![v392.toNat, 208]
def k0_off148 (v31 : BitVec 32) : Fin 2 → Nat :=
  let v325 : Index := Scalar.indexCast v31
  let c208 : Index := 208#32
  ![v325.toNat, 208]
@[reducible] def k0_t50_loop : Scf.Loop 32 :=
  let c0_i32_140 : BitVec 32 := 0#32
  let c5_i32_141 : BitVec 32 := 5#32
  let v344 : BitVec 32 := Scalar.addi c0_i32_140 c5_i32_141
  let c1_i32_142 : BitVec 32 := 1#32
  ⟨c0_i32_140, v344, c1_i32_142⟩
def k0_off149 (k0_t50 : Fin k0_t50_loop.trips) (c0_i32_156 : BitVec 32) : Fin 2 → Nat :=
  let c0_i32_140 : BitVec 32 := 0#32
  let c1_i32_142 : BitVec 32 := 1#32
  let arg14 : BitVec 32 := Scf.iv c0_i32_140 c1_i32_142 k0_t50
  let c16_i32_155 : BitVec 32 := 16#32
  let v385 : BitVec 32 := Scalar.muli arg14 c16_i32_155
  let v386 : BitVec 32 := Scalar.addi v385 c0_i32_156
  let v387 : Index := Scalar.indexCast v386
  let c224_157 : Index := 224#32
  ![v387.toNat, 224]
def k0_off150 (k0_t50 : Fin k0_t50_loop.trips) (c0_i32_158 : BitVec 32) : Fin 2 → Nat :=
  let c0_i32_140 : BitVec 32 := 0#32
  let c1_i32_142 : BitVec 32 := 1#32
  let arg14 : BitVec 32 := Scf.iv c0_i32_140 c1_i32_142 k0_t50
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c224_160 : Index := 224#32
  ![v392.toNat, 224]
def k0_off151 (v31 : BitVec 32) : Fin 2 → Nat :=
  let v346 : Index := Scalar.indexCast v31
  let c224 : Index := 224#32
  ![v346.toNat, 224]
@[reducible] def k0_t51_loop : Scf.Loop 32 :=
  let c0_i32_148 : BitVec 32 := 0#32
  let c5_i32_149 : BitVec 32 := 5#32
  let v365 : BitVec 32 := Scalar.addi c0_i32_148 c5_i32_149
  let c1_i32_150 : BitVec 32 := 1#32
  ⟨c0_i32_148, v365, c1_i32_150⟩
def k0_off152 (k0_t51 : Fin k0_t51_loop.trips) (c0_i32_156 : BitVec 32) : Fin 2 → Nat :=
  let c0_i32_148 : BitVec 32 := 0#32
  let c1_i32_150 : BitVec 32 := 1#32
  let arg14 : BitVec 32 := Scf.iv c0_i32_148 c1_i32_150 k0_t51
  let c16_i32_155 : BitVec 32 := 16#32
  let v385 : BitVec 32 := Scalar.muli arg14 c16_i32_155
  let v386 : BitVec 32 := Scalar.addi v385 c0_i32_156
  let v387 : Index := Scalar.indexCast v386
  let c240_157 : Index := 240#32
  ![v387.toNat, 240]
def k0_off153 (k0_t51 : Fin k0_t51_loop.trips) (c0_i32_158 : BitVec 32) : Fin 2 → Nat :=
  let c0_i32_148 : BitVec 32 := 0#32
  let c1_i32_150 : BitVec 32 := 1#32
  let arg14 : BitVec 32 := Scf.iv c0_i32_148 c1_i32_150 k0_t51
  let c16_i32_155 : BitVec 32 := 16#32
  let v385 : BitVec 32 := Scalar.muli arg14 c16_i32_155
  let v390 : BitVec 32 := Scalar.addi v385 c0_i32_158
  let c1_i32_159 : BitVec 32 := 1#32
  let v391 : BitVec 32 := Scalar.addi v390 c1_i32_159
  let v392 : Index := Scalar.indexCast v391
  let c240_160 : Index := 240#32
  ![v392.toNat, 240]
def k0_off154 (v31 : BitVec 32) : Fin 2 → Nat :=
  let v367 : Index := Scalar.indexCast v31
  let c240 : Index := 240#32
  ![v367.toNat, 240]

def k0_chk18 (k0_t2 : Fin k0_t2_loop.trips) (v31 : BitVec 32) (v38 : BitVec 32) : Prop :=
  (∀ (k0_h5 : k0_cond5 k0_t2 = 1#1), ∀ (k0_h6 : k0_cond6 v31 v38 = 1#1), ∀ a, (k0_off109 v31) a + S1x16.size a ≤ S64x256.size a) ∧
  (∀ (k0_h5 : k0_cond5 k0_t2 = 1#1), ∀ (k0_h6 : k0_cond6 v31 v38 = 1#1), ∀ a, (k0_off112 v31) a + S1x16.size a ≤ S64x256.size a) ∧
  (∀ (k0_h5 : k0_cond5 k0_t2 = 1#1), ∀ (k0_h6 : k0_cond6 v31 v38 = 1#1), ∀ a, (k0_off115 v31) a + S1x16.size a ≤ S64x256.size a) ∧
  (∀ (k0_h5 : k0_cond5 k0_t2 = 1#1), ∀ (k0_h6 : k0_cond6 v31 v38 = 1#1), ∀ a, (k0_off118 v31) a + S1x16.size a ≤ S64x256.size a) ∧
  (∀ (k0_h5 : k0_cond5 k0_t2 = 1#1), ∀ (k0_h6 : k0_cond6 v31 v38 = 1#1), ∀ a, (k0_off121 v31) a + S1x16.size a ≤ S64x256.size a) ∧
  (∀ (k0_h5 : k0_cond5 k0_t2 = 1#1), ∀ (k0_h6 : k0_cond6 v31 v38 = 1#1), ∀ a, (k0_off124 v31) a + S1x16.size a ≤ S64x256.size a) ∧
  (∀ (k0_h5 : k0_cond5 k0_t2 = 1#1), ∀ (k0_h6 : k0_cond6 v31 v38 = 1#1), ∀ a, (k0_off127 v31) a + S1x16.size a ≤ S64x256.size a) ∧
  (∀ (k0_h5 : k0_cond5 k0_t2 = 1#1), ∀ (k0_h6 : k0_cond6 v31 v38 = 1#1), ∀ a, (k0_off130 v31) a + S1x16.size a ≤ S64x256.size a) ∧
  (∀ (k0_h5 : k0_cond5 k0_t2 = 1#1), ∀ (k0_h6 : k0_cond6 v31 v38 = 1#1), ∀ a, (k0_off133 v31) a + S1x16.size a ≤ S64x256.size a) ∧
  (∀ (k0_h5 : k0_cond5 k0_t2 = 1#1), ∀ (k0_h6 : k0_cond6 v31 v38 = 1#1), ∀ a, (k0_off136 v31) a + S1x16.size a ≤ S64x256.size a) ∧
  (∀ (k0_h5 : k0_cond5 k0_t2 = 1#1), ∀ (k0_h6 : k0_cond6 v31 v38 = 1#1), ∀ a, (k0_off139 v31) a + S1x16.size a ≤ S64x256.size a) ∧
  (∀ (k0_h5 : k0_cond5 k0_t2 = 1#1), ∀ (k0_h6 : k0_cond6 v31 v38 = 1#1), ∀ a, (k0_off142 v31) a + S1x16.size a ≤ S64x256.size a) ∧
  (∀ (k0_h5 : k0_cond5 k0_t2 = 1#1), ∀ (k0_h6 : k0_cond6 v31 v38 = 1#1), ∀ a, (k0_off145 v31) a + S1x16.size a ≤ S64x256.size a) ∧
  (∀ (k0_h5 : k0_cond5 k0_t2 = 1#1), ∀ (k0_h6 : k0_cond6 v31 v38 = 1#1), ∀ a, (k0_off148 v31) a + S1x16.size a ≤ S64x256.size a) ∧
  (∀ (k0_h5 : k0_cond5 k0_t2 = 1#1), ∀ (k0_h6 : k0_cond6 v31 v38 = 1#1), ∀ a, (k0_off151 v31) a + S1x16.size a ≤ S64x256.size a) ∧
  (∀ (k0_h5 : k0_cond5 k0_t2 = 1#1), ∀ (k0_h6 : k0_cond6 v31 v38 = 1#1), ∀ a, (k0_off154 v31) a + S1x16.size a ≤ S64x256.size a)
theorem k0_off109_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off109 v31) a + S1x16.size a ≤ S64x256.size a := fun k0_t2 v31 v38 k0_hw18 k0_h5 k0_h6 => k0_hw18.1 k0_h5 k0_h6
theorem k0_off112_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off112 v31) a + S1x16.size a ≤ S64x256.size a := fun k0_t2 v31 v38 k0_hw18 k0_h5 k0_h6 => k0_hw18.2.1 k0_h5 k0_h6
theorem k0_off115_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off115 v31) a + S1x16.size a ≤ S64x256.size a := fun k0_t2 v31 v38 k0_hw18 k0_h5 k0_h6 => k0_hw18.2.2.1 k0_h5 k0_h6
theorem k0_off118_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off118 v31) a + S1x16.size a ≤ S64x256.size a := fun k0_t2 v31 v38 k0_hw18 k0_h5 k0_h6 => k0_hw18.2.2.2.1 k0_h5 k0_h6
theorem k0_off121_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off121 v31) a + S1x16.size a ≤ S64x256.size a := fun k0_t2 v31 v38 k0_hw18 k0_h5 k0_h6 => k0_hw18.2.2.2.2.1 k0_h5 k0_h6
theorem k0_off124_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off124 v31) a + S1x16.size a ≤ S64x256.size a := fun k0_t2 v31 v38 k0_hw18 k0_h5 k0_h6 => k0_hw18.2.2.2.2.2.1 k0_h5 k0_h6
theorem k0_off127_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off127 v31) a + S1x16.size a ≤ S64x256.size a := fun k0_t2 v31 v38 k0_hw18 k0_h5 k0_h6 => k0_hw18.2.2.2.2.2.2.1 k0_h5 k0_h6
theorem k0_off130_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off130 v31) a + S1x16.size a ≤ S64x256.size a := fun k0_t2 v31 v38 k0_hw18 k0_h5 k0_h6 => k0_hw18.2.2.2.2.2.2.2.1 k0_h5 k0_h6
theorem k0_off133_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off133 v31) a + S1x16.size a ≤ S64x256.size a := fun k0_t2 v31 v38 k0_hw18 k0_h5 k0_h6 => k0_hw18.2.2.2.2.2.2.2.2.1 k0_h5 k0_h6
theorem k0_off136_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off136 v31) a + S1x16.size a ≤ S64x256.size a := fun k0_t2 v31 v38 k0_hw18 k0_h5 k0_h6 => k0_hw18.2.2.2.2.2.2.2.2.2.1 k0_h5 k0_h6
theorem k0_off139_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off139 v31) a + S1x16.size a ≤ S64x256.size a := fun k0_t2 v31 v38 k0_hw18 k0_h5 k0_h6 => k0_hw18.2.2.2.2.2.2.2.2.2.2.1 k0_h5 k0_h6
theorem k0_off142_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off142 v31) a + S1x16.size a ≤ S64x256.size a := fun k0_t2 v31 v38 k0_hw18 k0_h5 k0_h6 => k0_hw18.2.2.2.2.2.2.2.2.2.2.2.1 k0_h5 k0_h6
theorem k0_off145_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off145 v31) a + S1x16.size a ≤ S64x256.size a := fun k0_t2 v31 v38 k0_hw18 k0_h5 k0_h6 => k0_hw18.2.2.2.2.2.2.2.2.2.2.2.2.1 k0_h5 k0_h6
theorem k0_off148_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off148 v31) a + S1x16.size a ≤ S64x256.size a := fun k0_t2 v31 v38 k0_hw18 k0_h5 k0_h6 => k0_hw18.2.2.2.2.2.2.2.2.2.2.2.2.2.1 k0_h5 k0_h6
theorem k0_off151_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off151 v31) a + S1x16.size a ≤ S64x256.size a := fun k0_t2 v31 v38 k0_hw18 k0_h5 k0_h6 => k0_hw18.2.2.2.2.2.2.2.2.2.2.2.2.2.2.1 k0_h5 k0_h6
theorem k0_off154_inb : ∀ (k0_t2 : Fin k0_t2_loop.trips) (v31 : BitVec 32) (v38 : BitVec 32) (k0_hw18 : k0_chk18 k0_t2 v31 v38), ∀ (k0_h5 : k0_cond5 k0_t2 = 1#1), ∀ (k0_h6 : k0_cond6 v31 v38 = 1#1), ∀ a, (k0_off154 v31) a + S1x16.size a ≤ S64x256.size a := fun k0_t2 v31 v38 k0_hw18 k0_h5 k0_h6 => k0_hw18.2.2.2.2.2.2.2.2.2.2.2.2.2.2.2 k0_h5 k0_h6

@[reducible] def k0_t52_loop : Scf.Loop 32 :=
  let c0_i32_29 : BitVec 32 := 0#32
  let c5_i32_30 : BitVec 32 := 5#32
  let v49 : BitVec 32 := Scalar.addi c0_i32_29 c5_i32_30
  let c1_i32_31 : BitVec 32 := 1#32
  ⟨c0_i32_29, v49, c1_i32_31⟩
def k0_off155 (k0_t2 : Fin k0_t2_loop.trips) (k0_t52 : Fin k0_t52_loop.trips) : Fin 1 → Nat :=
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c80_i32_21 : BitVec 32 := 80#32
  let v26 : BitVec 32 := Scalar.muli v18 c80_i32_21
  let c0_i32_29 : BitVec 32 := 0#32
  let c1_i32_31 : BitVec 32 := 1#32
  let arg14 : BitVec 32 := Scf.iv c0_i32_29 c1_i32_31 k0_t52
  let c16_i32_33 : BitVec 32 := 16#32
  let v50 : BitVec 32 := Scalar.muli arg14 c16_i32_33
  let v51 : BitVec 32 := Scalar.addi v26 v50
  let v52 : Index := Scalar.indexCast v51
  ![v52.toNat]
@[reducible] def k0_t53_loop : Scf.Loop 32 :=
  let c0_i32_37 : BitVec 32 := 0#32
  let c16_i32_38 : BitVec 32 := 16#32
  let v59 : BitVec 32 := Scalar.addi c0_i32_37 c16_i32_38
  let c1_i32_39 : BitVec 32 := 1#32
  ⟨c0_i32_37, v59, c1_i32_39⟩
def k0_mult17 (k0_t53 : Fin k0_t53_loop.trips) : BitVec 32 :=
  let c0_i32_37 : BitVec 32 := 0#32
  let c1_i32_39 : BitVec 32 := 1#32
  let arg15 : BitVec 32 := Scf.iv c0_i32_37 c1_i32_39 k0_t53
  let c16_i32_135 : BitVec 32 := 16#32
  let v135 : BitVec 32 := Scalar.muli arg15 c16_i32_135
  v135
def k0_off156 (k0_t52 : Fin k0_t52_loop.trips) (k0_t53 : Fin k0_t53_loop.trips) : Fin 2 → Nat :=
  let c0_i32_29 : BitVec 32 := 0#32
  let c1_i32_31 : BitVec 32 := 1#32
  let arg14 : BitVec 32 := Scf.iv c0_i32_29 c1_i32_31 k0_t52
  let c16_i32_34 : BitVec 32 := 16#32
  let v57 : BitVec 32 := Scalar.muli arg14 c16_i32_34
  let c0_i32_35 : BitVec 32 := 0#32
  let v58 : BitVec 32 := Scalar.addi v57 c0_i32_35
  let v137 : Index := Scalar.indexCast v58
  let c0_i32_37 : BitVec 32 := 0#32
  let c1_i32_39 : BitVec 32 := 1#32
  let arg15 : BitVec 32 := Scf.iv c0_i32_37 c1_i32_39 k0_t53
  let c16_i32_135 : BitVec 32 := 16#32
  let v135 : BitVec 32 := Scalar.muli arg15 c16_i32_135
  let v136 : BitVec 32 := v135
  let v138 : Index := Scalar.indexCast v136
  ![v137.toNat, v138.toNat]
def k0_off157 (v56 : BitVec 32) (k0_t53 : Fin k0_t53_loop.trips) : Fin 2 → Nat :=
  let v141 : Index := Scalar.indexCast v56
  let c0_i32_37 : BitVec 32 := 0#32
  let c1_i32_39 : BitVec 32 := 1#32
  let arg15 : BitVec 32 := Scf.iv c0_i32_37 c1_i32_39 k0_t53
  let c16_i32_135 : BitVec 32 := 16#32
  let v135 : BitVec 32 := Scalar.muli arg15 c16_i32_135
  let v136 : BitVec 32 := v135
  let v142 : Index := Scalar.indexCast v136
  ![v141.toNat, v142.toNat]
def k0_cond7 (v31 : BitVec 32) (v38 : BitVec 32) : BitVec 1 :=
  let v42 : BitVec 1 := Scalar.cmpi .ne v31 v38
  let v43 : BitVec 32 := Scalar.extui v42
  let c0_i32_24 : BitVec 32 := 0#32
  let v44 : BitVec 1 := Scalar.cmpi .ne v43 c0_i32_24
  v44

def k0_chk19 (k0_t2 : Fin k0_t2_loop.trips) (v31 : BitVec 32) (v38 : BitVec 32) (v56 : BitVec 32) : Prop :=
  (∀ k0_t53 : Fin k0_t53_loop.trips, ∀ (k0_h5 : k0_cond5 k0_t2 = 1#1), ∀ (k0_h7 : k0_cond7 v31 v38 = 1#1), ∀ a, (k0_off157 v56 k0_t53) a + S1x16.size a ≤ S64x256.size a)
theorem k0_off157_inb : ∀ (k0_t2 : Fin k0_t2_loop.trips) (v31 : BitVec 32) (v38 : BitVec 32) (v56 : BitVec 32) (k0_hw19 : k0_chk19 k0_t2 v31 v38 v56) (k0_t53 : Fin k0_t53_loop.trips), ∀ (k0_h5 : k0_cond5 k0_t2 = 1#1), ∀ (k0_h7 : k0_cond7 v31 v38 = 1#1), ∀ a, (k0_off157 v56 k0_t53) a + S1x16.size a ≤ S64x256.size a := fun k0_t2 v31 v38 v56 k0_hw19 k0_t53 k0_h5 k0_h7 => k0_hw19 k0_t53 k0_h5 k0_h7

@[reducible] def k0_t54_loop : Scf.Loop 32 :=
  let c0_i32_44 : BitVec 32 := 0#32
  let c16_i32_45 : BitVec 32 := 16#32
  let v64 : BitVec 32 := Scalar.addi c0_i32_44 c16_i32_45
  let c1_i32_46 : BitVec 32 := 1#32
  ⟨c0_i32_44, v64, c1_i32_46⟩
def k0_mult18 (k0_t54 : Fin k0_t54_loop.trips) : BitVec 32 :=
  let c0_i32_44 : BitVec 32 := 0#32
  let c1_i32_46 : BitVec 32 := 1#32
  let arg15 : BitVec 32 := Scf.iv c0_i32_44 c1_i32_46 k0_t54
  let c16_i32_135 : BitVec 32 := 16#32
  let v135 : BitVec 32 := Scalar.muli arg15 c16_i32_135
  v135
def k0_off158 (k0_t52 : Fin k0_t52_loop.trips) (k0_t54 : Fin k0_t54_loop.trips) : Fin 2 → Nat :=
  let c0_i32_29 : BitVec 32 := 0#32
  let c1_i32_31 : BitVec 32 := 1#32
  let arg14 : BitVec 32 := Scf.iv c0_i32_29 c1_i32_31 k0_t52
  let c16_i32_41 : BitVec 32 := 16#32
  let v62 : BitVec 32 := Scalar.muli arg14 c16_i32_41
  let c1_i32_42 : BitVec 32 := 1#32
  let v63 : BitVec 32 := Scalar.addi v62 c1_i32_42
  let v137 : Index := Scalar.indexCast v63
  let c0_i32_44 : BitVec 32 := 0#32
  let c1_i32_46 : BitVec 32 := 1#32
  let arg15 : BitVec 32 := Scf.iv c0_i32_44 c1_i32_46 k0_t54
  let c16_i32_135 : BitVec 32 := 16#32
  let v135 : BitVec 32 := Scalar.muli arg15 c16_i32_135
  let v136 : BitVec 32 := v135
  let v138 : Index := Scalar.indexCast v136
  ![v137.toNat, v138.toNat]
def k0_off159 (v61 : BitVec 32) (k0_t54 : Fin k0_t54_loop.trips) : Fin 2 → Nat :=
  let v141 : Index := Scalar.indexCast v61
  let c0_i32_44 : BitVec 32 := 0#32
  let c1_i32_46 : BitVec 32 := 1#32
  let arg15 : BitVec 32 := Scf.iv c0_i32_44 c1_i32_46 k0_t54
  let c16_i32_135 : BitVec 32 := 16#32
  let v135 : BitVec 32 := Scalar.muli arg15 c16_i32_135
  let v136 : BitVec 32 := v135
  let v142 : Index := Scalar.indexCast v136
  ![v141.toNat, v142.toNat]

def k0_chk20 (k0_t2 : Fin k0_t2_loop.trips) (v31 : BitVec 32) (v38 : BitVec 32) (v61 : BitVec 32) : Prop :=
  (∀ k0_t54 : Fin k0_t54_loop.trips, ∀ (k0_h5 : k0_cond5 k0_t2 = 1#1), ∀ (k0_h7 : k0_cond7 v31 v38 = 1#1), ∀ a, (k0_off159 v61 k0_t54) a + S1x16.size a ≤ S64x256.size a)
theorem k0_off159_inb : ∀ (k0_t2 : Fin k0_t2_loop.trips) (v31 : BitVec 32) (v38 : BitVec 32) (v61 : BitVec 32) (k0_hw20 : k0_chk20 k0_t2 v31 v38 v61) (k0_t54 : Fin k0_t54_loop.trips), ∀ (k0_h5 : k0_cond5 k0_t2 = 1#1), ∀ (k0_h7 : k0_cond7 v31 v38 = 1#1), ∀ a, (k0_off159 v61 k0_t54) a + S1x16.size a ≤ S64x256.size a := fun k0_t2 v31 v38 v61 k0_hw20 k0_t54 k0_h5 k0_h7 => k0_hw20 k0_t54 k0_h5 k0_h7

@[reducible] def k0_t55_loop : Scf.Loop 32 :=
  let c0_i32_51 : BitVec 32 := 0#32
  let c16_i32_52 : BitVec 32 := 16#32
  let v69 : BitVec 32 := Scalar.addi c0_i32_51 c16_i32_52
  let c1_i32_53 : BitVec 32 := 1#32
  ⟨c0_i32_51, v69, c1_i32_53⟩
def k0_mult19 (k0_t55 : Fin k0_t55_loop.trips) : BitVec 32 :=
  let c0_i32_51 : BitVec 32 := 0#32
  let c1_i32_53 : BitVec 32 := 1#32
  let arg15 : BitVec 32 := Scf.iv c0_i32_51 c1_i32_53 k0_t55
  let c16_i32_135 : BitVec 32 := 16#32
  let v135 : BitVec 32 := Scalar.muli arg15 c16_i32_135
  v135
def k0_off160 (k0_t52 : Fin k0_t52_loop.trips) (k0_t55 : Fin k0_t55_loop.trips) : Fin 2 → Nat :=
  let c0_i32_29 : BitVec 32 := 0#32
  let c1_i32_31 : BitVec 32 := 1#32
  let arg14 : BitVec 32 := Scf.iv c0_i32_29 c1_i32_31 k0_t52
  let c16_i32_48 : BitVec 32 := 16#32
  let v67 : BitVec 32 := Scalar.muli arg14 c16_i32_48
  let c2_i32_49 : BitVec 32 := 2#32
  let v68 : BitVec 32 := Scalar.addi v67 c2_i32_49
  let v137 : Index := Scalar.indexCast v68
  let c0_i32_51 : BitVec 32 := 0#32
  let c1_i32_53 : BitVec 32 := 1#32
  let arg15 : BitVec 32 := Scf.iv c0_i32_51 c1_i32_53 k0_t55
  let c16_i32_135 : BitVec 32 := 16#32
  let v135 : BitVec 32 := Scalar.muli arg15 c16_i32_135
  let v136 : BitVec 32 := v135
  let v138 : Index := Scalar.indexCast v136
  ![v137.toNat, v138.toNat]
def k0_off161 (v66 : BitVec 32) (k0_t55 : Fin k0_t55_loop.trips) : Fin 2 → Nat :=
  let v141 : Index := Scalar.indexCast v66
  let c0_i32_51 : BitVec 32 := 0#32
  let c1_i32_53 : BitVec 32 := 1#32
  let arg15 : BitVec 32 := Scf.iv c0_i32_51 c1_i32_53 k0_t55
  let c16_i32_135 : BitVec 32 := 16#32
  let v135 : BitVec 32 := Scalar.muli arg15 c16_i32_135
  let v136 : BitVec 32 := v135
  let v142 : Index := Scalar.indexCast v136
  ![v141.toNat, v142.toNat]

def k0_chk21 (k0_t2 : Fin k0_t2_loop.trips) (v31 : BitVec 32) (v38 : BitVec 32) (v66 : BitVec 32) : Prop :=
  (∀ k0_t55 : Fin k0_t55_loop.trips, ∀ (k0_h5 : k0_cond5 k0_t2 = 1#1), ∀ (k0_h7 : k0_cond7 v31 v38 = 1#1), ∀ a, (k0_off161 v66 k0_t55) a + S1x16.size a ≤ S64x256.size a)
theorem k0_off161_inb : ∀ (k0_t2 : Fin k0_t2_loop.trips) (v31 : BitVec 32) (v38 : BitVec 32) (v66 : BitVec 32) (k0_hw21 : k0_chk21 k0_t2 v31 v38 v66) (k0_t55 : Fin k0_t55_loop.trips), ∀ (k0_h5 : k0_cond5 k0_t2 = 1#1), ∀ (k0_h7 : k0_cond7 v31 v38 = 1#1), ∀ a, (k0_off161 v66 k0_t55) a + S1x16.size a ≤ S64x256.size a := fun k0_t2 v31 v38 v66 k0_hw21 k0_t55 k0_h5 k0_h7 => k0_hw21 k0_t55 k0_h5 k0_h7

@[reducible] def k0_t56_loop : Scf.Loop 32 :=
  let c0_i32_58 : BitVec 32 := 0#32
  let c16_i32_59 : BitVec 32 := 16#32
  let v74 : BitVec 32 := Scalar.addi c0_i32_58 c16_i32_59
  let c1_i32_60 : BitVec 32 := 1#32
  ⟨c0_i32_58, v74, c1_i32_60⟩
def k0_mult20 (k0_t56 : Fin k0_t56_loop.trips) : BitVec 32 :=
  let c0_i32_58 : BitVec 32 := 0#32
  let c1_i32_60 : BitVec 32 := 1#32
  let arg15 : BitVec 32 := Scf.iv c0_i32_58 c1_i32_60 k0_t56
  let c16_i32_135 : BitVec 32 := 16#32
  let v135 : BitVec 32 := Scalar.muli arg15 c16_i32_135
  v135
def k0_off162 (k0_t52 : Fin k0_t52_loop.trips) (k0_t56 : Fin k0_t56_loop.trips) : Fin 2 → Nat :=
  let c0_i32_29 : BitVec 32 := 0#32
  let c1_i32_31 : BitVec 32 := 1#32
  let arg14 : BitVec 32 := Scf.iv c0_i32_29 c1_i32_31 k0_t52
  let c16_i32_55 : BitVec 32 := 16#32
  let v72 : BitVec 32 := Scalar.muli arg14 c16_i32_55
  let c3_i32_56 : BitVec 32 := 3#32
  let v73 : BitVec 32 := Scalar.addi v72 c3_i32_56
  let v137 : Index := Scalar.indexCast v73
  let c0_i32_58 : BitVec 32 := 0#32
  let c1_i32_60 : BitVec 32 := 1#32
  let arg15 : BitVec 32 := Scf.iv c0_i32_58 c1_i32_60 k0_t56
  let c16_i32_135 : BitVec 32 := 16#32
  let v135 : BitVec 32 := Scalar.muli arg15 c16_i32_135
  let v136 : BitVec 32 := v135
  let v138 : Index := Scalar.indexCast v136
  ![v137.toNat, v138.toNat]
def k0_off163 (v71 : BitVec 32) (k0_t56 : Fin k0_t56_loop.trips) : Fin 2 → Nat :=
  let v141 : Index := Scalar.indexCast v71
  let c0_i32_58 : BitVec 32 := 0#32
  let c1_i32_60 : BitVec 32 := 1#32
  let arg15 : BitVec 32 := Scf.iv c0_i32_58 c1_i32_60 k0_t56
  let c16_i32_135 : BitVec 32 := 16#32
  let v135 : BitVec 32 := Scalar.muli arg15 c16_i32_135
  let v136 : BitVec 32 := v135
  let v142 : Index := Scalar.indexCast v136
  ![v141.toNat, v142.toNat]

def k0_chk22 (k0_t2 : Fin k0_t2_loop.trips) (v31 : BitVec 32) (v38 : BitVec 32) (v71 : BitVec 32) : Prop :=
  (∀ k0_t56 : Fin k0_t56_loop.trips, ∀ (k0_h5 : k0_cond5 k0_t2 = 1#1), ∀ (k0_h7 : k0_cond7 v31 v38 = 1#1), ∀ a, (k0_off163 v71 k0_t56) a + S1x16.size a ≤ S64x256.size a)
theorem k0_off163_inb : ∀ (k0_t2 : Fin k0_t2_loop.trips) (v31 : BitVec 32) (v38 : BitVec 32) (v71 : BitVec 32) (k0_hw22 : k0_chk22 k0_t2 v31 v38 v71) (k0_t56 : Fin k0_t56_loop.trips), ∀ (k0_h5 : k0_cond5 k0_t2 = 1#1), ∀ (k0_h7 : k0_cond7 v31 v38 = 1#1), ∀ a, (k0_off163 v71 k0_t56) a + S1x16.size a ≤ S64x256.size a := fun k0_t2 v31 v38 v71 k0_hw22 k0_t56 k0_h5 k0_h7 => k0_hw22 k0_t56 k0_h5 k0_h7

@[reducible] def k0_t57_loop : Scf.Loop 32 :=
  let c0_i32_64 : BitVec 32 := 0#32
  let c16_i32_65 : BitVec 32 := 16#32
  let v79 : BitVec 32 := Scalar.addi c0_i32_64 c16_i32_65
  let c1_i32_66 : BitVec 32 := 1#32
  ⟨c0_i32_64, v79, c1_i32_66⟩
def k0_mult21 (k0_t57 : Fin k0_t57_loop.trips) : BitVec 32 :=
  let c0_i32_64 : BitVec 32 := 0#32
  let c1_i32_66 : BitVec 32 := 1#32
  let arg15 : BitVec 32 := Scf.iv c0_i32_64 c1_i32_66 k0_t57
  let c16_i32_135 : BitVec 32 := 16#32
  let v135 : BitVec 32 := Scalar.muli arg15 c16_i32_135
  v135
def k0_off164 (k0_t52 : Fin k0_t52_loop.trips) (k0_t57 : Fin k0_t57_loop.trips) : Fin 2 → Nat :=
  let c0_i32_29 : BitVec 32 := 0#32
  let c1_i32_31 : BitVec 32 := 1#32
  let arg14 : BitVec 32 := Scf.iv c0_i32_29 c1_i32_31 k0_t52
  let c16_i32_62 : BitVec 32 := 16#32
  let v77 : BitVec 32 := Scalar.muli arg14 c16_i32_62
  let c4_i32 : BitVec 32 := 4#32
  let v78 : BitVec 32 := Scalar.addi v77 c4_i32
  let v137 : Index := Scalar.indexCast v78
  let c0_i32_64 : BitVec 32 := 0#32
  let c1_i32_66 : BitVec 32 := 1#32
  let arg15 : BitVec 32 := Scf.iv c0_i32_64 c1_i32_66 k0_t57
  let c16_i32_135 : BitVec 32 := 16#32
  let v135 : BitVec 32 := Scalar.muli arg15 c16_i32_135
  let v136 : BitVec 32 := v135
  let v138 : Index := Scalar.indexCast v136
  ![v137.toNat, v138.toNat]
def k0_off165 (v76 : BitVec 32) (k0_t57 : Fin k0_t57_loop.trips) : Fin 2 → Nat :=
  let v141 : Index := Scalar.indexCast v76
  let c0_i32_64 : BitVec 32 := 0#32
  let c1_i32_66 : BitVec 32 := 1#32
  let arg15 : BitVec 32 := Scf.iv c0_i32_64 c1_i32_66 k0_t57
  let c16_i32_135 : BitVec 32 := 16#32
  let v135 : BitVec 32 := Scalar.muli arg15 c16_i32_135
  let v136 : BitVec 32 := v135
  let v142 : Index := Scalar.indexCast v136
  ![v141.toNat, v142.toNat]

def k0_chk23 (k0_t2 : Fin k0_t2_loop.trips) (v31 : BitVec 32) (v38 : BitVec 32) (v76 : BitVec 32) : Prop :=
  (∀ k0_t57 : Fin k0_t57_loop.trips, ∀ (k0_h5 : k0_cond5 k0_t2 = 1#1), ∀ (k0_h7 : k0_cond7 v31 v38 = 1#1), ∀ a, (k0_off165 v76 k0_t57) a + S1x16.size a ≤ S64x256.size a)
theorem k0_off165_inb : ∀ (k0_t2 : Fin k0_t2_loop.trips) (v31 : BitVec 32) (v38 : BitVec 32) (v76 : BitVec 32) (k0_hw23 : k0_chk23 k0_t2 v31 v38 v76) (k0_t57 : Fin k0_t57_loop.trips), ∀ (k0_h5 : k0_cond5 k0_t2 = 1#1), ∀ (k0_h7 : k0_cond7 v31 v38 = 1#1), ∀ a, (k0_off165 v76 k0_t57) a + S1x16.size a ≤ S64x256.size a := fun k0_t2 v31 v38 v76 k0_hw23 k0_t57 k0_h5 k0_h7 => k0_hw23 k0_t57 k0_h5 k0_h7

@[reducible] def k0_t58_loop : Scf.Loop 32 :=
  let c0_i32_71 : BitVec 32 := 0#32
  let c16_i32_72 : BitVec 32 := 16#32
  let v84 : BitVec 32 := Scalar.addi c0_i32_71 c16_i32_72
  let c1_i32_73 : BitVec 32 := 1#32
  ⟨c0_i32_71, v84, c1_i32_73⟩
def k0_mult22 (k0_t58 : Fin k0_t58_loop.trips) : BitVec 32 :=
  let c0_i32_71 : BitVec 32 := 0#32
  let c1_i32_73 : BitVec 32 := 1#32
  let arg15 : BitVec 32 := Scf.iv c0_i32_71 c1_i32_73 k0_t58
  let c16_i32_135 : BitVec 32 := 16#32
  let v135 : BitVec 32 := Scalar.muli arg15 c16_i32_135
  v135
def k0_off166 (k0_t52 : Fin k0_t52_loop.trips) (k0_t58 : Fin k0_t58_loop.trips) : Fin 2 → Nat :=
  let c0_i32_29 : BitVec 32 := 0#32
  let c1_i32_31 : BitVec 32 := 1#32
  let arg14 : BitVec 32 := Scf.iv c0_i32_29 c1_i32_31 k0_t52
  let c16_i32_68 : BitVec 32 := 16#32
  let v82 : BitVec 32 := Scalar.muli arg14 c16_i32_68
  let c5_i32_69 : BitVec 32 := 5#32
  let v83 : BitVec 32 := Scalar.addi v82 c5_i32_69
  let v137 : Index := Scalar.indexCast v83
  let c0_i32_71 : BitVec 32 := 0#32
  let c1_i32_73 : BitVec 32 := 1#32
  let arg15 : BitVec 32 := Scf.iv c0_i32_71 c1_i32_73 k0_t58
  let c16_i32_135 : BitVec 32 := 16#32
  let v135 : BitVec 32 := Scalar.muli arg15 c16_i32_135
  let v136 : BitVec 32 := v135
  let v138 : Index := Scalar.indexCast v136
  ![v137.toNat, v138.toNat]
def k0_off167 (v81 : BitVec 32) (k0_t58 : Fin k0_t58_loop.trips) : Fin 2 → Nat :=
  let v141 : Index := Scalar.indexCast v81
  let c0_i32_71 : BitVec 32 := 0#32
  let c1_i32_73 : BitVec 32 := 1#32
  let arg15 : BitVec 32 := Scf.iv c0_i32_71 c1_i32_73 k0_t58
  let c16_i32_135 : BitVec 32 := 16#32
  let v135 : BitVec 32 := Scalar.muli arg15 c16_i32_135
  let v136 : BitVec 32 := v135
  let v142 : Index := Scalar.indexCast v136
  ![v141.toNat, v142.toNat]

def k0_chk24 (k0_t2 : Fin k0_t2_loop.trips) (v31 : BitVec 32) (v38 : BitVec 32) (v81 : BitVec 32) : Prop :=
  (∀ k0_t58 : Fin k0_t58_loop.trips, ∀ (k0_h5 : k0_cond5 k0_t2 = 1#1), ∀ (k0_h7 : k0_cond7 v31 v38 = 1#1), ∀ a, (k0_off167 v81 k0_t58) a + S1x16.size a ≤ S64x256.size a)
theorem k0_off167_inb : ∀ (k0_t2 : Fin k0_t2_loop.trips) (v31 : BitVec 32) (v38 : BitVec 32) (v81 : BitVec 32) (k0_hw24 : k0_chk24 k0_t2 v31 v38 v81) (k0_t58 : Fin k0_t58_loop.trips), ∀ (k0_h5 : k0_cond5 k0_t2 = 1#1), ∀ (k0_h7 : k0_cond7 v31 v38 = 1#1), ∀ a, (k0_off167 v81 k0_t58) a + S1x16.size a ≤ S64x256.size a := fun k0_t2 v31 v38 v81 k0_hw24 k0_t58 k0_h5 k0_h7 => k0_hw24 k0_t58 k0_h5 k0_h7

@[reducible] def k0_t59_loop : Scf.Loop 32 :=
  let c0_i32_77 : BitVec 32 := 0#32
  let c16_i32_78 : BitVec 32 := 16#32
  let v89 : BitVec 32 := Scalar.addi c0_i32_77 c16_i32_78
  let c1_i32_79 : BitVec 32 := 1#32
  ⟨c0_i32_77, v89, c1_i32_79⟩
def k0_mult23 (k0_t59 : Fin k0_t59_loop.trips) : BitVec 32 :=
  let c0_i32_77 : BitVec 32 := 0#32
  let c1_i32_79 : BitVec 32 := 1#32
  let arg15 : BitVec 32 := Scf.iv c0_i32_77 c1_i32_79 k0_t59
  let c16_i32_135 : BitVec 32 := 16#32
  let v135 : BitVec 32 := Scalar.muli arg15 c16_i32_135
  v135
def k0_off168 (k0_t52 : Fin k0_t52_loop.trips) (k0_t59 : Fin k0_t59_loop.trips) : Fin 2 → Nat :=
  let c0_i32_29 : BitVec 32 := 0#32
  let c1_i32_31 : BitVec 32 := 1#32
  let arg14 : BitVec 32 := Scf.iv c0_i32_29 c1_i32_31 k0_t52
  let c16_i32_75 : BitVec 32 := 16#32
  let v87 : BitVec 32 := Scalar.muli arg14 c16_i32_75
  let c6_i32 : BitVec 32 := 6#32
  let v88 : BitVec 32 := Scalar.addi v87 c6_i32
  let v137 : Index := Scalar.indexCast v88
  let c0_i32_77 : BitVec 32 := 0#32
  let c1_i32_79 : BitVec 32 := 1#32
  let arg15 : BitVec 32 := Scf.iv c0_i32_77 c1_i32_79 k0_t59
  let c16_i32_135 : BitVec 32 := 16#32
  let v135 : BitVec 32 := Scalar.muli arg15 c16_i32_135
  let v136 : BitVec 32 := v135
  let v138 : Index := Scalar.indexCast v136
  ![v137.toNat, v138.toNat]
def k0_off169 (v86 : BitVec 32) (k0_t59 : Fin k0_t59_loop.trips) : Fin 2 → Nat :=
  let v141 : Index := Scalar.indexCast v86
  let c0_i32_77 : BitVec 32 := 0#32
  let c1_i32_79 : BitVec 32 := 1#32
  let arg15 : BitVec 32 := Scf.iv c0_i32_77 c1_i32_79 k0_t59
  let c16_i32_135 : BitVec 32 := 16#32
  let v135 : BitVec 32 := Scalar.muli arg15 c16_i32_135
  let v136 : BitVec 32 := v135
  let v142 : Index := Scalar.indexCast v136
  ![v141.toNat, v142.toNat]

def k0_chk25 (k0_t2 : Fin k0_t2_loop.trips) (v31 : BitVec 32) (v38 : BitVec 32) (v86 : BitVec 32) : Prop :=
  (∀ k0_t59 : Fin k0_t59_loop.trips, ∀ (k0_h5 : k0_cond5 k0_t2 = 1#1), ∀ (k0_h7 : k0_cond7 v31 v38 = 1#1), ∀ a, (k0_off169 v86 k0_t59) a + S1x16.size a ≤ S64x256.size a)
theorem k0_off169_inb : ∀ (k0_t2 : Fin k0_t2_loop.trips) (v31 : BitVec 32) (v38 : BitVec 32) (v86 : BitVec 32) (k0_hw25 : k0_chk25 k0_t2 v31 v38 v86) (k0_t59 : Fin k0_t59_loop.trips), ∀ (k0_h5 : k0_cond5 k0_t2 = 1#1), ∀ (k0_h7 : k0_cond7 v31 v38 = 1#1), ∀ a, (k0_off169 v86 k0_t59) a + S1x16.size a ≤ S64x256.size a := fun k0_t2 v31 v38 v86 k0_hw25 k0_t59 k0_h5 k0_h7 => k0_hw25 k0_t59 k0_h5 k0_h7

@[reducible] def k0_t60_loop : Scf.Loop 32 :=
  let c0_i32_83 : BitVec 32 := 0#32
  let c16_i32_84 : BitVec 32 := 16#32
  let v94 : BitVec 32 := Scalar.addi c0_i32_83 c16_i32_84
  let c1_i32_85 : BitVec 32 := 1#32
  ⟨c0_i32_83, v94, c1_i32_85⟩
def k0_mult24 (k0_t60 : Fin k0_t60_loop.trips) : BitVec 32 :=
  let c0_i32_83 : BitVec 32 := 0#32
  let c1_i32_85 : BitVec 32 := 1#32
  let arg15 : BitVec 32 := Scf.iv c0_i32_83 c1_i32_85 k0_t60
  let c16_i32_135 : BitVec 32 := 16#32
  let v135 : BitVec 32 := Scalar.muli arg15 c16_i32_135
  v135
def k0_off170 (k0_t52 : Fin k0_t52_loop.trips) (k0_t60 : Fin k0_t60_loop.trips) : Fin 2 → Nat :=
  let c0_i32_29 : BitVec 32 := 0#32
  let c1_i32_31 : BitVec 32 := 1#32
  let arg14 : BitVec 32 := Scf.iv c0_i32_29 c1_i32_31 k0_t52
  let c16_i32_81 : BitVec 32 := 16#32
  let v92 : BitVec 32 := Scalar.muli arg14 c16_i32_81
  let c7_i32 : BitVec 32 := 7#32
  let v93 : BitVec 32 := Scalar.addi v92 c7_i32
  let v137 : Index := Scalar.indexCast v93
  let c0_i32_83 : BitVec 32 := 0#32
  let c1_i32_85 : BitVec 32 := 1#32
  let arg15 : BitVec 32 := Scf.iv c0_i32_83 c1_i32_85 k0_t60
  let c16_i32_135 : BitVec 32 := 16#32
  let v135 : BitVec 32 := Scalar.muli arg15 c16_i32_135
  let v136 : BitVec 32 := v135
  let v138 : Index := Scalar.indexCast v136
  ![v137.toNat, v138.toNat]
def k0_off171 (v91 : BitVec 32) (k0_t60 : Fin k0_t60_loop.trips) : Fin 2 → Nat :=
  let v141 : Index := Scalar.indexCast v91
  let c0_i32_83 : BitVec 32 := 0#32
  let c1_i32_85 : BitVec 32 := 1#32
  let arg15 : BitVec 32 := Scf.iv c0_i32_83 c1_i32_85 k0_t60
  let c16_i32_135 : BitVec 32 := 16#32
  let v135 : BitVec 32 := Scalar.muli arg15 c16_i32_135
  let v136 : BitVec 32 := v135
  let v142 : Index := Scalar.indexCast v136
  ![v141.toNat, v142.toNat]

def k0_chk26 (k0_t2 : Fin k0_t2_loop.trips) (v31 : BitVec 32) (v38 : BitVec 32) (v91 : BitVec 32) : Prop :=
  (∀ k0_t60 : Fin k0_t60_loop.trips, ∀ (k0_h5 : k0_cond5 k0_t2 = 1#1), ∀ (k0_h7 : k0_cond7 v31 v38 = 1#1), ∀ a, (k0_off171 v91 k0_t60) a + S1x16.size a ≤ S64x256.size a)
theorem k0_off171_inb : ∀ (k0_t2 : Fin k0_t2_loop.trips) (v31 : BitVec 32) (v38 : BitVec 32) (v91 : BitVec 32) (k0_hw26 : k0_chk26 k0_t2 v31 v38 v91) (k0_t60 : Fin k0_t60_loop.trips), ∀ (k0_h5 : k0_cond5 k0_t2 = 1#1), ∀ (k0_h7 : k0_cond7 v31 v38 = 1#1), ∀ a, (k0_off171 v91 k0_t60) a + S1x16.size a ≤ S64x256.size a := fun k0_t2 v31 v38 v91 k0_hw26 k0_t60 k0_h5 k0_h7 => k0_hw26 k0_t60 k0_h5 k0_h7

@[reducible] def k0_t61_loop : Scf.Loop 32 :=
  let c0_i32_89 : BitVec 32 := 0#32
  let c16_i32_90 : BitVec 32 := 16#32
  let v99 : BitVec 32 := Scalar.addi c0_i32_89 c16_i32_90
  let c1_i32_91 : BitVec 32 := 1#32
  ⟨c0_i32_89, v99, c1_i32_91⟩
def k0_mult25 (k0_t61 : Fin k0_t61_loop.trips) : BitVec 32 :=
  let c0_i32_89 : BitVec 32 := 0#32
  let c1_i32_91 : BitVec 32 := 1#32
  let arg15 : BitVec 32 := Scf.iv c0_i32_89 c1_i32_91 k0_t61
  let c16_i32_135 : BitVec 32 := 16#32
  let v135 : BitVec 32 := Scalar.muli arg15 c16_i32_135
  v135
def k0_off172 (k0_t52 : Fin k0_t52_loop.trips) (k0_t61 : Fin k0_t61_loop.trips) : Fin 2 → Nat :=
  let c0_i32_29 : BitVec 32 := 0#32
  let c1_i32_31 : BitVec 32 := 1#32
  let arg14 : BitVec 32 := Scf.iv c0_i32_29 c1_i32_31 k0_t52
  let c16_i32_87 : BitVec 32 := 16#32
  let v97 : BitVec 32 := Scalar.muli arg14 c16_i32_87
  let c8_i32 : BitVec 32 := 8#32
  let v98 : BitVec 32 := Scalar.addi v97 c8_i32
  let v137 : Index := Scalar.indexCast v98
  let c0_i32_89 : BitVec 32 := 0#32
  let c1_i32_91 : BitVec 32 := 1#32
  let arg15 : BitVec 32 := Scf.iv c0_i32_89 c1_i32_91 k0_t61
  let c16_i32_135 : BitVec 32 := 16#32
  let v135 : BitVec 32 := Scalar.muli arg15 c16_i32_135
  let v136 : BitVec 32 := v135
  let v138 : Index := Scalar.indexCast v136
  ![v137.toNat, v138.toNat]
def k0_off173 (v96 : BitVec 32) (k0_t61 : Fin k0_t61_loop.trips) : Fin 2 → Nat :=
  let v141 : Index := Scalar.indexCast v96
  let c0_i32_89 : BitVec 32 := 0#32
  let c1_i32_91 : BitVec 32 := 1#32
  let arg15 : BitVec 32 := Scf.iv c0_i32_89 c1_i32_91 k0_t61
  let c16_i32_135 : BitVec 32 := 16#32
  let v135 : BitVec 32 := Scalar.muli arg15 c16_i32_135
  let v136 : BitVec 32 := v135
  let v142 : Index := Scalar.indexCast v136
  ![v141.toNat, v142.toNat]

def k0_chk27 (k0_t2 : Fin k0_t2_loop.trips) (v31 : BitVec 32) (v38 : BitVec 32) (v96 : BitVec 32) : Prop :=
  (∀ k0_t61 : Fin k0_t61_loop.trips, ∀ (k0_h5 : k0_cond5 k0_t2 = 1#1), ∀ (k0_h7 : k0_cond7 v31 v38 = 1#1), ∀ a, (k0_off173 v96 k0_t61) a + S1x16.size a ≤ S64x256.size a)
theorem k0_off173_inb : ∀ (k0_t2 : Fin k0_t2_loop.trips) (v31 : BitVec 32) (v38 : BitVec 32) (v96 : BitVec 32) (k0_hw27 : k0_chk27 k0_t2 v31 v38 v96) (k0_t61 : Fin k0_t61_loop.trips), ∀ (k0_h5 : k0_cond5 k0_t2 = 1#1), ∀ (k0_h7 : k0_cond7 v31 v38 = 1#1), ∀ a, (k0_off173 v96 k0_t61) a + S1x16.size a ≤ S64x256.size a := fun k0_t2 v31 v38 v96 k0_hw27 k0_t61 k0_h5 k0_h7 => k0_hw27 k0_t61 k0_h5 k0_h7

@[reducible] def k0_t62_loop : Scf.Loop 32 :=
  let c0_i32_95 : BitVec 32 := 0#32
  let c16_i32_96 : BitVec 32 := 16#32
  let v104 : BitVec 32 := Scalar.addi c0_i32_95 c16_i32_96
  let c1_i32_97 : BitVec 32 := 1#32
  ⟨c0_i32_95, v104, c1_i32_97⟩
def k0_mult26 (k0_t62 : Fin k0_t62_loop.trips) : BitVec 32 :=
  let c0_i32_95 : BitVec 32 := 0#32
  let c1_i32_97 : BitVec 32 := 1#32
  let arg15 : BitVec 32 := Scf.iv c0_i32_95 c1_i32_97 k0_t62
  let c16_i32_135 : BitVec 32 := 16#32
  let v135 : BitVec 32 := Scalar.muli arg15 c16_i32_135
  v135
def k0_off174 (k0_t52 : Fin k0_t52_loop.trips) (k0_t62 : Fin k0_t62_loop.trips) : Fin 2 → Nat :=
  let c0_i32_29 : BitVec 32 := 0#32
  let c1_i32_31 : BitVec 32 := 1#32
  let arg14 : BitVec 32 := Scf.iv c0_i32_29 c1_i32_31 k0_t52
  let c16_i32_93 : BitVec 32 := 16#32
  let v102 : BitVec 32 := Scalar.muli arg14 c16_i32_93
  let c9_i32 : BitVec 32 := 9#32
  let v103 : BitVec 32 := Scalar.addi v102 c9_i32
  let v137 : Index := Scalar.indexCast v103
  let c0_i32_95 : BitVec 32 := 0#32
  let c1_i32_97 : BitVec 32 := 1#32
  let arg15 : BitVec 32 := Scf.iv c0_i32_95 c1_i32_97 k0_t62
  let c16_i32_135 : BitVec 32 := 16#32
  let v135 : BitVec 32 := Scalar.muli arg15 c16_i32_135
  let v136 : BitVec 32 := v135
  let v138 : Index := Scalar.indexCast v136
  ![v137.toNat, v138.toNat]
def k0_off175 (v101 : BitVec 32) (k0_t62 : Fin k0_t62_loop.trips) : Fin 2 → Nat :=
  let v141 : Index := Scalar.indexCast v101
  let c0_i32_95 : BitVec 32 := 0#32
  let c1_i32_97 : BitVec 32 := 1#32
  let arg15 : BitVec 32 := Scf.iv c0_i32_95 c1_i32_97 k0_t62
  let c16_i32_135 : BitVec 32 := 16#32
  let v135 : BitVec 32 := Scalar.muli arg15 c16_i32_135
  let v136 : BitVec 32 := v135
  let v142 : Index := Scalar.indexCast v136
  ![v141.toNat, v142.toNat]

def k0_chk28 (k0_t2 : Fin k0_t2_loop.trips) (v31 : BitVec 32) (v38 : BitVec 32) (v101 : BitVec 32) : Prop :=
  (∀ k0_t62 : Fin k0_t62_loop.trips, ∀ (k0_h5 : k0_cond5 k0_t2 = 1#1), ∀ (k0_h7 : k0_cond7 v31 v38 = 1#1), ∀ a, (k0_off175 v101 k0_t62) a + S1x16.size a ≤ S64x256.size a)
theorem k0_off175_inb : ∀ (k0_t2 : Fin k0_t2_loop.trips) (v31 : BitVec 32) (v38 : BitVec 32) (v101 : BitVec 32) (k0_hw28 : k0_chk28 k0_t2 v31 v38 v101) (k0_t62 : Fin k0_t62_loop.trips), ∀ (k0_h5 : k0_cond5 k0_t2 = 1#1), ∀ (k0_h7 : k0_cond7 v31 v38 = 1#1), ∀ a, (k0_off175 v101 k0_t62) a + S1x16.size a ≤ S64x256.size a := fun k0_t2 v31 v38 v101 k0_hw28 k0_t62 k0_h5 k0_h7 => k0_hw28 k0_t62 k0_h5 k0_h7

@[reducible] def k0_t63_loop : Scf.Loop 32 :=
  let c0_i32_101 : BitVec 32 := 0#32
  let c16_i32_102 : BitVec 32 := 16#32
  let v109 : BitVec 32 := Scalar.addi c0_i32_101 c16_i32_102
  let c1_i32_103 : BitVec 32 := 1#32
  ⟨c0_i32_101, v109, c1_i32_103⟩
def k0_mult27 (k0_t63 : Fin k0_t63_loop.trips) : BitVec 32 :=
  let c0_i32_101 : BitVec 32 := 0#32
  let c1_i32_103 : BitVec 32 := 1#32
  let arg15 : BitVec 32 := Scf.iv c0_i32_101 c1_i32_103 k0_t63
  let c16_i32_135 : BitVec 32 := 16#32
  let v135 : BitVec 32 := Scalar.muli arg15 c16_i32_135
  v135
def k0_off176 (k0_t52 : Fin k0_t52_loop.trips) (k0_t63 : Fin k0_t63_loop.trips) : Fin 2 → Nat :=
  let c0_i32_29 : BitVec 32 := 0#32
  let c1_i32_31 : BitVec 32 := 1#32
  let arg14 : BitVec 32 := Scf.iv c0_i32_29 c1_i32_31 k0_t52
  let c16_i32_99 : BitVec 32 := 16#32
  let v107 : BitVec 32 := Scalar.muli arg14 c16_i32_99
  let c10_i32 : BitVec 32 := 10#32
  let v108 : BitVec 32 := Scalar.addi v107 c10_i32
  let v137 : Index := Scalar.indexCast v108
  let c0_i32_101 : BitVec 32 := 0#32
  let c1_i32_103 : BitVec 32 := 1#32
  let arg15 : BitVec 32 := Scf.iv c0_i32_101 c1_i32_103 k0_t63
  let c16_i32_135 : BitVec 32 := 16#32
  let v135 : BitVec 32 := Scalar.muli arg15 c16_i32_135
  let v136 : BitVec 32 := v135
  let v138 : Index := Scalar.indexCast v136
  ![v137.toNat, v138.toNat]
def k0_off177 (v106 : BitVec 32) (k0_t63 : Fin k0_t63_loop.trips) : Fin 2 → Nat :=
  let v141 : Index := Scalar.indexCast v106
  let c0_i32_101 : BitVec 32 := 0#32
  let c1_i32_103 : BitVec 32 := 1#32
  let arg15 : BitVec 32 := Scf.iv c0_i32_101 c1_i32_103 k0_t63
  let c16_i32_135 : BitVec 32 := 16#32
  let v135 : BitVec 32 := Scalar.muli arg15 c16_i32_135
  let v136 : BitVec 32 := v135
  let v142 : Index := Scalar.indexCast v136
  ![v141.toNat, v142.toNat]

def k0_chk29 (k0_t2 : Fin k0_t2_loop.trips) (v31 : BitVec 32) (v38 : BitVec 32) (v106 : BitVec 32) : Prop :=
  (∀ k0_t63 : Fin k0_t63_loop.trips, ∀ (k0_h5 : k0_cond5 k0_t2 = 1#1), ∀ (k0_h7 : k0_cond7 v31 v38 = 1#1), ∀ a, (k0_off177 v106 k0_t63) a + S1x16.size a ≤ S64x256.size a)
theorem k0_off177_inb : ∀ (k0_t2 : Fin k0_t2_loop.trips) (v31 : BitVec 32) (v38 : BitVec 32) (v106 : BitVec 32) (k0_hw29 : k0_chk29 k0_t2 v31 v38 v106) (k0_t63 : Fin k0_t63_loop.trips), ∀ (k0_h5 : k0_cond5 k0_t2 = 1#1), ∀ (k0_h7 : k0_cond7 v31 v38 = 1#1), ∀ a, (k0_off177 v106 k0_t63) a + S1x16.size a ≤ S64x256.size a := fun k0_t2 v31 v38 v106 k0_hw29 k0_t63 k0_h5 k0_h7 => k0_hw29 k0_t63 k0_h5 k0_h7

@[reducible] def k0_t64_loop : Scf.Loop 32 :=
  let c0_i32_107 : BitVec 32 := 0#32
  let c16_i32_108 : BitVec 32 := 16#32
  let v114 : BitVec 32 := Scalar.addi c0_i32_107 c16_i32_108
  let c1_i32_109 : BitVec 32 := 1#32
  ⟨c0_i32_107, v114, c1_i32_109⟩
def k0_mult28 (k0_t64 : Fin k0_t64_loop.trips) : BitVec 32 :=
  let c0_i32_107 : BitVec 32 := 0#32
  let c1_i32_109 : BitVec 32 := 1#32
  let arg15 : BitVec 32 := Scf.iv c0_i32_107 c1_i32_109 k0_t64
  let c16_i32_135 : BitVec 32 := 16#32
  let v135 : BitVec 32 := Scalar.muli arg15 c16_i32_135
  v135
def k0_off178 (k0_t52 : Fin k0_t52_loop.trips) (k0_t64 : Fin k0_t64_loop.trips) : Fin 2 → Nat :=
  let c0_i32_29 : BitVec 32 := 0#32
  let c1_i32_31 : BitVec 32 := 1#32
  let arg14 : BitVec 32 := Scf.iv c0_i32_29 c1_i32_31 k0_t52
  let c16_i32_105 : BitVec 32 := 16#32
  let v112 : BitVec 32 := Scalar.muli arg14 c16_i32_105
  let c11_i32 : BitVec 32 := 11#32
  let v113 : BitVec 32 := Scalar.addi v112 c11_i32
  let v137 : Index := Scalar.indexCast v113
  let c0_i32_107 : BitVec 32 := 0#32
  let c1_i32_109 : BitVec 32 := 1#32
  let arg15 : BitVec 32 := Scf.iv c0_i32_107 c1_i32_109 k0_t64
  let c16_i32_135 : BitVec 32 := 16#32
  let v135 : BitVec 32 := Scalar.muli arg15 c16_i32_135
  let v136 : BitVec 32 := v135
  let v138 : Index := Scalar.indexCast v136
  ![v137.toNat, v138.toNat]
def k0_off179 (v111 : BitVec 32) (k0_t64 : Fin k0_t64_loop.trips) : Fin 2 → Nat :=
  let v141 : Index := Scalar.indexCast v111
  let c0_i32_107 : BitVec 32 := 0#32
  let c1_i32_109 : BitVec 32 := 1#32
  let arg15 : BitVec 32 := Scf.iv c0_i32_107 c1_i32_109 k0_t64
  let c16_i32_135 : BitVec 32 := 16#32
  let v135 : BitVec 32 := Scalar.muli arg15 c16_i32_135
  let v136 : BitVec 32 := v135
  let v142 : Index := Scalar.indexCast v136
  ![v141.toNat, v142.toNat]

def k0_chk30 (k0_t2 : Fin k0_t2_loop.trips) (v31 : BitVec 32) (v38 : BitVec 32) (v111 : BitVec 32) : Prop :=
  (∀ k0_t64 : Fin k0_t64_loop.trips, ∀ (k0_h5 : k0_cond5 k0_t2 = 1#1), ∀ (k0_h7 : k0_cond7 v31 v38 = 1#1), ∀ a, (k0_off179 v111 k0_t64) a + S1x16.size a ≤ S64x256.size a)
theorem k0_off179_inb : ∀ (k0_t2 : Fin k0_t2_loop.trips) (v31 : BitVec 32) (v38 : BitVec 32) (v111 : BitVec 32) (k0_hw30 : k0_chk30 k0_t2 v31 v38 v111) (k0_t64 : Fin k0_t64_loop.trips), ∀ (k0_h5 : k0_cond5 k0_t2 = 1#1), ∀ (k0_h7 : k0_cond7 v31 v38 = 1#1), ∀ a, (k0_off179 v111 k0_t64) a + S1x16.size a ≤ S64x256.size a := fun k0_t2 v31 v38 v111 k0_hw30 k0_t64 k0_h5 k0_h7 => k0_hw30 k0_t64 k0_h5 k0_h7

@[reducible] def k0_t65_loop : Scf.Loop 32 :=
  let c0_i32_113 : BitVec 32 := 0#32
  let c16_i32_114 : BitVec 32 := 16#32
  let v119 : BitVec 32 := Scalar.addi c0_i32_113 c16_i32_114
  let c1_i32_115 : BitVec 32 := 1#32
  ⟨c0_i32_113, v119, c1_i32_115⟩
def k0_mult29 (k0_t65 : Fin k0_t65_loop.trips) : BitVec 32 :=
  let c0_i32_113 : BitVec 32 := 0#32
  let c1_i32_115 : BitVec 32 := 1#32
  let arg15 : BitVec 32 := Scf.iv c0_i32_113 c1_i32_115 k0_t65
  let c16_i32_135 : BitVec 32 := 16#32
  let v135 : BitVec 32 := Scalar.muli arg15 c16_i32_135
  v135
def k0_off180 (k0_t52 : Fin k0_t52_loop.trips) (k0_t65 : Fin k0_t65_loop.trips) : Fin 2 → Nat :=
  let c0_i32_29 : BitVec 32 := 0#32
  let c1_i32_31 : BitVec 32 := 1#32
  let arg14 : BitVec 32 := Scf.iv c0_i32_29 c1_i32_31 k0_t52
  let c16_i32_111 : BitVec 32 := 16#32
  let v117 : BitVec 32 := Scalar.muli arg14 c16_i32_111
  let c12_i32 : BitVec 32 := 12#32
  let v118 : BitVec 32 := Scalar.addi v117 c12_i32
  let v137 : Index := Scalar.indexCast v118
  let c0_i32_113 : BitVec 32 := 0#32
  let c1_i32_115 : BitVec 32 := 1#32
  let arg15 : BitVec 32 := Scf.iv c0_i32_113 c1_i32_115 k0_t65
  let c16_i32_135 : BitVec 32 := 16#32
  let v135 : BitVec 32 := Scalar.muli arg15 c16_i32_135
  let v136 : BitVec 32 := v135
  let v138 : Index := Scalar.indexCast v136
  ![v137.toNat, v138.toNat]
def k0_off181 (v116 : BitVec 32) (k0_t65 : Fin k0_t65_loop.trips) : Fin 2 → Nat :=
  let v141 : Index := Scalar.indexCast v116
  let c0_i32_113 : BitVec 32 := 0#32
  let c1_i32_115 : BitVec 32 := 1#32
  let arg15 : BitVec 32 := Scf.iv c0_i32_113 c1_i32_115 k0_t65
  let c16_i32_135 : BitVec 32 := 16#32
  let v135 : BitVec 32 := Scalar.muli arg15 c16_i32_135
  let v136 : BitVec 32 := v135
  let v142 : Index := Scalar.indexCast v136
  ![v141.toNat, v142.toNat]

def k0_chk31 (k0_t2 : Fin k0_t2_loop.trips) (v31 : BitVec 32) (v38 : BitVec 32) (v116 : BitVec 32) : Prop :=
  (∀ k0_t65 : Fin k0_t65_loop.trips, ∀ (k0_h5 : k0_cond5 k0_t2 = 1#1), ∀ (k0_h7 : k0_cond7 v31 v38 = 1#1), ∀ a, (k0_off181 v116 k0_t65) a + S1x16.size a ≤ S64x256.size a)
theorem k0_off181_inb : ∀ (k0_t2 : Fin k0_t2_loop.trips) (v31 : BitVec 32) (v38 : BitVec 32) (v116 : BitVec 32) (k0_hw31 : k0_chk31 k0_t2 v31 v38 v116) (k0_t65 : Fin k0_t65_loop.trips), ∀ (k0_h5 : k0_cond5 k0_t2 = 1#1), ∀ (k0_h7 : k0_cond7 v31 v38 = 1#1), ∀ a, (k0_off181 v116 k0_t65) a + S1x16.size a ≤ S64x256.size a := fun k0_t2 v31 v38 v116 k0_hw31 k0_t65 k0_h5 k0_h7 => k0_hw31 k0_t65 k0_h5 k0_h7

@[reducible] def k0_t66_loop : Scf.Loop 32 :=
  let c0_i32_119 : BitVec 32 := 0#32
  let c16_i32_120 : BitVec 32 := 16#32
  let v124 : BitVec 32 := Scalar.addi c0_i32_119 c16_i32_120
  let c1_i32_121 : BitVec 32 := 1#32
  ⟨c0_i32_119, v124, c1_i32_121⟩
def k0_mult30 (k0_t66 : Fin k0_t66_loop.trips) : BitVec 32 :=
  let c0_i32_119 : BitVec 32 := 0#32
  let c1_i32_121 : BitVec 32 := 1#32
  let arg15 : BitVec 32 := Scf.iv c0_i32_119 c1_i32_121 k0_t66
  let c16_i32_135 : BitVec 32 := 16#32
  let v135 : BitVec 32 := Scalar.muli arg15 c16_i32_135
  v135
def k0_off182 (k0_t52 : Fin k0_t52_loop.trips) (k0_t66 : Fin k0_t66_loop.trips) : Fin 2 → Nat :=
  let c0_i32_29 : BitVec 32 := 0#32
  let c1_i32_31 : BitVec 32 := 1#32
  let arg14 : BitVec 32 := Scf.iv c0_i32_29 c1_i32_31 k0_t52
  let c16_i32_117 : BitVec 32 := 16#32
  let v122 : BitVec 32 := Scalar.muli arg14 c16_i32_117
  let c13_i32 : BitVec 32 := 13#32
  let v123 : BitVec 32 := Scalar.addi v122 c13_i32
  let v137 : Index := Scalar.indexCast v123
  let c0_i32_119 : BitVec 32 := 0#32
  let c1_i32_121 : BitVec 32 := 1#32
  let arg15 : BitVec 32 := Scf.iv c0_i32_119 c1_i32_121 k0_t66
  let c16_i32_135 : BitVec 32 := 16#32
  let v135 : BitVec 32 := Scalar.muli arg15 c16_i32_135
  let v136 : BitVec 32 := v135
  let v138 : Index := Scalar.indexCast v136
  ![v137.toNat, v138.toNat]
def k0_off183 (v121 : BitVec 32) (k0_t66 : Fin k0_t66_loop.trips) : Fin 2 → Nat :=
  let v141 : Index := Scalar.indexCast v121
  let c0_i32_119 : BitVec 32 := 0#32
  let c1_i32_121 : BitVec 32 := 1#32
  let arg15 : BitVec 32 := Scf.iv c0_i32_119 c1_i32_121 k0_t66
  let c16_i32_135 : BitVec 32 := 16#32
  let v135 : BitVec 32 := Scalar.muli arg15 c16_i32_135
  let v136 : BitVec 32 := v135
  let v142 : Index := Scalar.indexCast v136
  ![v141.toNat, v142.toNat]

def k0_chk32 (k0_t2 : Fin k0_t2_loop.trips) (v31 : BitVec 32) (v38 : BitVec 32) (v121 : BitVec 32) : Prop :=
  (∀ k0_t66 : Fin k0_t66_loop.trips, ∀ (k0_h5 : k0_cond5 k0_t2 = 1#1), ∀ (k0_h7 : k0_cond7 v31 v38 = 1#1), ∀ a, (k0_off183 v121 k0_t66) a + S1x16.size a ≤ S64x256.size a)
theorem k0_off183_inb : ∀ (k0_t2 : Fin k0_t2_loop.trips) (v31 : BitVec 32) (v38 : BitVec 32) (v121 : BitVec 32) (k0_hw32 : k0_chk32 k0_t2 v31 v38 v121) (k0_t66 : Fin k0_t66_loop.trips), ∀ (k0_h5 : k0_cond5 k0_t2 = 1#1), ∀ (k0_h7 : k0_cond7 v31 v38 = 1#1), ∀ a, (k0_off183 v121 k0_t66) a + S1x16.size a ≤ S64x256.size a := fun k0_t2 v31 v38 v121 k0_hw32 k0_t66 k0_h5 k0_h7 => k0_hw32 k0_t66 k0_h5 k0_h7

@[reducible] def k0_t67_loop : Scf.Loop 32 :=
  let c0_i32_125 : BitVec 32 := 0#32
  let c16_i32_126 : BitVec 32 := 16#32
  let v129 : BitVec 32 := Scalar.addi c0_i32_125 c16_i32_126
  let c1_i32_127 : BitVec 32 := 1#32
  ⟨c0_i32_125, v129, c1_i32_127⟩
def k0_mult31 (k0_t67 : Fin k0_t67_loop.trips) : BitVec 32 :=
  let c0_i32_125 : BitVec 32 := 0#32
  let c1_i32_127 : BitVec 32 := 1#32
  let arg15 : BitVec 32 := Scf.iv c0_i32_125 c1_i32_127 k0_t67
  let c16_i32_135 : BitVec 32 := 16#32
  let v135 : BitVec 32 := Scalar.muli arg15 c16_i32_135
  v135
def k0_off184 (k0_t52 : Fin k0_t52_loop.trips) (k0_t67 : Fin k0_t67_loop.trips) : Fin 2 → Nat :=
  let c0_i32_29 : BitVec 32 := 0#32
  let c1_i32_31 : BitVec 32 := 1#32
  let arg14 : BitVec 32 := Scf.iv c0_i32_29 c1_i32_31 k0_t52
  let c16_i32_123 : BitVec 32 := 16#32
  let v127 : BitVec 32 := Scalar.muli arg14 c16_i32_123
  let c14_i32 : BitVec 32 := 14#32
  let v128 : BitVec 32 := Scalar.addi v127 c14_i32
  let v137 : Index := Scalar.indexCast v128
  let c0_i32_125 : BitVec 32 := 0#32
  let c1_i32_127 : BitVec 32 := 1#32
  let arg15 : BitVec 32 := Scf.iv c0_i32_125 c1_i32_127 k0_t67
  let c16_i32_135 : BitVec 32 := 16#32
  let v135 : BitVec 32 := Scalar.muli arg15 c16_i32_135
  let v136 : BitVec 32 := v135
  let v138 : Index := Scalar.indexCast v136
  ![v137.toNat, v138.toNat]
def k0_off185 (v126 : BitVec 32) (k0_t67 : Fin k0_t67_loop.trips) : Fin 2 → Nat :=
  let v141 : Index := Scalar.indexCast v126
  let c0_i32_125 : BitVec 32 := 0#32
  let c1_i32_127 : BitVec 32 := 1#32
  let arg15 : BitVec 32 := Scf.iv c0_i32_125 c1_i32_127 k0_t67
  let c16_i32_135 : BitVec 32 := 16#32
  let v135 : BitVec 32 := Scalar.muli arg15 c16_i32_135
  let v136 : BitVec 32 := v135
  let v142 : Index := Scalar.indexCast v136
  ![v141.toNat, v142.toNat]

def k0_chk33 (k0_t2 : Fin k0_t2_loop.trips) (v31 : BitVec 32) (v38 : BitVec 32) (v126 : BitVec 32) : Prop :=
  (∀ k0_t67 : Fin k0_t67_loop.trips, ∀ (k0_h5 : k0_cond5 k0_t2 = 1#1), ∀ (k0_h7 : k0_cond7 v31 v38 = 1#1), ∀ a, (k0_off185 v126 k0_t67) a + S1x16.size a ≤ S64x256.size a)
theorem k0_off185_inb : ∀ (k0_t2 : Fin k0_t2_loop.trips) (v31 : BitVec 32) (v38 : BitVec 32) (v126 : BitVec 32) (k0_hw33 : k0_chk33 k0_t2 v31 v38 v126) (k0_t67 : Fin k0_t67_loop.trips), ∀ (k0_h5 : k0_cond5 k0_t2 = 1#1), ∀ (k0_h7 : k0_cond7 v31 v38 = 1#1), ∀ a, (k0_off185 v126 k0_t67) a + S1x16.size a ≤ S64x256.size a := fun k0_t2 v31 v38 v126 k0_hw33 k0_t67 k0_h5 k0_h7 => k0_hw33 k0_t67 k0_h5 k0_h7

@[reducible] def k0_t68_loop : Scf.Loop 32 :=
  let c0_i32_131 : BitVec 32 := 0#32
  let c16_i32_132 : BitVec 32 := 16#32
  let v134 : BitVec 32 := Scalar.addi c0_i32_131 c16_i32_132
  let c1_i32_133 : BitVec 32 := 1#32
  ⟨c0_i32_131, v134, c1_i32_133⟩
def k0_mult32 (k0_t68 : Fin k0_t68_loop.trips) : BitVec 32 :=
  let c0_i32_131 : BitVec 32 := 0#32
  let c1_i32_133 : BitVec 32 := 1#32
  let arg15 : BitVec 32 := Scf.iv c0_i32_131 c1_i32_133 k0_t68
  let c16_i32_135 : BitVec 32 := 16#32
  let v135 : BitVec 32 := Scalar.muli arg15 c16_i32_135
  v135
def k0_off186 (k0_t52 : Fin k0_t52_loop.trips) (k0_t68 : Fin k0_t68_loop.trips) : Fin 2 → Nat :=
  let c0_i32_29 : BitVec 32 := 0#32
  let c1_i32_31 : BitVec 32 := 1#32
  let arg14 : BitVec 32 := Scf.iv c0_i32_29 c1_i32_31 k0_t52
  let c16_i32_129 : BitVec 32 := 16#32
  let v132 : BitVec 32 := Scalar.muli arg14 c16_i32_129
  let c15_i32 : BitVec 32 := 15#32
  let v133 : BitVec 32 := Scalar.addi v132 c15_i32
  let v137 : Index := Scalar.indexCast v133
  let c0_i32_131 : BitVec 32 := 0#32
  let c1_i32_133 : BitVec 32 := 1#32
  let arg15 : BitVec 32 := Scf.iv c0_i32_131 c1_i32_133 k0_t68
  let c16_i32_135 : BitVec 32 := 16#32
  let v135 : BitVec 32 := Scalar.muli arg15 c16_i32_135
  let v136 : BitVec 32 := v135
  let v138 : Index := Scalar.indexCast v136
  ![v137.toNat, v138.toNat]
def k0_off187 (v131 : BitVec 32) (k0_t68 : Fin k0_t68_loop.trips) : Fin 2 → Nat :=
  let v141 : Index := Scalar.indexCast v131
  let c0_i32_131 : BitVec 32 := 0#32
  let c1_i32_133 : BitVec 32 := 1#32
  let arg15 : BitVec 32 := Scf.iv c0_i32_131 c1_i32_133 k0_t68
  let c16_i32_135 : BitVec 32 := 16#32
  let v135 : BitVec 32 := Scalar.muli arg15 c16_i32_135
  let v136 : BitVec 32 := v135
  let v142 : Index := Scalar.indexCast v136
  ![v141.toNat, v142.toNat]

def k0_chk34 (k0_t2 : Fin k0_t2_loop.trips) (v31 : BitVec 32) (v38 : BitVec 32) (v131 : BitVec 32) : Prop :=
  (∀ k0_t68 : Fin k0_t68_loop.trips, ∀ (k0_h5 : k0_cond5 k0_t2 = 1#1), ∀ (k0_h7 : k0_cond7 v31 v38 = 1#1), ∀ a, (k0_off187 v131 k0_t68) a + S1x16.size a ≤ S64x256.size a)
theorem k0_off187_inb : ∀ (k0_t2 : Fin k0_t2_loop.trips) (v31 : BitVec 32) (v38 : BitVec 32) (v131 : BitVec 32) (k0_hw34 : k0_chk34 k0_t2 v31 v38 v131) (k0_t68 : Fin k0_t68_loop.trips), ∀ (k0_h5 : k0_cond5 k0_t2 = 1#1), ∀ (k0_h7 : k0_cond7 v31 v38 = 1#1), ∀ a, (k0_off187 v131 k0_t68) a + S1x16.size a ≤ S64x256.size a := fun k0_t2 v31 v38 v131 k0_hw34 k0_t68 k0_h5 k0_h7 => k0_hw34 k0_t68 k0_h5 k0_h7

def k0_cond8 (k0_t2 : Fin k0_t2_loop.trips) : BitVec 1 :=
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c2_i32_25 : BitVec 32 := 2#32
  let v45 : BitVec 32 := Scalar.addi v18 c2_i32_25
  let c5_i32_26 : BitVec 32 := 5#32
  let v46 : BitVec 1 := Scalar.cmpi .slt v45 c5_i32_26
  let v47 : BitVec 32 := Scalar.extui v46
  let c0_i32_27 : BitVec 32 := 0#32
  let v48 : BitVec 1 := Scalar.cmpi .ne v47 c0_i32_27
  v48

def k0_off188 (i : grid0.Coords) (k0_t2 : Fin k0_t2_loop.trips) : Fin 2 → Nat :=
  let c37200_i32 : BitVec 32 := 37200#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c400_i32 : BitVec 32 := 400#32
  let v2 : BitVec 32 := Scalar.muli v1 c400_i32
  let v3 : BitVec 32 := Scalar.addi c37200_i32 v2
  let c2_i32_14 : BitVec 32 := 2#32
  let c0_i32_8 : BitVec 32 := 0#32
  let c1_i32_9 : BitVec 32 := 1#32
  let arg13 : BitVec 32 := Scf.iv c0_i32_8 c1_i32_9 k0_t2
  let v17 : BitVec 32 := Scalar.muli c2_i32_14 arg13
  let c1_i32_15 : BitVec 32 := 1#32
  let v18 : BitVec 32 := Scalar.addi v17 c1_i32_15
  let c2_i32_28 : BitVec 32 := 2#32
  let v49 : BitVec 32 := Scalar.addi v18 c2_i32_28
  let c80_i32_29 : BitVec 32 := 80#32
  let v50 : BitVec 32 := Scalar.muli v49 c80_i32_29
  let v51 : BitVec 32 := Scalar.addi v3 v50
  let c0_i32_30 : BitVec 32 := 0#32
  ![v51.toNat, 0]
def k0_off189 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r1 : BitVec 32 := 0#32
  let c0_i32_12_r1 : BitVec 32 := 0#32
  ![v1.toNat, 0, 0]
abbrev grid1 : Pipeline.Grid := ⟨1, ![31], ![false]⟩

def k1_cond2 (i : grid1.Coords) : BitVec 1 :=
  let arg0 : BitVec 32 := BitVec.ofNat 32 (i 0).val
  let c30_i32 : BitVec 32 := 30#32
  let v33 : BitVec 1 := Scalar.cmpi .eq arg0 c30_i32
  let v34 : BitVec 32 := Scalar.extui v33
  let c0_i32_15 : BitVec 32 := 0#32
  let v35 : BitVec 1 := Scalar.cmpi .ne v34 c0_i32_15
  v35

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x1200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1200x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S64x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S_ : Shape := ⟨0, ![]⟩
abbrev S64x256 : Shape := ⟨2, ![64, 256]⟩
abbrev S50000x1 : Shape := ⟨2, ![50000, 1]⟩

abbrev nBuf : Space → Nat
  | .hbm => 20
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S50000x256, .f32⟩
  | .hbm, ⟨3, _⟩ => ⟨S_, .f32⟩
  | .hbm, ⟨4, _⟩ => ⟨S64x256, .f32⟩
  | .hbm, ⟨5, _⟩ => ⟨S50000x1, .i32⟩
  | .hbm, ⟨6, _⟩ => ⟨S64x256, .f32⟩
  | .hbm, ⟨7, _⟩ => ⟨S_, .f32⟩
  | .hbm, ⟨8, _⟩ => ⟨S64x256, .f32⟩
  | .hbm, ⟨9, _⟩ => ⟨S50000x1, .i32⟩
  | .hbm, ⟨10, _⟩ => ⟨S64x256, .f32⟩
  | .hbm, ⟨11, _⟩ => ⟨S64x256, .f32⟩
  | .hbm, ⟨12, _⟩ => ⟨S64x256, .f32⟩
  | .hbm, ⟨13, _⟩ => ⟨S_, .f32⟩
  | .hbm, ⟨14, _⟩ => ⟨S64x256, .f32⟩
  | .hbm, ⟨15, _⟩ => ⟨S64x256, .f32⟩
  | .hbm, ⟨16, _⟩ => ⟨S_, .f32⟩
  | .hbm, ⟨17, _⟩ => ⟨S64x256, .f32⟩
  | .hbm, ⟨18, _⟩ => ⟨S64x256, .f32⟩
  | .hbm, ⟨19, _⟩ => ⟨S64x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Ideal.Prog.lean ====
/-
  The SparseCore kernel's program, written once for both halves of its double buffer.

  The printed program unrolls the two halves (`p = 0` and `p = 1`), the sixteen column chunks of the pure arm and the sixteen rows of
  the mixed arm. Here each of those is one parametric program, and `Proof/Ideal/ProgEq.lean` proves the printed program equal to it.
-/
module

public import proofs.«01_k».proof.Proof.Gen.KernelIdeal

@[expose] public section

noncomputable section

namespace Cert.KernelIdeal.Tile

open Idealize.ShloMosaic Idealize.SL.Sem Cert.KernelIdeal Cert.KernelIdeal.Gen

variable {F : FTy → Type} [FloatOps F]

/-- The programs of one tile: those of the vector subcore at the grid point `i`. -/
abbrev PT (F : FTy → Type) (i : grid0.Coords) : Type → Type 1 :=
  Prog (TpuEff nD τ sig (Elt F) Λ₀ (.scVector ((i 0).castLE hcore0) ((i 1).castLE hsub0)))

/-- A counted loop from zero in steps of one. -/
@[reducible] def loopN (n : BitVec 32) : Scf.Loop 32 := ⟨0#32, Scalar.addi 0#32 n, 1#32⟩

theorem loop5_ok : (loopN 5#32).OK := by decide
theorem loop16_ok : (loopN 16#32).OK := by decide
theorem loop64_ok : (loopN 64#32).OK := by decide
theorem loop3_ok : (loopN 3#32).OK := by decide

/-- The induction variable of such a loop, as the program computes it. -/
def ivN {n : Nat} (t : Fin n) : BitVec 32 := Scf.iv 0#32 1#32 t

section Access

variable (i : grid0.Coords)

theorem inb80 {r m : Nat} (hr : r < 80) (hm : m + 16 ≤ 256) : ∀ a, (![r, m] : Fin 2 → Nat) a + S1x16.size a ≤ S80x256.size a
  | 0 => by show r + 1 ≤ 80; omega
  | 1 => by show m + 16 ≤ 256; omega

theorem inb64 {r m : Nat} (hr : r < 64) (hm : m + 16 ≤ 256) : ∀ a, (![r, m] : Fin 2 → Nat) a + S1x16.size a ≤ S64x256.size a
  | 0 => by show r + 1 ≤ 64; omega
  | 1 => by show m + 16 ≤ 256; omega

theorem inb400 {r : Nat} (hr : r + 16 ≤ 400) : ∀ a, (![r] : Fin 1 → Nat) a + S16.size a ≤ S400.size a
  | 0 => by show r + 16 ≤ 400; omega

/-- Sixteen columns of row `r` of a block of eighty rows. -/
def ldF (buf : Memref sig .scVector .vmem S80x256 .f32) (r m : Nat) (hr : r < 80) (hm : m + 16 ≤ 256) : PT F i (Vec F S1x16 .f32) :=
  Prog.lift (.load buf (Rect.unit (s := S80x256) ![r, m] S1x16.size (inb80 hr hm)).toLoadRect (View.loadsAt_vmem h_S1x16))

/-- Sixteen columns of row `r` of an accumulator. -/
def ldA (buf : Memref sig .scVector .vmem S64x256 .f32) (r m : Nat) (hr : r < 64) (hm : m + 16 ≤ 256) : PT F i (Vec F S1x16 .f32) :=
  Prog.lift (.load buf (Rect.unit (s := S64x256) ![r, m] S1x16.size (inb64 hr hm)).toLoadRect (View.loadsAt_vmem h_S1x16))

/-- The same columns of an accumulator, overwritten. -/
def stA (buf : Memref sig .scVector .vmem S64x256 .f32) (r m : Nat) (hr : r < 64) (hm : m + 16 ≤ 256) (v : FVec F S1x16 .f32) : PT F i PUnit :=
  Prog.lift (.store buf (Rect.unit (s := S64x256) ![r, m] S1x16.size (inb64 hr hm)) v Finset.univ (View.stores_vmem_bits_univ h_S1x16 rfl) (.inl rfl))

/-- Sixteen of the tile's four hundred ids. -/
def ldI (buf : Memref sig .scVector .vmem S400 .i32) (r : Nat) (hr : r + 16 ≤ 400) : PT F i (Vec F S16 .i32) :=
  Prog.lift (.load buf (Rect.unit (s := S400) ![r] S16.size (inb400 hr)).toLoadRect (View.loadsAt_vmem h_S16))

end Access

/-! ## Values -/

/-- A loaded row of sixteen as a vector. -/
def lane (x : Vec F S1x16 .f32) : FVec F S16 .f32 := shapeCast S16 x shapeCasts_S1x16_S16
/-- A vector of sixteen as a row to store. -/
def unlane (x : FVec F S16 .f32) : FVec F S1x16 .f32 := shapeCast S1x16 x shapeCasts_S16_S1x16
/-- Sixteen zeros. -/
def zero16 : FVec F S16 .f32 := broadcast S16 (Scalar.ofBits .f32 0x00000000#32)
/-- Sixteen ids as a vector. -/
def ids16 (x : Vec F S16 .i32) : IVec S16 32 := shapeCast S16 x shapeCasts_S16_S16

/-- The four running sums of a pure block's chunk: sums and sums of squares of the even and of the odd rows. -/
abbrev Quad (F : FTy → Type) : Type := FVec F S16 .f32 × FVec F S16 .f32 × FVec F S16 .f32 × FVec F S16 .f32

/-- One pair of rows added to the running sums. -/
def quadStep (s : Quad F) (x y : Vec F S1x16 .f32) : Quad F :=
  (addf s.1 (lane x), addf s.2.1 (mulf (lane x) (lane x)), addf s.2.2.1 (lane y), addf s.2.2.2 (mulf (lane y) (lane y)))

/-! ## The pure arm -/

/-- The even row of pair `k` of group `t`, as the program computes it. -/
def rowE (t : Fin (loopN 5#32).trips) (b : BitVec 32) : Nat := (Scalar.indexCast (Scalar.addi (Scalar.muli (ivN t) 16#32) b)).toNat
/-- The odd row. -/
def rowO (t : Fin (loopN 5#32).trips) (b : BitVec 32) : Nat :=
  (Scalar.indexCast (Scalar.addi (Scalar.addi (Scalar.muli (ivN t) 16#32) b) 1#32)).toNat

theorem rowE_eq : ∀ (t : Fin (loopN 5#32).trips) (k : Fin 8), rowE t (BitVec.ofNat 32 (2 * k.val)) = 16 * t.val + 2 * k.val := by decide
theorem rowO_eq : ∀ (t : Fin (loopN 5#32).trips) (k : Fin 8), rowO t (BitVec.ofNat 32 (2 * k.val)) = 16 * t.val + 2 * k.val + 1 := by decide
theorem rowE_lt (t : Fin (loopN 5#32).trips) (k : Fin 8) : rowE t (BitVec.ofNat 32 (2 * k.val)) < 80 := by
  have h : t.val < 5 := t.isLt
  rw [rowE_eq]; omega
theorem rowO_lt (t : Fin (loopN 5#32).trips) (k : Fin 8) : rowO t (BitVec.ofNat 32 (2 * k.val)) < 80 := by
  have h : t.val < 5 := t.isLt
  rw [rowO_eq]; omega

section Arms

variable (i : grid0.Coords) (buf : Memref sig .scVector .vmem S80x256 .f32) (idx : Memref sig .scVector .vmem S400 .i32)
  (accS accQ : Memref sig .scVector .vmem S64x256 .f32)

theorem col_le (c : Fin 16) : 16 * c.val + 16 ≤ 256 := by omega

/-- The pairs of rows `ks` of group `t`, at chunk `c`. -/
def pairs (c : Fin 16) (t : Fin (loopN 5#32).trips) : List (Fin 8) → Quad F → PT F i (Quad F)
  | [], s => pure s
  | k :: ks, s => do
    let x ← ldF i buf (rowE t (BitVec.ofNat 32 (2 * k.val))) (16 * c.val) (rowE_lt t k) (col_le c)
    let y ← ldF i buf (rowO t (BitVec.ofNat 32 (2 * k.val))) (16 * c.val) (rowO_lt t k) (col_le c)
    pairs c t ks (quadStep s x y)

/-- One group of sixteen rows at chunk `c`. -/
def pureTrip (c : Fin 16) (t : Fin (loopN 5#32).trips) (s : Quad F) : PT F i (Quad F) :=
  pairs i buf c t [0, 1, 2, 3, 4, 5, 6, 7] s

/-- The accumulators' columns of chunk `c` at row `seg`, increased by a chunk's sums. -/
def addChunk (c : Fin 16) (seg : BitVec 32) (hseg : seg.toNat < 64) (s : Quad F) : PT F i PUnit := do
  let a ← ldA i accS seg.toNat (16 * c.val) hseg (col_le c)
  let _ ← ldA (F := F) i accS seg.toNat (16 * c.val) hseg (col_le c)
  stA i accS seg.toNat (16 * c.val) hseg (col_le c) (unlane (addf (lane a) (addf s.1 s.2.2.1)))
  let q ← ldA i accQ seg.toNat (16 * c.val) hseg (col_le c)
  let _ ← ldA (F := F) i accQ seg.toNat (16 * c.val) hseg (col_le c)
  stA i accQ seg.toNat (16 * c.val) hseg (col_le c) (unlane (addf (lane q) (addf s.2.1 s.2.2.2)))

/-- The pure arm's chunks `cs`. -/
def pureArm (seg : BitVec 32) (hseg : seg.toNat < 64) : List (Fin 16) → PT F i PUnit
  | [] => pure ⟨⟩
  | c :: cs => do
    let s ← Scf.Loop.for (loopN 5#32) loop5_ok (zero16, zero16, zero16, zero16) (pureTrip i buf c)
    addChunk i accS accQ c seg hseg s
    pureArm seg hseg cs

/-- The chunks, in order. -/
def chunks16 : List (Fin 16) := [0, 1, 2, 3, 4, 5, 6, 7, 8, 9, 10, 11, 12, 13, 14, 15]

/-! ## The mixed arm -/

/-- A run-time check on a segment number that bounds it. -/
structure SegCheck where
  /-- what is checked -/
  P : BitVec 32 → Prop
  /-- how -/
  dec : ∀ s, Decidable (P s)
  /-- it is the bound -/
  iff : ∀ s, P s ↔ s.toNat < 64

/-- Row `k` of group `g`, as the program computes it. -/
def rowM (g : Fin (loopN 5#32).trips) (k : Fin 16) : Nat :=
  (Scalar.indexCast (Scalar.addi (Scalar.muli (ivN g) 16#32) (BitVec.ofNat 32 k.val))).toNat
/-- The first column of chunk `c`, as the program computes it. -/
def colM (c : Fin (loopN 16#32).trips) : Nat := (Scalar.indexCast (Scalar.muli (ivN c) 16#32)).toNat

theorem rowM_eq : ∀ (g : Fin (loopN 5#32).trips) (k : Fin 16), rowM g k = 16 * g.val + k.val := by decide
theorem colM_eq : ∀ c : Fin (loopN 16#32).trips, colM c = 16 * c.val := by decide
theorem rowM_lt (g : Fin (loopN 5#32).trips) (k : Fin 16) : rowM g k < 80 := by
  have h : g.val < 5 := g.isLt
  rw [rowM_eq]; omega
theorem colM_le (c : Fin (loopN 16#32).trips) : colM c + 16 ≤ 256 := by
  have h : c.val < 16 := c.isLt
  rw [colM_eq]; omega

/-- One chunk of a row, added to the accumulators at row `seg`. -/
def mixedTrip (r : Nat) (hr : r < 80) (seg : BitVec 32) (hseg : seg.toNat < 64) (c : Fin (loopN 16#32).trips) (_ : PUnit) : PT F i PUnit := do
  let x ← ldF i buf r (colM c) hr (colM_le c)
  let a ← ldA i accS seg.toNat (colM c) hseg (colM_le c)
  let _ ← ldA (F := F) i accS seg.toNat (colM c) hseg (colM_le c)
  stA i accS seg.toNat (colM c) hseg (colM_le c) (unlane (addf (lane a) (lane x)))
  let q ← ldA i accQ seg.toNat (colM c) hseg (colM_le c)
  let _ ← ldA (F := F) i accQ seg.toNat (colM c) hseg (colM_le c)
  stA i accQ seg.toNat (colM c) hseg (colM_le c) (unlane (addf (lane q) (mulf (lane x) (lane x))))

theorem slices16 : ∀ k : Fin 16, S16.Slices ![k.val] S1 := by decide

/-- Id `k` of sixteen. -/
def idAt (v : IVec S16 32) (k : Fin 16) : BitVec 32 := extractAt ![0] (extractStridedSlice S1 ![k.val] v (slices16 k)) inpos_S1_p0

/-- The rows `ks` of group `g`, whose ids are `v`. -/
def mixedRows (chk : Fin 16 → SegCheck) (g : Fin (loopN 5#32).trips) (v : IVec S16 32) : List (Fin 16) → PT F i PUnit
  | [] => pure ⟨⟩
  | k :: ks => do
    have hw : (chk k).P (idAt v k) := (← Prog.lift (TpuEff.assume ((chk k).P (idAt v k)) ((chk k).dec (idAt v k)))).down
    Scf.Loop.for (loopN 16#32) loop16_ok ⟨⟩ (mixedTrip i buf accS accQ (rowM g k) (rowM_lt g k) (idAt v k) (((chk k).iff _).1 hw))
    mixedRows chk g v ks

/-- The ids of group `g` of the block whose ids begin at `tb`: where they stand. -/
def idsAt (tb : BitVec 32) (g : Fin (loopN 5#32).trips) : Nat := (Scalar.indexCast (Scalar.addi tb (Scalar.muli (ivN g) 16#32))).toNat

/-- One group of the mixed arm. -/
def mixedGroup (chk : Fin 16 → SegCheck) (tb : BitVec 32) (htb : ∀ g, idsAt tb g + 16 ≤ 400) (g : Fin (loopN 5#32).trips) (_ : PUnit) : PT F i PUnit := do
  let v ← ldI i idx (idsAt tb g) (htb g)
  mixedRows i buf accS accQ chk g (ids16 v) chunks16

/-! ## A block, and the tile -/

/-- The two conditions of a block's arms. -/
def condPure (v w : BitVec 32) : BitVec 1 := Scalar.cmpi .ne (Scalar.extui (Scalar.cmpi .eq v w) : BitVec 32) 0#32
def condMixed (v w : BitVec 32) : BitVec 1 := Scalar.cmpi .ne (Scalar.extui (Scalar.cmpi .ne v w) : BitVec 32) 0#32

/-- The checks of one block: the pure arm's on its first and last ids, which bounds the first where the two agree, and the mixed
    arm's on each row's id. -/
structure BlockChecks where
  P : BitVec 32 → BitVec 32 → Prop
  dec : ∀ v w, Decidable (P v w)
  iff : ∀ v w, P v w ↔ (condPure v w = 1#1 → v.toNat < 64)
  rows : ∀ v w, condMixed v w = 1#1 → Fin 16 → SegCheck

/-- Where the last sixteen ids of a block stand. -/
def lastAt (tb : BitVec 32) : Nat := (Scalar.indexCast (Scalar.subi (Scalar.addi tb 80#32) 16#32)).toNat

/-- A block of one segment, whose first id is `v` and whose last is `w`. -/
def pureIf (C : BlockChecks) (v w : BitVec 32) (hw : C.P v w) : PT F i PUnit :=
  if hp : condPure v w = 1#1 then pureArm i buf accS accQ v ((C.iff _ _).1 hw hp) chunks16 else pure ⟨⟩

/-- A block of several segments. -/
def mixedIf (C : BlockChecks) (v w : BitVec 32) (tb : BitVec 32) (htb : ∀ g, idsAt tb g + 16 ≤ 400) : PT F i PUnit :=
  if hm : condMixed v w = 1#1 then Scf.Loop.for (loopN 5#32) loop5_ok ⟨⟩ (mixedGroup i buf idx accS accQ (C.rows v w hm) tb htb) else pure ⟨⟩

/-- The computation on one block. -/
def block (C : BlockChecks) (tb : BitVec 32) (h1 : (Scalar.indexCast tb).toNat + 16 ≤ 400) (h2 : lastAt tb + 16 ≤ 400)
    (htb : ∀ g, idsAt tb g + 16 ≤ 400) : PT F i PUnit := do
  let v ← ldI i idx (Scalar.indexCast tb).toNat h1
  let w ← ldI i idx (lastAt tb) h2
  have hw : C.P (idAt (ids16 v) 0) (idAt (ids16 w) 15) :=
    (← Prog.lift (TpuEff.assume (C.P (idAt (ids16 v) 0) (idAt (ids16 w) 15)) (C.dec (idAt (ids16 v) 0) (idAt (ids16 w) 15)))).down
  pureIf i buf accS accQ C (idAt (ids16 v) 0) (idAt (ids16 w) 15) hw
  mixedIf i buf idx accS accQ C (idAt (ids16 v) 0) (idAt (ids16 w) 15) tb htb

/-- The accumulators' rows zeroed, chunk by chunk. -/
def zeroChunks (r : Nat) (hr : r < 64) : List (Fin 16) → PT F i PUnit
  | [] => pure ⟨⟩
  | c :: cs => do
    let _ ← ldA (F := F) i accS r (16 * c.val) hr (col_le c)
    stA i accS r (16 * c.val) hr (col_le c) (unlane zero16)
    let _ ← ldA (F := F) i accQ r (16 * c.val) hr (col_le c)
    stA i accQ r (16 * c.val) hr (col_le c) (unlane zero16)
    zeroChunks r hr cs

/-- Row `t`, as the program computes it. -/
def rowZ (t : Fin (loopN 64#32).trips) : Nat := (Scalar.indexCast (ivN t)).toNat
theorem rowZ_eq : ∀ t : Fin (loopN 64#32).trips, rowZ t = t.val := by decide
theorem rowZ_lt (t : Fin (loopN 64#32).trips) : rowZ t < 64 := by
  have h : t.val < 64 := t.isLt
  rw [rowZ_eq]; exact h

/-- One row zeroed. -/
def zeroTrip (t : Fin (loopN 64#32).trips) (_ : PUnit) : PT F i PUnit := zeroChunks i accS accQ (rowZ t) (rowZ_lt t) chunks16

end Arms

/-! ## The two halves of the double buffer -/

/-- The block of trip `t` in half `p`. -/
def blk (t : Fin (loopN 3#32).trips) (p : Fin 2) : BitVec 32 := Scalar.addi (Scalar.muli 2#32 (ivN t)) (BitVec.ofNat 32 p.val)
/-- The block is one of the five. -/
def condB (b : BitVec 32) : BitVec 1 := Scalar.cmpi .ne (Scalar.extui (Scalar.cmpi .slt b 5#32) : BitVec 32) 0#32
/-- Where a block's ids begin among the tile's four hundred. -/
def tbOf (b : BitVec 32) : BitVec 32 := Scalar.muli b 80#32

theorem ids_le : ∀ (t : Fin (loopN 3#32).trips) (p : Fin 2), condB (blk t p) = 1#1 → (Scalar.indexCast (tbOf (blk t p))).toNat + 16 ≤ 400 := by decide
theorem last_le : ∀ (t : Fin (loopN 3#32).trips) (p : Fin 2), condB (blk t p) = 1#1 → lastAt (tbOf (blk t p)) + 16 ≤ 400 := by decide
theorem group_le : ∀ (t : Fin (loopN 3#32).trips) (p : Fin 2), condB (blk t p) = 1#1 → ∀ g, idsAt (tbOf (blk t p)) g + 16 ≤ 400 := by decide

/-- The first row of the tile at the grid point `i`, as the program computes it. -/
def row0 (i : grid0.Coords) : BitVec 32 :=
  Scalar.addi 37200#32 (Scalar.muli (Scalar.addi (Scalar.muli (BitVec.ofNat 32 (i 1).val) 2#32) (BitVec.ofNat 32 (i 0).val)) 400#32)

/-- Eighty rows of the features. -/
def featRows (feat : Memref sig .scVector .hbm S50000x256 .f32) (i : grid0.Coords) (o : BitVec 32)
    (h : ∀ a, (![(Scalar.addi (row0 i) o).toNat, 0] : Fin 2 → Nat) a + S80x256.size a ≤ S50000x256.size a) :
    Memref sig .scVector .hbm S80x256 .f32 :=
  feat.slice (Rect.unit (s := S50000x256) ![(Scalar.addi (row0 i) o).toNat, 0] S80x256.size h) (fun _ => rfl)

theorem feat_inb (i : grid0.Coords) (t : Fin (loopN 3#32).trips) : ∀ p : Fin 2, condB (blk t p) = 1#1 →
    ∀ a, (![(Scalar.addi (row0 i) (Scalar.muli (blk t p) 80#32)).toNat, 0] : Fin 2 → Nat) a + S80x256.size a ≤ S50000x256.size a
  | 0 => fun h => k0_off19_inb i t h
  | 1 => fun h => k0_off104_inb i t h

theorem next_inb (i : grid0.Coords) (t : Fin (loopN 3#32).trips) : ∀ p : Fin 2, condB (blk t p) = 1#1 → condB (Scalar.addi (blk t p) 2#32) = 1#1 →
    ∀ a, (![(Scalar.addi (row0 i) (Scalar.muli (Scalar.addi (blk t p) 2#32) 80#32)).toNat, 0] : Fin 2 → Nat) a + S80x256.size a ≤ S50000x256.size a
  | 0 => fun h h' => k0_off103_inb i t h h'
  | 1 => fun h h' => k0_off188_inb i t h h'

/-- A row check of the mixed arm is the bound on the row's id. -/
theorem rowCheck_iff {A B : Prop} (hA : A) (hB : B) (s : BitVec 32) :
    (∀ c : Fin (loopN 16#32).trips, ∀ (_ : A) (_ : B), ∀ a, (![(Scalar.indexCast s).toNat, colM c] : Fin 2 → Nat) a + S1x16.size a ≤ S64x256.size a)
      ↔ s.toNat < 64 := by
  have e : (Scalar.indexCast s).toNat = s.toNat := rfl
  constructor
  · intro h
    have h0 := h ⟨0, by decide⟩ hA hB 0
    have h1 : (Scalar.indexCast s).toNat + 1 ≤ 64 := h0
    omega
  · intro h c _ _
    exact inb64 (by omega) (colM_le c)

/-- The pure arm's check is the bound on the block's id. -/
theorem pureCheck_iff {A B : Prop} (hA : A) (s : BitVec 32) (Q : Nat → Prop)
    (hQ : ∀ m, Q m = (∀ (_ : A) (_ : B), ∀ a, (![(Scalar.indexCast s).toNat, m] : Fin 2 → Nat) a + S1x16.size a ≤ S64x256.size a)) :
    (Q 0 ∧ Q 16 ∧ Q 32 ∧ Q 48 ∧ Q 64 ∧ Q 80 ∧ Q 96 ∧ Q 112 ∧ Q 128 ∧ Q 144 ∧ Q 160 ∧ Q 176 ∧ Q 192 ∧ Q 208 ∧ Q 224 ∧ Q 240)
      ↔ (B → s.toNat < 64) := by
  have e : (Scalar.indexCast s).toNat = s.toNat := rfl
  constructor
  · rintro ⟨h, -⟩ hB
    rw [hQ] at h
    have h1 : (Scalar.indexCast s).toNat + 1 ≤ 64 := h hA hB 0
    omega
  · intro h
    have key : ∀ m, m + 16 ≤ 256 → Q m := fun m hm => by
      rw [hQ]; intro _ hB; exact inb64 (by have := h hB; omega) hm
    exact ⟨key _ (by omega), key _ (by omega), key _ (by omega), key _ (by omega), key _ (by omega), key _ (by omega), key _ (by omega),
      key _ (by omega), key _ (by omega), key _ (by omega), key _ (by omega), key _ (by omega), key _ (by omega), key _ (by omega),
      key _ (by omega), key _ (by omega)⟩

end Cert.KernelIdeal.Tile

end
-- ==== Proof.Ideal.Hoare.lean ====
/-
  What a tile's accesses do to the buffers it holds, the contents of each buffer named by a function of natural coordinates.
-/
module

public import proofs.«01_k».proof.Proof.Ideal.Prog
public import Idealize.ShloMosaic.Lib.SparseCore.Quiescent
public import Idealize.ShloMosaic.Lib.SparseCore.Ops
public import Idealize.ShloMosaic.Lib.Transfers
public import Idealize.ShloMosaic.Lib.ValueLayout
public import Idealize.ShloMosaic.Lib.Tactic

@[expose] public section

noncomputable section

namespace Cert.KernelIdeal.Tile

open Idealize.ShloMosaic Idealize.SL.Sem Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx

variable {F : FTy → Type} [FloatOps F] {U : Type} [URA U] [CountersIn U]

local notation "𝕄" => MT nD τ sig (HIx 1) (Elt F) ℕ U ℕ

/-! ## Values by natural coordinates -/

/-- A matrix's contents. -/
abbrev Mat (F : FTy → Type) : Type := ℕ → ℕ → F .f32

/-- A matrix as the contents of a block of eighty rows, of an accumulator, and of the features. -/
def blockOf (A : Mat F) : S80x256.Idx → F .f32 := fun y => A (y 0).val (y 1).val
def accOf (A : Mat F) : S64x256.Idx → F .f32 := fun y => A (y 0).val (y 1).val
/-- Words as the contents of the tile's ids. -/
def idsOf (V : ℕ → BitVec 32) : S400.Idx → BitVec 32 := fun y => V (y 0).val

/-- A row of sixteen as the program loads and stores it. -/
def row16 (f : ℕ → F .f32) : S1x16.Idx → F .f32 := fun x => f (x 1).val
/-- A vector of sixteen. -/
def vec16 (f : ℕ → F .f32) : S16.Idx → F .f32 := fun x => f (x 0).val
/-- Sixteen words. -/
def ivec16 (f : ℕ → BitVec 32) : S16.Idx → BitVec 32 := fun x => f (x 0).val

theorem lane_row16 (f : ℕ → F .f32) : lane (F := F) (row16 f) = vec16 f := by
  funext x
  have e : x = ix1 (x 0) := by funext a; match a with | 0 => rfl
  rw [e]
  exact shapeCast_1a_a_apply (a := 16) (row16 f) shapeCasts_S1x16_S16 (x 0)

theorem unlane_vec16 (f : ℕ → F .f32) : unlane (F := F) (vec16 f) = row16 f := by
  funext x
  have e : x = ix2 (x 0) (x 1) := by funext a; match a with | 0 => rfl | 1 => rfl
  rw [e]
  exact shapeCast_a_1a_apply (a := 16) (vec16 f) shapeCasts_S16_S1x16 (x 0) (x 1)

theorem ids16_ivec16 (f : ℕ → BitVec 32) : ids16 (F := F) (ivec16 f) = ivec16 f := shapeCast_self _ _

theorem addf_vec16 (f g : ℕ → F .f32) : addf (F := F) (s := S16) (φ := .f32) (vec16 f) (vec16 g) = vec16 fun l => FloatOps.addf (f l) (g l) := rfl
theorem mulf_vec16 (f g : ℕ → F .f32) : mulf (F := F) (s := S16) (φ := .f32) (vec16 f) (vec16 g) = vec16 fun l => FloatOps.mulf (f l) (g l) := rfl

/-- The zero word's value. -/
def zeroF (F : FTy → Type) [FloatOps F] : F .f32 := Scalar.ofBits .f32 0x00000000#32

theorem zero16_eq : zero16 (F := F) = vec16 fun _ => zeroF F := rfl

theorem idAt_ivec16 (f : ℕ → BitVec 32) (k : Fin 16) : idAt (ivec16 f) k = f k.val := by
  unfold idAt extractAt
  exact extractStridedSlice_apply (s := S16) (t := S1) ![k.val] (ivec16 f) (slices16 k) _ (fun a => match a with | 0 => k)
    (fun a => match a with | 0 => rfl)

/-! ## Holding a buffer -/

variable (d : Dev nD) (i : grid0.Coords)

/-- The tile's SparseCore and subcore. -/
abbrev cV (i : grid0.Coords) : Fin τ.nSC := (i 0).castLE hcore0
abbrev jV (i : grid0.Coords) : Fin τ.nSub := (i 1).castLE hsub0
/-- The tile's thread. -/
abbrev thr : Thread nD τ := V d (cV i) (jV i)

/-- No variants: a tile's program has no unbounded loop. -/
abbrev 𝒱₀ : Variants := Variants.none

/-- A tile program's weakest precondition. -/
abbrev WP {α : Type} (p : PT F i α) (Q : α → sProp 𝕄) : sProp 𝕄 := wp frame (wpE (defs₀ (F := F)) 𝒱₀ (thr d i) none) Set.univ p Q

variable {d i} in
/-- A program that is done. -/
theorem wp_ret {α : Type} {a : α} {Q : α → sProp 𝕄} : Q a ⊢ WP d i (pure a) Q := by
  show Q a ⊢ wp frame (wpE (defs₀ (F := F)) 𝒱₀ (thr d i) none) Set.univ (pure a) Q
  rw [wp_pure]
  iintro H; imodintro; iexact H

variable {d i} in
/-- A program followed by another. -/
theorem wp_seq {α β : Type} {p : PT F i α} {k : α → PT F i β} {Q : β → sProp 𝕄} :
    WP d i p (fun a => WP d i (k a) Q) ⊢ WP d i (p >>= k) Q := by
  show _ ⊢ wp frame (wpE (defs₀ (F := F)) 𝒱₀ (thr d i) none) Set.univ (p >>= k) Q
  rw [wp_bind]

/-- The tile holds share `q` of what the memref `m` names, whose contents are `X`. -/
def own {sp : Space} {s : Shape} {e : EltTy} (q : PosShare TreeShare) (m : Memref sig .scVector sp s e) (X : s.Idx → Elt F e) : sProp 𝕄 :=
  iprop(∃ f : Buf (Elt F) (m.view.loc (thr d i)), ⌜m.view.read (Elt F) f = X⌝ ∗ (m.view.loc (thr d i) ↦[m.view.set]{q} f))

variable {d i}

theorem own_congr {sp : Space} {s : Shape} {e : EltTy} {q : PosShare TreeShare} {m : Memref sig .scVector sp s e} {X Y : s.Idx → Elt F e} (h : X = Y) :
    (own d i q m X : sProp 𝕄) ⊢ own d i q m Y := by rw [h]

/-- A load reads the contents. -/
theorem wp_load_own {cs : CoreSpace} {s : Shape} {e : EltTy} {q : PosShare TreeShare} {m : Memref sig .scVector cs s e} {r : Rect s}
    {hl : m.view.LoadsAt r.toLoadRect} {α : Type} {k : (r.shape.Idx → Elt F e) → PT F i α} {Q : α → sProp 𝕄} {X : s.Idx → Elt F e} :
    own d i q m X ⊢ iprop((own d i q m X -∗ WP d i (k fun x => X (r.emb x)) Q) -∗ WP d i (.op (.load m r.toLoadRect hl) k) Q) := by
  unfold own
  iintro ⟨%f, %hf, H⟩ Hk
  iapply (wp_load_rect 𝒱₀ (thr d i) none Set.univ (m := m) (r := r) (hl := hl) (View.set_slice_subset _ r)) $$ H
  iintro H
  have e : (m.access r).read (Elt F) f = fun x => X (r.emb x) := by subst hf; rfl
  rw [e]
  iapply Hk
  iexists f
  isplitr
  · ipureintro; exact hf
  · iexact H

/-- A store puts its values where its rectangle is, and leaves the rest. -/
theorem wp_store_own {cs : CoreSpace} {s : Shape} {e : EltTy} {m : Memref sig .scVector cs s e} {r : Rect s} {w : r.shape.Idx → Elt F e}
    {hx : (m.access r).Stores Finset.univ} {hm : (Finset.univ : Finset r.shape.Idx) = Finset.univ ∨ ∀ a, r.stride a = 1} {α : Type}
    {k : PUnit → PT F i α} {Q : α → sProp 𝕄} {X Y : s.Idx → Elt F e} (h1 : ∀ x, Y (r.emb x) = w x) (h2 : ∀ y, y ∉ r.set → Y y = X y) :
    own d i fullShare m X ⊢ iprop((own d i fullShare m Y -∗ WP d i (k ⟨⟩) Q) -∗ WP d i (.op (.store m r w Finset.univ hx hm) k) Q) := by
  unfold own
  iintro ⟨%f, %hf, H⟩ Hk
  iapply (wp_store 𝒱₀ (thr d i) none Set.univ (m := m) (r := r) (w := w) (Mk := Finset.univ) (hx := hx) (hm := hm) (S := m.view.set)
    (by rw [View.setOn_univ]; exact View.set_slice_subset _ r)) $$ H
  iintro H
  iapply Hk
  iexists _
  isplitr
  rotate_left
  · iexact H
  · ipureintro
    funext y
    by_cases hy : y ∈ r.set
    · obtain ⟨x, hx⟩ := LoadRect.exists_idx_of_mem _ hy
      obtain rfl : r.emb x = y := hx
      rw [h1]
      exact View.read_slice_write_emb (v := m.view) r f w (Finset.mem_univ x)
    · rw [h2 y hy, ← hf]
      exact View.read_slice_write_of_not_mem _ _ _ _ (h := by rw [Rect.map_emb_univ]; exact hy)

/-! ## The accesses of the tile program -/

theorem wp_ldF {q : PosShare TreeShare} {buf : Memref sig .scVector .vmem S80x256 .f32} {r m : ℕ} {hr : r < 80} {hm : m + 16 ≤ 256} {X : Mat F}
    {α : Type} {k : Vec F S1x16 .f32 → PT F i α} {Q : α → sProp 𝕄} :
    own d i q buf (blockOf X) ⊢ iprop((own d i q buf (blockOf X) -∗ WP d i (k (row16 fun l => X r (m + l))) Q)
      -∗ WP d i (ldF i buf r m hr hm >>= k) Q) := by
  have e : (row16 fun l => X r (m + l)) = fun x => blockOf X ((Rect.unit (s := S80x256) ![r, m] S1x16.size (inb80 hr hm)).emb x) := by
    funext x
    have h0 : (x 0).val = 0 := by have : (x 0).val < 1 := (x 0).isLt; omega
    show X r (m + (x 1).val) = X (r + 1 * (x 0).val) (m + 1 * (x 1).val)
    simp only [h0, Nat.one_mul, Nat.add_zero, Nat.mul_zero]
  rw [e]
  exact wp_load_own (hl := View.loadsAt_vmem h_S1x16)

theorem wp_ldA {q : PosShare TreeShare} {acc : Memref sig .scVector .vmem S64x256 .f32} {r m : ℕ} {hr : r < 64} {hm : m + 16 ≤ 256} {A : Mat F}
    {α : Type} {k : Vec F S1x16 .f32 → PT F i α} {Q : α → sProp 𝕄} :
    own d i q acc (accOf A) ⊢ iprop((own d i q acc (accOf A) -∗ WP d i (k (row16 fun l => A r (m + l))) Q)
      -∗ WP d i (ldA i acc r m hr hm >>= k) Q) := by
  have e : (row16 fun l => A r (m + l)) = fun x => accOf A ((Rect.unit (s := S64x256) ![r, m] S1x16.size (inb64 hr hm)).emb x) := by
    funext x
    have h0 : (x 0).val = 0 := by have : (x 0).val < 1 := (x 0).isLt; omega
    show A r (m + (x 1).val) = A (r + 1 * (x 0).val) (m + 1 * (x 1).val)
    simp only [h0, Nat.one_mul, Nat.add_zero, Nat.mul_zero]
  rw [e]
  exact wp_load_own (hl := View.loadsAt_vmem h_S1x16)

theorem wp_ldI {q : PosShare TreeShare} {idx : Memref sig .scVector .vmem S400 .i32} {r : ℕ} {hr : r + 16 ≤ 400} {W : ℕ → BitVec 32}
    {α : Type} {k : Vec F S16 .i32 → PT F i α} {Q : α → sProp 𝕄} :
    own d i q idx (idsOf W) ⊢ iprop((own d i q idx (idsOf W) -∗ WP d i (k (ivec16 fun l => W (r + l))) Q)
      -∗ WP d i (ldI i idx r hr >>= k) Q) := by
  have e : (ivec16 fun l => W (r + l)) = fun x => idsOf W ((Rect.unit (s := S400) ![r] S16.size (inb400 hr)).emb x) := by
    funext x
    show W (r + (x 0).val) = W (r + 1 * (x 0).val)
    rw [Nat.one_mul]
  rw [e]
  exact wp_load_own (e := .i32) (hl := View.loadsAt_vmem h_S16)

/-- Sixteen columns of a row replaced. -/
def put (A : Mat F) (r m : ℕ) (g : ℕ → F .f32) : Mat F := fun a b => if a = r ∧ m ≤ b ∧ b < m + 16 then g (b - m) else A a b

theorem wp_stA {acc : Memref sig .scVector .vmem S64x256 .f32} {r m : ℕ} {hr : r < 64} {hm : m + 16 ≤ 256} {A : Mat F} {g : ℕ → F .f32}
    {α : Type} {k : PUnit → PT F i α} {Q : α → sProp 𝕄} :
    own d i fullShare acc (accOf A) ⊢ iprop((own d i fullShare acc (accOf (put A r m g)) -∗ WP d i (k ⟨⟩) Q)
      -∗ WP d i (stA i acc r m hr hm (row16 g) >>= k) Q) := by
  refine wp_store_own (fun x => ?_) (fun y hy => ?_)
  · have h0 : (x 0).val = 0 := by have : (x 0).val < 1 := (x 0).isLt; omega
    have h1 : (x 1).val < 16 := (x 1).isLt
    show put A r m g (r + 1 * (x 0).val) (m + 1 * (x 1).val) = g (x 1).val
    unfold put
    rw [if_pos (by omega)]
    congr 1; omega
  · show put A r m g (y 0).val (y 1).val = A (y 0).val (y 1).val
    unfold put
    refine if_neg fun h => hy ?_
    rw [Rect.mem_set_unit]
    intro a
    match a with
    | 0 => exact ⟨by show r ≤ (y 0).val; omega, by show (y 0).val < r + 1; omega⟩
    | 1 => exact ⟨h.2.1, h.2.2⟩

theorem wp_stA' {acc : Memref sig .scVector .vmem S64x256 .f32} {r m : ℕ} {hr : r < 64} {hm : m + 16 ≤ 256} {A : Mat F} {g : ℕ → F .f32}
    {Q : PUnit → sProp 𝕄} :
    own d i fullShare acc (accOf A) ⊢ iprop((own d i fullShare acc (accOf (put A r m g)) -∗ Q ⟨⟩)
      -∗ WP d i (stA i acc r m hr hm (row16 g)) Q) := by
  refine (wp_stA (k := pure) (Q := Q) (m := m) (hm := hm) (hr := hr) (g := g)).trans ?_
  rw [bind_pure]
  iintro H Hk
  iapply H
  iintro Ha
  iapply wp_ret
  iapply Hk; iexact Ha

end Cert.KernelIdeal.Tile

end
-- ==== Proof.Ideal.Arms.lean ====
/-
  What the computation on one block of eighty rows leaves in the two accumulators.
-/
module

public import proofs.«01_k».proof.Proof.Ideal.Hoare

@[expose] public section

noncomputable section

namespace Cert.KernelIdeal.Tile

open Idealize.ShloMosaic Idealize.SL.Sem Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx

variable {F : FTy → Type} [FloatOps F] {U : Type} [URA U] [CountersIn U]

local notation "𝕄" => MT nD τ sig (HIx 1) (Elt F) ℕ U ℕ

/-! ## The values -/

/-- The sums of the even rows, of their squares, of the odd rows and of theirs, over the first `n` pairs of rows, at column `b`. -/
def pureQ (X : Mat F) (b : ℕ) : ℕ → F .f32 × F .f32 × F .f32 × F .f32
  | 0 => (zeroF F, zeroF F, zeroF F, zeroF F)
  | n + 1 => (FloatOps.addf (pureQ X b n).1 (X (2 * n) b), FloatOps.addf (pureQ X b n).2.1 (FloatOps.mulf (X (2 * n) b) (X (2 * n) b)),
      FloatOps.addf (pureQ X b n).2.2.1 (X (2 * n + 1) b), FloatOps.addf (pureQ X b n).2.2.2 (FloatOps.mulf (X (2 * n + 1) b) (X (2 * n + 1) b)))

/-- The sum of a pure block's rows at a column, as the program adds them, and that of their squares. -/
def pureS (X : Mat F) (b : ℕ) : F .f32 := FloatOps.addf (pureQ X b 40).1 (pureQ X b 40).2.2.1
def pureSq (X : Mat F) (b : ℕ) : F .f32 := FloatOps.addf (pureQ X b 40).2.1 (pureQ X b 40).2.2.2

/-- The squares. -/
def sqm (X : Mat F) : Mat F := fun a b => FloatOps.mulf (X a b) (X a b)

/-- Row `r` increased by `x` in its first `m` columns. -/
def addTo (A : Mat F) (r : ℕ) (x : ℕ → F .f32) (m : ℕ) : Mat F := fun a b => if a = r ∧ b < m then FloatOps.addf (A a b) (x b) else A a b

/-- The first `n` rows of a block, each added to the row that its id names. -/
def rowsAdd (A : Mat F) (W : ℕ → BitVec 32) (X : Mat F) : ℕ → Mat F
  | 0 => A
  | n + 1 => addTo (rowsAdd A W X n) (W n).toNat (X n) 256

/-- An accumulator after a block of ids `W` and rows `X`; `x` is the sum of all rows. -/
def blockAcc (A : Mat F) (W : ℕ → BitVec 32) (X : Mat F) (x : ℕ → F .f32) : Mat F :=
  if W 0 = W 79 then addTo A (W 0).toNat x 256 else rowsAdd A W X 80

theorem put_addTo (A : Mat F) (r m : ℕ) (x : ℕ → F .f32) :
    put (addTo A r x m) r m (fun l => FloatOps.addf (addTo A r x m r (m + l)) (x (m + l))) = addTo A r x (m + 16) := by
  funext a b
  unfold put
  by_cases h : a = r ∧ m ≤ b ∧ b < m + 16
  · obtain ⟨rfl, h1, h2⟩ := h
    rw [if_pos ⟨rfl, h1, h2⟩]
    have e : m + (b - m) = b := by omega
    simp only [e, addTo, true_and]
    rw [if_neg (by omega), if_pos (by omega)]
  · rw [if_neg h]
    unfold addTo
    by_cases h' : a = r ∧ b < m
    · rw [if_pos h', if_pos ⟨h'.1, by omega⟩]
    · rw [if_neg h', if_neg]
      intro h2; omega

theorem addTo_zero (A : Mat F) (r : ℕ) (x : ℕ → F .f32) : addTo A r x 0 = A := by
  funext a b
  exact if_neg fun h => absurd h.2 (Nat.not_lt_zero _)

/-- The rows before `t`, and the first `m` columns of row `t`, zeroed. -/
def zeroTo (A : Mat F) (t m : ℕ) : Mat F := fun a b => if a < t ∨ (a = t ∧ b < m) then zeroF F else A a b

/-- A row of the squares, where the program computes it. -/
theorem sqm_row (B X : Mat F) (s r m : ℕ) :
    (fun l => FloatOps.addf (addTo B s (sqm X r) m s (m + l)) (FloatOps.mulf (X r (m + l)) (X r (m + l))))
      = fun l => FloatOps.addf (addTo B s (sqm X r) m s (m + l)) (sqm X r (m + l)) := rfl

theorem rowsAdd_succ (A : Mat F) (W : ℕ → BitVec 32) (X : Mat F) (n : ℕ) :
    addTo (rowsAdd A W X n) (W n).toNat (X n) 256 = rowsAdd A W X (n + 1) := rfl

theorem put_zeroTo (A : Mat F) (t m : ℕ) : put (zeroTo A t m) t m (fun _ => zeroF F) = zeroTo A t (m + 16) := by
  funext a b
  unfold put
  by_cases h : a = t ∧ m ≤ b ∧ b < m + 16
  · rw [if_pos h]; unfold zeroTo; rw [if_pos (by omega)]
  · rw [if_neg h]
    unfold zeroTo
    by_cases h' : a < t ∨ (a = t ∧ b < m)
    · rw [if_pos h', if_pos (by omega)]
    · rw [if_neg h', if_neg (by omega)]

theorem zeroTo_next (A : Mat F) (t : ℕ) : accOf (zeroTo A t 256) = accOf (zeroTo A (t + 1) 0) := by
  funext y
  have h : (y 1).val < 256 := (y 1).isLt
  show zeroTo A t 256 (y 0).val (y 1).val = zeroTo A (t + 1) 0 (y 0).val (y 1).val
  unfold zeroTo
  by_cases h' : (y 0).val < t + 1
  · rw [if_pos (by omega), if_pos (by omega)]
  · rw [if_neg (by omega), if_neg (by omega)]

theorem zeroTo_all (A : Mat F) : accOf (zeroTo A 64 0) = accOf fun _ _ => zeroF F := by
  funext y
  have h : (y 0).val < 64 := (y 0).isLt
  exact if_pos (Or.inl h)

/-- The running sums of chunk `c` after `n` pairs. -/
def quadOf (X : Mat F) (c n : ℕ) : Quad F :=
  (vec16 fun l => (pureQ X (16 * c + l) n).1, vec16 fun l => (pureQ X (16 * c + l) n).2.1,
    vec16 fun l => (pureQ X (16 * c + l) n).2.2.1, vec16 fun l => (pureQ X (16 * c + l) n).2.2.2)

theorem quadStep_quadOf (X : Mat F) (c n : ℕ) :
    quadStep (quadOf X c n) (row16 fun l => X (2 * n) (16 * c + l)) (row16 fun l => X (2 * n + 1) (16 * c + l)) = quadOf X c (n + 1) := by
  unfold quadStep
  rw [lane_row16, lane_row16]
  rfl

/-! ## The arms -/

variable {d : Dev nD} {i : grid0.Coords} {buf : Memref sig .scVector .vmem S80x256 .f32} {idx : Memref sig .scVector .vmem S400 .i32}
  {accS accQ : Memref sig .scVector .vmem S64x256 .f32}

theorem wp_pairs {X : Mat F} {c : Fin 16} {t : Fin (loopN 5#32).trips} {Q : Quad F → sProp 𝕄} : ∀ (ks : List (Fin 8)) (n : ℕ)
    (_ : ∀ j (h : j < ks.length), (ks[j]).val = n + j),
    iprop(own d i fullShare buf (blockOf X) ∗ (own d i fullShare buf (blockOf X) -∗ Q (quadOf X c.val (8 * t.val + n + ks.length))))
      ⊢ WP d i (pairs i buf c t ks (quadOf X c.val (8 * t.val + n))) Q
  | [], n, _ => by
    unfold pairs
    iintro ⟨H, Hk⟩
    iapply wp_ret
    iapply Hk; iexact H
  | k :: ks, n, h => by
    have hk : k.val = n := h 0 (by simp)
    have h' : ∀ j (hj : j < ks.length), (ks[j]).val = n + 1 + j := fun j hj => by
      have := h (j + 1) (by simpa using hj)
      simp only [List.getElem_cons_succ] at this
      omega
    have e1 : rowE t (BitVec.ofNat 32 (2 * k.val)) = 2 * (8 * t.val + n) := by rw [rowE_eq]; omega
    have e2 : rowO t (BitVec.ofNat 32 (2 * k.val)) = 2 * (8 * t.val + n) + 1 := by rw [rowO_eq]; omega
    unfold pairs
    iintro ⟨H, Hk⟩
    iapply wp_ldF $$ H
    iintro H
    iapply wp_ldF $$ H
    iintro H
    rw [e1, e2, quadStep_quadOf]
    have e3 : 8 * t.val + n + 1 = 8 * t.val + (n + 1) := by omega
    have e4 : 8 * t.val + n + (k :: ks).length = 8 * t.val + (n + 1) + ks.length := by simp only [List.length_cons]; omega
    rw [e3, e4]
    iapply (wp_pairs ks (n + 1) h')
    isplitl [H] <;> iassumption

theorem wp_pureTrip {X : Mat F} {c : Fin 16} {t : Fin (loopN 5#32).trips} {Q : Quad F → sProp 𝕄} :
    iprop(own d i fullShare buf (blockOf X) ∗ (own d i fullShare buf (blockOf X) -∗ Q (quadOf X c.val (8 * (t.val + 1)))))
      ⊢ WP d i (pureTrip i buf c t (quadOf X c.val (8 * t.val))) Q :=
  wp_pairs [0, 1, 2, 3, 4, 5, 6, 7] 0 (by decide)

theorem wp_pureLoop {X : Mat F} {c : Fin 16} {α : Type} {k : Quad F → PT F i α} {Q : α → sProp 𝕄} :
    own d i fullShare buf (blockOf X) ⊢ iprop((own d i fullShare buf (blockOf X) -∗ WP d i (k (quadOf X c.val 40)) Q)
      -∗ WP d i (Scf.Loop.for (loopN 5#32) loop5_ok (zero16, zero16, zero16, zero16) (pureTrip i buf c) >>= k) Q) := by
  iintro H Hk
  iapply (Scf.wp_for_bind frame (wpE (defs₀ (F := F)) 𝒱₀ (thr d i) none) Set.univ _ _ _ loop5_ok _ (pureTrip i buf c)
    (fun n s => iprop(⌜s = quadOf X c.val (8 * n)⌝ ∗ own d i fullShare buf (blockOf X))) ?_) $$ [H]
  · intro t s
    iintro ⟨%hs, H⟩
    subst hs
    iapply wp_pureTrip
    isplitl [H]; · iexact H
    iintro H
    isplitr; · ipureintro; rfl
    iexact H
  · isplitr; · ipureintro; rfl
    iexact H
  · iintro %s ⟨%hs, H⟩
    have hs' : s = quadOf X c.val 40 := hs
    subst hs'
    iapply Hk; iexact H

theorem wp_addChunk {A B : Mat F} {x y : ℕ → F .f32} {c : Fin 16} {seg : BitVec 32} {hseg : seg.toNat < 64} {s : Quad F}
    (hx : addf s.1 s.2.2.1 = vec16 fun l => x (16 * c.val + l)) (hy : addf s.2.1 s.2.2.2 = vec16 fun l => y (16 * c.val + l))
    {α : Type} {k : PUnit → PT F i α} {Q : α → sProp 𝕄} :
    iprop(own d i fullShare accS (accOf (addTo A seg.toNat x (16 * c.val))) ∗ own d i fullShare accQ (accOf (addTo B seg.toNat y (16 * c.val))))
      ⊢ iprop((own d i fullShare accS (accOf (addTo A seg.toNat x (16 * c.val + 16)))
          -∗ own d i fullShare accQ (accOf (addTo B seg.toNat y (16 * c.val + 16))) -∗ WP d i (k ⟨⟩) Q)
        -∗ WP d i (addChunk i accS accQ c seg hseg s >>= k) Q) := by
  iintro ⟨HA, HB⟩ Hk
  iapply wp_seq
  unfold addChunk
  iapply wp_ldA $$ HA
  iintro HA
  iapply wp_ldA $$ HA
  iintro HA
  rw [lane_row16, hx, addf_vec16, unlane_vec16]
  iapply wp_stA $$ HA
  iintro HA
  iapply wp_ldA $$ HB
  iintro HB
  iapply wp_ldA $$ HB
  iintro HB
  rw [lane_row16, hy, addf_vec16, unlane_vec16]
  iapply wp_stA' $$ HB
  iintro HB
  rw [put_addTo, put_addTo]
  iapply Hk $$ HA HB

theorem wp_pureArm {A B X : Mat F} {seg : BitVec 32} {hseg : seg.toNat < 64} {Q : PUnit → sProp 𝕄} : ∀ (cs : List (Fin 16)) (n : ℕ)
    (_ : ∀ j (h : j < cs.length), (cs[j]).val = n + j),
    iprop(own d i fullShare buf (blockOf X) ∗ own d i fullShare accS (accOf (addTo A seg.toNat (pureS X) (16 * n)))
        ∗ own d i fullShare accQ (accOf (addTo B seg.toNat (pureSq X) (16 * n)))
        ∗ (own d i fullShare buf (blockOf X) -∗ own d i fullShare accS (accOf (addTo A seg.toNat (pureS X) (16 * (n + cs.length))))
          -∗ own d i fullShare accQ (accOf (addTo B seg.toNat (pureSq X) (16 * (n + cs.length)))) -∗ Q ⟨⟩))
      ⊢ WP d i (pureArm i buf accS accQ seg hseg cs) Q
  | [], n, _ => by
    unfold pureArm
    iintro ⟨H, HA, HB, Hk⟩
    iapply wp_ret
    iapply Hk $$ H HA HB
  | c :: cs, n, h => by
    have hc : c.val = n := h 0 (by simp)
    have h' : ∀ j (hj : j < cs.length), (cs[j]).val = n + 1 + j := fun j hj => by
      have := h (j + 1) (by simpa using hj)
      simp only [List.getElem_cons_succ] at this
      omega
    subst hc
    unfold pureArm
    iintro ⟨H, HA, HB, Hk⟩
    iapply wp_pureLoop $$ H
    iintro H
    iapply (wp_addChunk (A := A) (B := B) (x := pureS X) (y := pureSq X) (s := quadOf X c.val 40) rfl rfl) $$ [HA HB]
    · isplitl [HA] <;> iassumption
    iintro HA HB
    have e4 : c.val + (c :: cs).length = c.val + 1 + cs.length := by simp only [List.length_cons]; omega
    have e5 : 16 * c.val + 16 = 16 * (c.val + 1) := by omega
    rw [e4, e5]
    iapply (wp_pureArm cs (c.val + 1) h')
    isplitl [H]; · iexact H
    isplitl [HA]; · iexact HA
    isplitl [HB] <;> iassumption

theorem wp_mixedTrip {A B X : Mat F} {r : ℕ} {hr : r < 80} {seg : BitVec 32} {hseg : seg.toNat < 64} {c : Fin (loopN 16#32).trips}
    {u : PUnit} {Q : PUnit → sProp 𝕄} :
    iprop(own d i fullShare buf (blockOf X) ∗ own d i fullShare accS (accOf (addTo A seg.toNat (X r) (16 * c.val)))
        ∗ own d i fullShare accQ (accOf (addTo B seg.toNat (sqm X r) (16 * c.val)))
        ∗ (own d i fullShare buf (blockOf X) -∗ own d i fullShare accS (accOf (addTo A seg.toNat (X r) (16 * (c.val + 1))))
          -∗ own d i fullShare accQ (accOf (addTo B seg.toNat (sqm X r) (16 * (c.val + 1)))) -∗ Q ⟨⟩))
      ⊢ WP d i (mixedTrip i buf accS accQ r hr seg hseg c u) Q := by
  have e5 : 16 * (c.val + 1) = colM c + 16 := by rw [colM_eq]; omega
  rw [e5, ← colM_eq]
  unfold mixedTrip
  iintro ⟨H, HA, HB, Hk⟩
  iapply wp_ldF $$ H
  iintro H
  iapply wp_ldA $$ HA
  iintro HA
  iapply wp_ldA $$ HA
  iintro HA
  rw [lane_row16, lane_row16, addf_vec16, unlane_vec16]
  iapply wp_stA $$ HA
  iintro HA
  iapply wp_ldA $$ HB
  iintro HB
  iapply wp_ldA $$ HB
  iintro HB
  rw [lane_row16, mulf_vec16, addf_vec16, unlane_vec16]
  iapply wp_stA' $$ HB
  iintro HB
  rw [put_addTo, sqm_row, put_addTo]
  iapply Hk $$ H HA HB

/-- A row of a mixed block. -/
theorem wp_mixedLoop {A B X : Mat F} {r : ℕ} {hr : r < 80} {seg : BitVec 32} {hseg : seg.toNat < 64} {α : Type} {k : PUnit → PT F i α}
    {Q : α → sProp 𝕄} :
    iprop(own d i fullShare buf (blockOf X) ∗ own d i fullShare accS (accOf A) ∗ own d i fullShare accQ (accOf B))
      ⊢ iprop((own d i fullShare buf (blockOf X) -∗ own d i fullShare accS (accOf (addTo A seg.toNat (X r) 256))
          -∗ own d i fullShare accQ (accOf (addTo B seg.toNat (sqm X r) 256)) -∗ WP d i (k ⟨⟩) Q)
        -∗ WP d i (Scf.Loop.for (loopN 16#32) loop16_ok ⟨⟩ (mixedTrip i buf accS accQ r hr seg hseg) >>= k) Q) := by
  iintro ⟨H, HA, HB⟩ Hk
  iapply (Scf.wp_for_bind frame (wpE (defs₀ (F := F)) 𝒱₀ (thr d i) none) Set.univ _ _ _ loop16_ok _ (mixedTrip i buf accS accQ r hr seg hseg)
    (fun n _ => iprop(own d i fullShare buf (blockOf X) ∗ own d i fullShare accS (accOf (addTo A seg.toNat (X r) (16 * n)))
      ∗ own d i fullShare accQ (accOf (addTo B seg.toNat (sqm X r) (16 * n))))) ?_) $$ [H HA HB]
  · intro c u
    iintro ⟨H, HA, HB⟩
    iapply wp_mixedTrip
    isplitl [H]; · iexact H
    isplitl [HA]; · iexact HA
    isplitl [HB]; · iexact HB
    iintro H HA HB
    isplitl [H]; · iexact H
    isplitl [HA] <;> iassumption
  · rw [Nat.mul_zero, addTo_zero, addTo_zero]
    isplitl [H]; · iexact H
    isplitl [HA] <;> iassumption
  · rw [show 16 * Scf.trips (loopN 16#32).lb (loopN 16#32).ub (loopN 16#32).st = 256 from by decide]
    iintro %u ⟨H, HA, HB⟩
    iapply Hk $$ H HA HB

theorem wp_mixedRows {A B X : Mat F} {chk : Fin 16 → SegCheck} {g : Fin (loopN 5#32).trips} {W : ℕ → BitVec 32}
    (hW : ∀ n, n < 80 → (W n).toNat < 64) {Q : PUnit → sProp 𝕄} : ∀ (ks : List (Fin 16)) (n : ℕ)
    (_ : ∀ j (h : j < ks.length), (ks[j]).val = n + j),
    iprop(own d i fullShare buf (blockOf X) ∗ own d i fullShare accS (accOf (rowsAdd A W X (16 * g.val + n)))
        ∗ own d i fullShare accQ (accOf (rowsAdd B W (sqm X) (16 * g.val + n)))
        ∗ (own d i fullShare buf (blockOf X) -∗ own d i fullShare accS (accOf (rowsAdd A W X (16 * g.val + n + ks.length)))
          -∗ own d i fullShare accQ (accOf (rowsAdd B W (sqm X) (16 * g.val + n + ks.length))) -∗ Q ⟨⟩))
      ⊢ WP d i (mixedRows i buf accS accQ chk g (ivec16 fun l => W (16 * g.val + l)) ks) Q
  | [], n, _ => by
    unfold mixedRows
    iintro ⟨H, HA, HB, Hk⟩
    iapply wp_ret
    iapply Hk $$ H HA HB
  | k :: ks, n, h => by
    have hk : k.val = n := h 0 (by simp)
    have h' : ∀ j (hj : j < ks.length), (ks[j]).val = n + 1 + j := fun j hj => by
      have := h (j + 1) (by simpa using hj)
      simp only [List.getElem_cons_succ] at this
      omega
    have hg : g.val < 5 := g.isLt
    have hseg : (chk k).P (idAt (ivec16 fun l => W (16 * g.val + l)) k) := by
      rw [(chk k).iff, idAt_ivec16]; exact hW _ (by omega)
    subst hk
    unfold mixedRows
    iintro ⟨H, HA, HB, Hk⟩
    iapply (wp_assume 𝒱₀ (thr d i) none Set.univ hseg)
    iapply wp_mixedLoop $$ [H HA HB]
    · isplitl [H]; · iexact H
      isplitl [HA] <;> iassumption
    iintro H HA HB
    rw [idAt_ivec16, rowM_eq, rowsAdd_succ, rowsAdd_succ, Nat.add_assoc (16 * g.val) k.val 1]
    have e4 : 16 * g.val + k.val + (k :: ks).length = 16 * g.val + (k.val + 1) + ks.length := by simp only [List.length_cons]; omega
    rw [e4]
    iapply (wp_mixedRows hW ks (k.val + 1) h')
    isplitl [H]; · iexact H
    isplitl [HA]; · iexact HA
    isplitl [HB] <;> iassumption

/-- A group of sixteen rows of a mixed block whose ids begin at `tb`. -/
theorem wp_mixedGroup {A B X : Mat F} {chk : Fin 16 → SegCheck} {tb : BitVec 32} {htb : ∀ g, idsAt tb g + 16 ≤ 400} {g : Fin (loopN 5#32).trips}
    {V : ℕ → BitVec 32} (hV : ∀ n, n < 400 → (V n).toNat < 64) {b : ℕ} (hb : b + 80 ≤ 400) (hg : idsAt tb g = b + 16 * g.val)
    {u : PUnit} {Q : PUnit → sProp 𝕄} :
    iprop(own d i fullShare buf (blockOf X) ∗ own d i fullShare idx (idsOf V)
        ∗ own d i fullShare accS (accOf (rowsAdd A (fun n => V (b + n)) X (16 * g.val)))
        ∗ own d i fullShare accQ (accOf (rowsAdd B (fun n => V (b + n)) (sqm X) (16 * g.val)))
        ∗ (own d i fullShare buf (blockOf X) -∗ own d i fullShare idx (idsOf V)
          -∗ own d i fullShare accS (accOf (rowsAdd A (fun n => V (b + n)) X (16 * (g.val + 1))))
          -∗ own d i fullShare accQ (accOf (rowsAdd B (fun n => V (b + n)) (sqm X) (16 * (g.val + 1)))) -∗ Q ⟨⟩))
      ⊢ WP d i (mixedGroup i buf idx accS accQ chk tb htb g u) Q := by
  unfold mixedGroup
  iintro ⟨H, HI, HA, HB, Hk⟩
  iapply wp_ldI $$ HI
  iintro HI
  rw [ids16_ivec16, hg, show (ivec16 fun l => V (b + 16 * g.val + l)) = ivec16 fun l => (fun n => V (b + n)) (16 * g.val + l) from by
    funext x; simp only [ivec16, Nat.add_assoc]]
  iapply (wp_mixedRows (W := fun n => V (b + n)) (A := A) (B := B) (X := X) (fun n hn => hV _ (by omega)) chunks16 0 (by decide))
  isplitl [H]; · iexact H
  isplitl [HA]; · iexact HA
  isplitl [HB]; · iexact HB
  rw [show 16 * g.val + 0 + chunks16.length = 16 * (g.val + 1) from by rw [Nat.mul_add]; rfl]
  iintro H HA HB
  iapply Hk $$ H HI HA HB

/-! ## A block -/

theorem condPure_iff (v w : BitVec 32) : condPure v w = 1#1 ↔ v = w := by
  unfold condPure Scalar.cmpi Scalar.extui IntOp.cmpi
  by_cases h : v = w
  · subst h; simp
  · have e : (v == w) = false := beq_false_of_ne h
    simp only [e, h, iff_false]
    decide

theorem condMixed_iff (v w : BitVec 32) : condMixed v w = 1#1 ↔ v ≠ w := by
  unfold condMixed Scalar.cmpi Scalar.extui IntOp.cmpi
  by_cases h : v = w
  · subst h; simp
  · have e : (v == w) = false := beq_false_of_ne h
    simp only [bne, e, ne_eq, h, not_false_eq_true, iff_true]
    decide

theorem wp_pureIf {A B X : Mat F} {C : BlockChecks} {v w : BitVec 32} {hw : C.P v w} {α : Type} {k : PUnit → PT F i α} {Q : α → sProp 𝕄} :
    iprop(own d i fullShare buf (blockOf X) ∗ own d i fullShare accS (accOf A) ∗ own d i fullShare accQ (accOf B))
      ⊢ iprop((own d i fullShare buf (blockOf X)
          -∗ own d i fullShare accS (accOf (if v = w then addTo A v.toNat (pureS X) 256 else A))
          -∗ own d i fullShare accQ (accOf (if v = w then addTo B v.toNat (pureSq X) 256 else B)) -∗ WP d i (k ⟨⟩) Q)
        -∗ WP d i (pureIf i buf accS accQ C v w hw >>= k) Q) := by
  iintro ⟨H, HA, HB⟩ Hk
  iapply wp_seq
  unfold pureIf
  by_cases hp : condPure v w = 1#1
  · have e := (condPure_iff v w).1 hp
    rw [dif_pos hp, if_pos e, if_pos e]
    iapply (wp_pureArm (A := A) (B := B) (X := X) chunks16 0 (by decide))
    isplitl [H]; · iexact H
    rw [Nat.mul_zero, addTo_zero, addTo_zero]
    isplitl [HA]; · iexact HA
    isplitl [HB]; · iexact HB
    rw [show 16 * (0 + chunks16.length) = 256 from rfl]
    iintro H HA HB
    iapply Hk $$ H HA HB
  · have e := fun h => hp ((condPure_iff v w).2 h)
    rw [dif_neg hp, if_neg e, if_neg e]
    iapply wp_ret
    iapply Hk $$ H HA HB

theorem wp_mixedIf {A B X : Mat F} {C : BlockChecks} {v w : BitVec 32} {tb : BitVec 32} {htb : ∀ g, idsAt tb g + 16 ≤ 400}
    {V : ℕ → BitVec 32} (hV : ∀ n, n < 400 → (V n).toNat < 64) {b : ℕ} (hb : b + 80 ≤ 400) (hg : ∀ g, idsAt tb g = b + 16 * g.val)
    {Q : PUnit → sProp 𝕄} :
    iprop(own d i fullShare buf (blockOf X) ∗ own d i fullShare idx (idsOf V) ∗ own d i fullShare accS (accOf A) ∗ own d i fullShare accQ (accOf B)
        ∗ (own d i fullShare buf (blockOf X) -∗ own d i fullShare idx (idsOf V)
          -∗ own d i fullShare accS (accOf (if v = w then A else rowsAdd A (fun n => V (b + n)) X 80))
          -∗ own d i fullShare accQ (accOf (if v = w then B else rowsAdd B (fun n => V (b + n)) (sqm X) 80)) -∗ Q ⟨⟩))
      ⊢ WP d i (mixedIf i buf idx accS accQ C v w tb htb) Q := by
  iintro ⟨H, HI, HA, HB, Hk⟩
  unfold mixedIf
  by_cases hm : condMixed v w = 1#1
  · have e := (condMixed_iff v w).1 hm
    rw [dif_pos hm, if_neg e, if_neg e]
    iapply (Scf.wp_for frame (wpE (defs₀ (F := F)) 𝒱₀ (thr d i) none) Set.univ _ _ _ loop5_ok _ (mixedGroup i buf idx accS accQ (C.rows v w hm) tb htb)
      (fun n _ => iprop(own d i fullShare buf (blockOf X) ∗ own d i fullShare idx (idsOf V)
        ∗ own d i fullShare accS (accOf (rowsAdd A (fun n => V (b + n)) X (16 * n)))
        ∗ own d i fullShare accQ (accOf (rowsAdd B (fun n => V (b + n)) (sqm X) (16 * n))))) ?_)
    · intro g u
      iintro ⟨H, HI, HA, HB⟩
      iapply (wp_mixedGroup hV hb (hg g))
      isplitl [H]; · iexact H
      isplitl [HI]; · iexact HI
      isplitl [HA]; · iexact HA
      isplitl [HB]; · iexact HB
      iintro H HI HA HB
      isplitl [H]; · iexact H
      isplitl [HI]; · iexact HI
      isplitl [HA] <;> iassumption
    · isplitr [Hk]
      · simp only [Nat.mul_zero, rowsAdd]
        isplitl [H]; · iexact H
        isplitl [HI]; · iexact HI
        isplitl [HA] <;> iassumption
      · rw [show 16 * Scf.trips (loopN 5#32).lb (loopN 5#32).ub (loopN 5#32).st = 80 from by decide]
        iintro %u ⟨H, HI, HA, HB⟩
        iapply Hk $$ H HI HA HB
  · have e : v = w := not_not.1 fun h => hm ((condMixed_iff v w).2 h)
    rw [dif_neg hm, if_pos e, if_pos e]
    iapply wp_ret
    iapply Hk $$ H HI HA HB

/-- The computation on a block whose ids stand from `b` on. -/
theorem wp_block {A B X : Mat F} {C : BlockChecks} {tb : BitVec 32} {h1 : (Scalar.indexCast tb).toNat + 16 ≤ 400} {h2 : lastAt tb + 16 ≤ 400}
    {htb : ∀ g, idsAt tb g + 16 ≤ 400} {V : ℕ → BitVec 32} (hV : ∀ n, n < 400 → (V n).toNat < 64) {b : ℕ} (hb : b + 80 ≤ 400)
    (e1 : (Scalar.indexCast tb).toNat = b) (e2 : lastAt tb = b + 64) (hg : ∀ g, idsAt tb g = b + 16 * g.val)
    {α : Type} {k : PUnit → PT F i α} {Q : α → sProp 𝕄} :
    iprop(own d i fullShare buf (blockOf X) ∗ own d i fullShare idx (idsOf V) ∗ own d i fullShare accS (accOf A) ∗ own d i fullShare accQ (accOf B))
      ⊢ iprop((own d i fullShare buf (blockOf X) -∗ own d i fullShare idx (idsOf V)
          -∗ own d i fullShare accS (accOf (blockAcc A (fun n => V (b + n)) X (pureS X)))
          -∗ own d i fullShare accQ (accOf (blockAcc B (fun n => V (b + n)) (sqm X) (pureSq X))) -∗ WP d i (k ⟨⟩) Q)
        -∗ WP d i (block i buf idx accS accQ C tb h1 h2 htb >>= k) Q) := by
  iintro ⟨H, HI, HA, HB⟩ Hk
  iapply wp_seq
  unfold block
  iapply wp_ldI $$ HI
  iintro HI
  iapply wp_ldI $$ HI
  iintro HI
  simp only [ids16_ivec16]
  have hv : idAt (ivec16 fun l => V ((Scalar.indexCast tb).toNat + l)) 0 = V (b + 0) := by rw [idAt_ivec16, e1]; rfl
  have hw : idAt (ivec16 fun l => V (lastAt tb + l)) 15 = V (b + 79) := by rw [idAt_ivec16, e2]; rfl
  have hP : C.P (idAt (ivec16 fun l => V ((Scalar.indexCast tb).toNat + l)) 0) (idAt (ivec16 fun l => V (lastAt tb + l)) 15) := by
    rw [C.iff, hv]; exact fun _ => hV _ (by omega)
  iapply (wp_assume 𝒱₀ (thr d i) none Set.univ hP)
  iapply (wp_pureIf (A := A) (B := B) (X := X)) $$ [H HA HB]
  · isplitl [H]; · iexact H
    isplitl [HA] <;> iassumption
  iintro H HA HB
  iapply (wp_mixedIf (X := X) hV hb hg)
  isplitl [H]; · iexact H
  isplitl [HI]; · iexact HI
  isplitl [HA]; · iexact HA
  isplitl [HB]; · iexact HB
  rw [hv, hw]
  iintro H HI HA HB
  have eA : ∀ (A X : Mat F) (x : ℕ → F .f32), (if V (b + 0) = V (b + 79) then (if V (b + 0) = V (b + 79) then addTo A (V (b + 0)).toNat x 256 else A)
      else rowsAdd (if V (b + 0) = V (b + 79) then addTo A (V (b + 0)).toNat x 256 else A) (fun n => V (b + n)) X 80)
        = blockAcc A (fun n => V (b + n)) X x := by
    intro A X x
    unfold blockAcc
    by_cases h : V (b + 0) = V (b + 79)
    · rw [if_pos h, if_pos h, if_pos h]
    · rw [if_neg h, if_neg h, if_neg h]
  rw [eA, eA]
  iapply Hk $$ H HI HA HB

/-! ## The accumulators zeroed -/

theorem wp_zeroChunks {A B : Mat F} {r : ℕ} {hr : r < 64} {Q : PUnit → sProp 𝕄} : ∀ (cs : List (Fin 16)) (n : ℕ)
    (_ : ∀ j (h : j < cs.length), (cs[j]).val = n + j),
    iprop(own d i fullShare accS (accOf (zeroTo A r (16 * n))) ∗ own d i fullShare accQ (accOf (zeroTo B r (16 * n)))
        ∗ (own d i fullShare accS (accOf (zeroTo A r (16 * (n + cs.length))))
          -∗ own d i fullShare accQ (accOf (zeroTo B r (16 * (n + cs.length)))) -∗ Q ⟨⟩))
      ⊢ WP d i (zeroChunks i accS accQ r hr cs) Q
  | [], n, _ => by
    unfold zeroChunks
    iintro ⟨HA, HB, Hk⟩
    iapply wp_ret
    iapply Hk $$ HA HB
  | c :: cs, n, h => by
    have hc : c.val = n := h 0 (by simp)
    have h' : ∀ j (hj : j < cs.length), (cs[j]).val = n + 1 + j := fun j hj => by
      have := h (j + 1) (by simpa using hj)
      simp only [List.getElem_cons_succ] at this
      omega
    subst hc
    unfold zeroChunks
    iintro ⟨HA, HB, Hk⟩
    iapply wp_ldA $$ HA
    iintro HA
    rw [zero16_eq, unlane_vec16]
    iapply wp_stA $$ HA
    iintro HA
    iapply wp_ldA $$ HB
    iintro HB
    iapply wp_stA $$ HB
    iintro HB
    have e4 : c.val + (c :: cs).length = c.val + 1 + cs.length := by simp only [List.length_cons]; omega
    have e5 : 16 * c.val + 16 = 16 * (c.val + 1) := by omega
    rw [e4, put_zeroTo, put_zeroTo, e5]
    iapply (wp_zeroChunks cs (c.val + 1) h')
    isplitl [HA]; · iexact HA
    isplitl [HB] <;> iassumption

/-- Both accumulators zeroed. -/
theorem wp_zeroLoop {A B : Mat F} {α : Type} {k : PUnit → PT F i α} {Q : α → sProp 𝕄} :
    iprop(own d i fullShare accS (accOf A) ∗ own d i fullShare accQ (accOf B))
      ⊢ iprop((own d i fullShare accS (accOf fun _ _ => zeroF F) -∗ own d i fullShare accQ (accOf fun _ _ => zeroF F) -∗ WP d i (k ⟨⟩) Q)
        -∗ WP d i (Scf.Loop.for (loopN 64#32) loop64_ok ⟨⟩ (zeroTrip i accS accQ) >>= k) Q) := by
  iintro ⟨HA, HB⟩ Hk
  iapply (Scf.wp_for_bind frame (wpE (defs₀ (F := F)) 𝒱₀ (thr d i) none) Set.univ _ _ _ loop64_ok _ (zeroTrip i accS accQ)
    (fun n _ => iprop(own d i fullShare accS (accOf (zeroTo A n 0)) ∗ own d i fullShare accQ (accOf (zeroTo B n 0)))) ?_) $$ [HA HB]
  · intro t u
    iintro ⟨HA, HB⟩
    unfold zeroTrip
    iapply (wp_zeroChunks (A := A) (B := B) chunks16 0 (by decide))
    rw [rowZ_eq, Nat.mul_zero]
    isplitl [HA]; · iexact HA
    isplitl [HB]; · iexact HB
    rw [show 16 * (0 + chunks16.length) = 256 from rfl, zeroTo_next, zeroTo_next]
    iintro HA HB
    isplitl [HA] <;> iassumption
  · have e : ∀ A : Mat F, zeroTo A 0 0 = A := fun A => by funext a b; exact if_neg (by omega)
    rw [e, e]
    isplitl [HA] <;> iassumption
  · rw [show Scf.trips (loopN 64#32).lb (loopN 64#32).ub (loopN 64#32).st = 64 from by decide, zeroTo_all, zeroTo_all]
    iintro %u ⟨HA, HB⟩
    iapply Hk $$ HA HB

end Cert.KernelIdeal.Tile

end
-- ==== Proof.Ideal.ProgEq.lean ====
/-
  The printed SparseCore program is the parametric one of `Proof/Ideal/Prog.lean`.
-/
module

public import proofs.«01_k».proof.Proof.Ideal.Prog

@[expose] public section

noncomputable section

namespace Cert.KernelIdeal.Tile

open Idealize.ShloMosaic Idealize.SL.Sem Cert.KernelIdeal Cert.KernelIdeal.Gen

variable {F : FTy → Type} [FloatOps F]

/-- The run-time checks on the rows of a mixed block, in the first half. -/
def rows0 (t : Fin (loopN 3#32).trips) (h : condB (blk t 0) = 1#1) (v w : BitVec 32) (hm : condMixed v w = 1#1) : Fin 16 → SegCheck
  | 0 => ⟨k0_chk2 t v w, k0_chk2.dec t v w, rowCheck_iff h hm⟩
  | 1 => ⟨k0_chk3 t v w, k0_chk3.dec t v w, rowCheck_iff h hm⟩
  | 2 => ⟨k0_chk4 t v w, k0_chk4.dec t v w, rowCheck_iff h hm⟩
  | 3 => ⟨k0_chk5 t v w, k0_chk5.dec t v w, rowCheck_iff h hm⟩
  | 4 => ⟨k0_chk6 t v w, k0_chk6.dec t v w, rowCheck_iff h hm⟩
  | 5 => ⟨k0_chk7 t v w, k0_chk7.dec t v w, rowCheck_iff h hm⟩
  | 6 => ⟨k0_chk8 t v w, k0_chk8.dec t v w, rowCheck_iff h hm⟩
  | 7 => ⟨k0_chk9 t v w, k0_chk9.dec t v w, rowCheck_iff h hm⟩
  | 8 => ⟨k0_chk10 t v w, k0_chk10.dec t v w, rowCheck_iff h hm⟩
  | 9 => ⟨k0_chk11 t v w, k0_chk11.dec t v w, rowCheck_iff h hm⟩
  | 10 => ⟨k0_chk12 t v w, k0_chk12.dec t v w, rowCheck_iff h hm⟩
  | 11 => ⟨k0_chk13 t v w, k0_chk13.dec t v w, rowCheck_iff h hm⟩
  | 12 => ⟨k0_chk14 t v w, k0_chk14.dec t v w, rowCheck_iff h hm⟩
  | 13 => ⟨k0_chk15 t v w, k0_chk15.dec t v w, rowCheck_iff h hm⟩
  | 14 => ⟨k0_chk16 t v w, k0_chk16.dec t v w, rowCheck_iff h hm⟩
  | _ => ⟨k0_chk17 t v w, k0_chk17.dec t v w, rowCheck_iff h hm⟩

/-- And in the second. -/
def rows1 (t : Fin (loopN 3#32).trips) (h : condB (blk t 1) = 1#1) (v w : BitVec 32) (hm : condMixed v w = 1#1) : Fin 16 → SegCheck
  | 0 => ⟨k0_chk19 t v w, k0_chk19.dec t v w, rowCheck_iff h hm⟩
  | 1 => ⟨k0_chk20 t v w, k0_chk20.dec t v w, rowCheck_iff h hm⟩
  | 2 => ⟨k0_chk21 t v w, k0_chk21.dec t v w, rowCheck_iff h hm⟩
  | 3 => ⟨k0_chk22 t v w, k0_chk22.dec t v w, rowCheck_iff h hm⟩
  | 4 => ⟨k0_chk23 t v w, k0_chk23.dec t v w, rowCheck_iff h hm⟩
  | 5 => ⟨k0_chk24 t v w, k0_chk24.dec t v w, rowCheck_iff h hm⟩
  | 6 => ⟨k0_chk25 t v w, k0_chk25.dec t v w, rowCheck_iff h hm⟩
  | 7 => ⟨k0_chk26 t v w, k0_chk26.dec t v w, rowCheck_iff h hm⟩
  | 8 => ⟨k0_chk27 t v w, k0_chk27.dec t v w, rowCheck_iff h hm⟩
  | 9 => ⟨k0_chk28 t v w, k0_chk28.dec t v w, rowCheck_iff h hm⟩
  | 10 => ⟨k0_chk29 t v w, k0_chk29.dec t v w, rowCheck_iff h hm⟩
  | 11 => ⟨k0_chk30 t v w, k0_chk30.dec t v w, rowCheck_iff h hm⟩
  | 12 => ⟨k0_chk31 t v w, k0_chk31.dec t v w, rowCheck_iff h hm⟩
  | 13 => ⟨k0_chk32 t v w, k0_chk32.dec t v w, rowCheck_iff h hm⟩
  | 14 => ⟨k0_chk33 t v w, k0_chk33.dec t v w, rowCheck_iff h hm⟩
  | _ => ⟨k0_chk34 t v w, k0_chk34.dec t v w, rowCheck_iff h hm⟩

/-- The run-time checks of trip `t`'s block in half `p`. -/
def checks (t : Fin (loopN 3#32).trips) : ∀ p : Fin 2, condB (blk t p) = 1#1 → BlockChecks
  | 0 => fun h =>
    { P := k0_chk1 t, dec := k0_chk1.dec t
      iff := fun v w => pureCheck_iff (B := condPure v w = 1#1) h v _ fun _ => rfl
      rows := rows0 t h }
  | 1 => fun h =>
    { P := k0_chk18 t, dec := k0_chk18.dec t
      iff := fun v w => pureCheck_iff (B := condPure v w = 1#1) h v _ fun _ => rfl
      rows := rows1 t h }

section

variable (i : grid0.Coords) (feat : Memref sig .scVector .hbm S50000x256 .f32) (idx : Memref sig .scVector .vmem S400 .i32)
  (hidx : idx.IsWhole) (accS accQ : Memref sig .scVector .vmem S64x256 .f32)

/-- The next block but one, started into the buffer just read. -/
def nextIf (buf : Memref sig .scVector .vmem S80x256 .f32) (hbuf : buf.IsWhole) (sem : DmaSems sig S_) (p : Fin 2)
    (t : Fin (loopN 3#32).trips) (h : condB (blk t p) = 1#1) : PT F i PUnit :=
  if h' : condB (Scalar.addi (blk t p) 2#32) = 1#1 then
    Prog.lift (.enqueueDma (featRows feat i (Scalar.muli (Scalar.addi (blk t p) 2#32) 80#32) (next_inb i t p h h')) (.here buf) (.dma sem.sem)
      (View.wordExact_bits rfl) hbuf.wordExact ⟨Or.inl rfl, trivial⟩)
  else pure ⟨⟩

/-- Trip `t` of the pair loop, in half `p` with its buffer and semaphore. -/
def half (buf : Memref sig .scVector .vmem S80x256 .f32) (hbuf : buf.IsWhole) (sem : DmaSems sig S_) (p : Fin 2)
    (t : Fin (loopN 3#32).trips) : PT F i PUnit :=
  if h : condB (blk t p) = 1#1 then do
    Prog.lift (.waitDma2 sem.sem (featRows feat i (Scalar.muli (blk t p) 80#32) (feat_inb i t p h)) buf (View.wordExact_bits rfl) hbuf.wordExact)
    block i buf idx accS accQ (checks t p h) (tbOf (blk t p)) (ids_le t p h) (last_le t p h) (group_le t p h)
    nextIf i feat buf hbuf sem p t h
  else pure ⟨⟩

/-- The tile's row of an output of thirty-two. -/
def outRow (out : Memref sig .scVector .hbm S32x64x256 .f32) : Memref sig .scVector .hbm S64x256 .f32 :=
  (out.slice (Rect.unit (s := S32x64x256) (k0_off189 i) S1x64x256.size (k0_off189_inb i)) (fun _ => rfl)).squeeze S64x256 squeezes_S1x64x256_S64x256

/-- The tile's four hundred ids. -/
def idRows (ids : Memref sig .scVector .hbm S50000 .i32) : Memref sig .scVector .hbm S400 .i32 :=
  ids.slice (Rect.unit (s := S50000) (k0_off1 i) S400.size (k0_off1_inb i)) (fun _ => rfl)

/-- The whole tile program. -/
def tile (ids : Memref sig .scVector .hbm S50000 .i32) (sums sqs : Memref sig .scVector .hbm S32x64x256 .f32)
    (buf0 : Memref sig .scVector .vmem S80x256 .f32) (hbuf0 : buf0.IsWhole) (buf1 : Memref sig .scVector .vmem S80x256 .f32) (hbuf1 : buf1.IsWhole)
    (hS : accS.IsWhole) (hQ : accQ.IsWhole)
    (sem0 sem1 semI semS semQ : DmaSems sig S_) : PT F i PUnit := do
  Prog.lift (.enqueueDma (idRows i ids) (.here idx) (.dma semI.sem) (View.wordExact_bits rfl) hidx.wordExact ⟨Or.inl rfl, trivial⟩)
  Prog.lift (.waitDma2 semI.sem (idRows i ids) idx (View.wordExact_bits rfl) hidx.wordExact)
  Scf.Loop.for (loopN 64#32) loop64_ok ⟨⟩ (zeroTrip i accS accQ)
  Prog.lift (.enqueueDma (featRows feat i 0#32 (k0_off18_inb i 0)) (.here buf0) (.dma sem0.sem) (View.wordExact_bits rfl) hbuf0.wordExact ⟨Or.inl rfl, trivial⟩)
  Prog.lift (.enqueueDma (featRows feat i 80#32 (k0_off18_inb i 1)) (.here buf1) (.dma sem1.sem) (View.wordExact_bits rfl) hbuf1.wordExact ⟨Or.inl rfl, trivial⟩)
  Scf.Loop.for (loopN 3#32) loop3_ok ⟨⟩ fun t _ => do
    half i feat idx accS accQ buf0 hbuf0 sem0 0 t
    half i feat idx accS accQ buf1 hbuf1 sem1 1 t
  Prog.lift (.enqueueDma accS (.here (outRow i sums)) (.dma semS.sem) hS.wordExact ((View.wordExact_bits rfl).reshape _ _) ⟨Or.inl rfl, trivial⟩)
  Prog.lift (.waitDma2 semS.sem accS (outRow i sums) hS.wordExact ((View.wordExact_bits rfl).reshape _ _))
  Prog.lift (.enqueueDma accQ (.here (outRow i sqs)) (.dma semQ.sem) hQ.wordExact ((View.wordExact_bits rfl).reshape _ _) ⟨Or.inl rfl, trivial⟩)
  Prog.lift (.waitDma2 semQ.sem accQ (outRow i sqs) hQ.wordExact ((View.wordExact_bits rfl).reshape _ _))

end

/-- Binds are equal by parts. -/
theorem bindc {E : Type → Type} {α β : Type} {x x' : Prog E α} {k k' : α → Prog E β} (hx : x = x') (hk : ∀ a, k a = k' a) :
    (x >>= k) = (x' >>= k') := by
  subst hx; exact congrArg _ (funext hk)

/-- A conditional followed by a program: the program follows in both branches. -/
theorem ditebind {E : Type → Type} {α β : Type} (c : Prop) [d : Decidable c] (x : c → Prog E α) (y : ¬ c → Prog E α) (k : α → Prog E β) :
    ((if h : c then x h else y h) >>= k) = (if h : c then (x h >>= k) else (y h >>= k)) := by
  cases d <;> rfl

/-- Conditionals are equal by their branches. -/
theorem ditec {α : Sort _} {c : Prop} [Decidable c] {x x' : c → α} {y y' : ¬ c → α} (hx : ∀ h, x h = x' h) (hy : ∀ h, y h = y' h) :
    (if h : c then x h else y h) = (if h : c then x' h else y' h) := by
  have e1 : x = x' := funext hx
  have e2 : y = y' := funext hy
  rw [e1, e2]

/-- A conditional with a join point: the program after it follows the conditional. -/
theorem ditejp {E : Type → Type} {α : Type} {c : Prop} [Decidable c] {x : c → Prog E α} {y : ¬ c → Prog E α} {a : c → Prog E PUnit}
    {r : Prog E α} {k : PUnit → Prog E α} (hy : ∀ h, y h = r) (hx : ∀ h, x h = (a h >>= fun _ => r)) (hr : r = k ⟨⟩) :
    (if h : c then x h else y h) = ((if h : c then a h else pure ⟨⟩) >>= k) := by
  subst hr
  have : (fun _ => k ⟨⟩) = k := rfl
  rw [ditebind]
  exact ditec hx hy

/-- Loops are equal by their bodies. -/
theorem forc {E : Type → Type} {σ : Type} {w : Nat} {l : Scf.Loop w} {ok : l.OK} {init : σ} {b b' : Fin l.trips → σ → Prog E σ}
    (h : ∀ t a, b t a = b' t a) : Scf.Loop.for l ok init b = Scf.Loop.for l ok init b' := by
  have : b = b' := funext fun t => funext (h t)
  rw [this]

set_option maxHeartbeats 8000000 in set_option maxRecDepth 65536 in
/-- The printed program is the parametric one. -/
theorem body_eq (i : grid0.Coords) (arg2 : Memref sig .scVector .hbm S50000x256 .f32) (harg2 : arg2.IsWhole) (arg3 : Memref sig .scVector .hbm S50000 .i32) (harg3 : arg3.IsWhole) (arg4 : Memref sig .scVector .hbm S32x64x256 .f32) (harg4 : arg4.IsWhole) (arg5 : Memref sig .scVector .hbm S32x64x256 .f32) (harg5 : arg5.IsWhole) (arg6 : Memref sig .scVector .vmem S80x256 .f32) (harg6 : arg6.IsWhole) (arg7 : Memref sig .scVector .vmem S80x256 .f32) (harg7 : arg7.IsWhole) (arg8 : Memref sig .scVector .vmem S400 .i32) (harg8 : arg8.IsWhole) (arg9 : Memref sig .scVector .vmem S64x256 .f32) (harg9 : arg9.IsWhole) (arg10 : Memref sig .scVector .vmem S64x256 .f32) (harg10 : arg10.IsWhole) (arg11 : DmaSems sig S_) (arg12 : DmaSems sig S_) (v12_r0 : DmaSems sig S_) (v12_r1 : DmaSems sig S_) (v12_r2 : DmaSems sig S_) :
    cc0__sc_body (F := F) i arg2 harg2 arg3 harg3 arg4 harg4 arg5 harg5 arg6 harg6 arg7 harg7 arg8 harg8 arg9 harg9 arg10 harg10 arg11 arg12 v12_r0 v12_r1 v12_r2
      = tile i arg2 arg8 harg8 arg9 arg10 arg3 arg4 arg5 arg6 harg6 arg7 harg7 harg9 harg10 arg11 arg12 v12_r0 v12_r1 v12_r2 := by
  unfold cc0__sc_body tile k0_part90
  refine Eq.trans (Prog.bind_assoc _ _ _) ?_
  refine bindc rfl fun _ => ?_
  refine Eq.trans (Prog.bind_assoc _ _ _) ?_
  refine bindc rfl fun _ => ?_
  refine Eq.trans (Prog.bind_assoc _ _ _) ?_
  refine bindc (forc fun t _ => rfl) fun _ => ?_
  refine Eq.trans (Prog.bind_assoc _ _ _) ?_
  refine bindc rfl fun _ => ?_
  refine Eq.trans (Prog.bind_assoc _ _ _) ?_
  refine bindc rfl fun _ => ?_
  refine Eq.trans (Prog.bind_assoc _ _ _) ?_
  refine bindc (forc fun t _ => ?_) fun _ => ?_
  · extract_lets
    unfold half
    refine ditejp (fun _ => rfl) (fun h => ?_) ?_
    rotate_left
    refine Eq.trans ?_ (bind_pure _)
    refine ditejp (fun _ => rfl) (fun h => ?_) rfl
    all_goals
      refine Eq.trans ?_ (Prog.bind_assoc _ _ _).symm
      refine bindc rfl fun _ => ?_
      refine Eq.trans ?_ (Prog.bind_assoc _ _ _).symm
      unfold block
      refine Eq.trans ?_ (Prog.bind_assoc _ _ _).symm
      refine bindc rfl fun _ => ?_
      refine Eq.trans ?_ (Prog.bind_assoc _ _ _).symm
      refine bindc rfl fun _ => ?_
      refine Eq.trans ?_ (Prog.bind_assoc _ _ _).symm
      refine bindc rfl fun _ => ?_
      refine Eq.trans ?_ (Prog.bind_assoc _ _ _).symm
      extract_lets
      unfold pureIf
      refine ditejp (fun _ => rfl) (fun h => ?_) ?_
      · simp only [k0_part36, k0_part37, k0_part38, k0_part39, k0_part40, k0_part41, k0_part42, k0_part43, k0_part79, k0_part80,
          k0_part81, k0_part82, k0_part83, k0_part84, k0_part85, k0_part86, pureArm, chunks16, Prog.bind_assoc]
        rfl
      · unfold mixedIf
        refine ditejp (fun _ => rfl) (fun h => ?_) ?_
        · refine bindc (forc fun g _ => ?_) fun _ => rfl
          simp only [k0_part44, k0_part45, k0_part46, k0_part87, k0_part88, k0_part89, mixedGroup, mixedRows, chunks16, Prog.bind_assoc]
          rfl
        · unfold nextIf
          refine ditejp (fun _ => rfl) (fun h => rfl) rfl
  · rfl

end Cert.KernelIdeal.Tile

end
-- ==== Proof.Ideal.TileWp.lean ====
/-
  What a tile's program leaves: its two accumulators, copied out, after its five blocks.
-/
module

public import proofs.«01_k».proof.Proof.Ideal.Arms
public import proofs.«01_k».proof.Proof.Ideal.ProgEq

@[expose] public section

noncomputable section

namespace Cert.KernelIdeal.Tile

open Idealize.ShloMosaic Idealize.SL.Sem Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx

variable {F : FTy → Type} [FloatOps F] {U : Type} [URA U] [CountersIn U]

local notation "𝕄" => MT nD τ sig (HIx 1) (Elt F) ℕ U ℕ

variable {d : Dev nD} {i : grid0.Coords}

/-! ## Copies -/

/-- A copy started: its wait will deliver the destination at the source's contents, and the source. -/
theorem wp_dma {sp sp' : Space} {s : Shape} {e : EltTy} {q : PosShare TreeShare} {src : Memref sig .scVector sp s e} {dst : Memref sig .scVector sp' s e}
    {sm : SemLoc sig} {hsrc : src.view.WordExact} {hdst : dst.view.WordExact} {hsem : DmaTarget.Typed (nD := nD) (τ := τ) (p := .scVector (cV i) (jV i)) sp sm (.here dst)}
    {X Y : s.Idx → Elt F e} (N : ℕ) (hN : dst.view.amount sm = N) (hN0 : 0 < N) {α : Type} {k : PUnit → PT F i α} {Q : α → sProp 𝕄} :
    iprop(own d i q src X ∗ own d i fullShare dst Y ∗ semVal (thr d i, sm) 0)
      ⊢ iprop((Transfers.Flight countersEmb (thr d i) sm (default : HIx 1) N iprop(own d i fullShare dst X ∗ own d i q src X) -∗ WP d i (k ⟨⟩) Q)
        -∗ WP d i (Prog.lift (.enqueueDma src (.here dst) sm hsrc hdst hsem) >>= k) Q) := by
  unfold own
  iintro ⟨⟨%f, %hf, H⟩, ⟨%g, %hg, G⟩, Hs⟩ Hk
  iapply (Transfers.wp_dmaLocal countersEmb 𝒱₀ (thr d i) none (src := src) (dst := dst) (hsrc := hsrc) (hdst := hdst) (hsem := hsem) (k := k)
    (default : HIx 1) N hN hN0 (Finset.Subset.refl dst.view.set)) $$ [H G Hs]
  · isplitl [H]; · iexact H
    isplitl [G] <;> iassumption
  iintro Hf
  iapply Hk
  iapply (Transfers.Flight_mono countersEmb (thr d i) ?_) $$ Hf
  iintro ⟨G, H⟩
  isplitl [G]
  · iexists _
    isplitr
    rotate_left
    · iexact G
    · ipureintro
      rw [View.read_write_univ]
      exact hf
  · iexists f
    isplitr
    · ipureintro; exact hf
    · iexact H

/-- The waits' bookkeeping: what has been recorded since `W₀` is the kernel's own. -/
def OW (d : Dev nD) (i : grid0.Coords) (O : CellTallies nD τ sig (HIx 1)) (W₀ : Waits sig (HIx 1)) : sProp 𝕄 :=
  iprop(∃ W', ⌜∀ p ∈ W', p ∈ W₀ ∨ p.2 = none⌝ ∗ owes (thr d i) O W')

variable {O : CellTallies nD τ sig (HIx 1)} {W₀ : Waits sig (HIx 1)}

/-- A copy waited for. -/
theorem wp_wait {sp sp' : Space} {s s' : Shape} {e e' : EltTy} {srcw : Memref sig .scVector sp' s' e'} {dst : Memref sig .scVector sp s e} {sem : DmaSem sig}
    {hsrc : srcw.view.WordExact} {hdst : dst.view.WordExact} {N : ℕ} (hN : dst.view.dmaCredit = N) {D : sProp 𝕄}
    {α : Type} {k : PUnit → PT F i α} {Q : α → sProp 𝕄} :
    iprop(Transfers.Flight countersEmb (thr d i) (.dma sem) (default : HIx 1) N D ∗ OW d i O W₀ ∗ Transfers.MayWaits (thr d i) (default : HIx 1) O)
      ⊢ iprop((D -∗ semVal (thr d i, .dma sem) 0 -∗ OW d i O W₀ -∗ WP d i (k ⟨⟩) Q)
        -∗ WP d i (Prog.lift (.waitDma2 sem srcw dst hsrc hdst) >>= k) Q) := by
  unfold OW
  iintro ⟨Hf, ⟨%W', %hW, HO⟩, Hmw⟩ Hk
  iapply (Transfers.wp_waitLocalO countersEmb 𝒱₀ (thr d i) none (srcw := srcw) (dstw := dst) (hsrc := hsrc) (hdst := hdst) (k := k)
    (default : HIx 1) hN) $$ [Hf HO Hmw]
  · isplitl [Hf]; · iexact Hf
    isplitl [HO]; · iexact HO
    iapply (Transfers.MayWaits.elim (SemLoc.dma sem)) $$ Hmw
  iintro ⟨HD, Hs, HO⟩
  iapply Hk $$ HD Hs
  iexists _
  isplitr
  rotate_left
  · iexact HO
  · ipureintro
    intro p hp
    rcases Finset.mem_insert.mp hp with hp | hp
    · exact .inr (hp ▸ rfl)
    · exact hW p hp

/-- A slice lent out of a memref, and given back. -/
theorem own_slice {sp : Space} {s : Shape} {e : EltTy} {q : PosShare TreeShare} {m : Memref sig .scVector sp s e} {r : Rect s} {h : ∀ a, r.stride a = 1}
    {X : s.Idx → Elt F e} :
    (own d i q m X : sProp 𝕄) ⊢ iprop(own d i q (m.slice r h) (fun x => X (r.emb x))
      ∗ (own d i q (m.slice r h) (fun x => X (r.emb x)) -∗ own d i q m X)) := by
  unfold own
  iintro ⟨%f, %hf, H⟩
  have hs : (m.slice r h).view.set ⊆ m.view.set := View.set_slice_subset _ r
  ihave Hs := (pointsTo_split_subset hs).1 $$ H
  icases Hs with ⟨H1, H2⟩
  isplitl [H1]
  · iexists f
    isplitr
    · ipureintro; subst hf; rfl
    · iexact H1
  · iintro ⟨%g, %hg, G⟩
    have e : ∀ j ∈ (m.slice r h).view.set, g j = f j := by
      intro j hj
      obtain ⟨x, -, rfl⟩ := Finset.mem_map.mp hj
      have := congrFun hg x
      rw [View.read_apply, ← hf] at this
      exact (cast_inj _).mp this
    iexists f
    isplitr
    · ipureintro; exact hf
    · iapply (pointsTo_split_subset hs).2
      isplitl [G]
      · iapply (Entails.of_eq (pointsTo_congr e)) $$ G
      · iexact H2

/-! ## The values -/

/-- The features' contents. -/
def featOf (A : Mat F) : S50000x256.Idx → F .f32 := fun y => A (y 0).val (y 1).val

/-- The first row of the tile. -/
def base (i : grid0.Coords) : ℕ := 800 * (i 1).val + 400 * (i 0).val + 37200

theorem row0_toNat (i : grid0.Coords) : (row0 i).toNat = base i := congrFun (k0_off1_eq i) 0

/-- Block `n` of eighty rows from row `b` on. -/
def rowsFrom (X : Mat F) (b n : ℕ) : Mat F := fun a c => X (b + 80 * n + a) c

/-- A tile's accumulator of sums after `n` blocks of its ids `W` and its rows, from row `b` on. -/
def tileS (X : Mat F) (b : ℕ) (W : ℕ → BitVec 32) : ℕ → Mat F
  | 0 => fun _ _ => zeroF F
  | n + 1 => blockAcc (tileS X b W n) (fun k => W (80 * n + k)) (rowsFrom X b n) (pureS (rowsFrom X b n))

/-- And that of sums of squares. -/
def tileQ (X : Mat F) (b : ℕ) (W : ℕ → BitVec 32) : ℕ → Mat F
  | 0 => fun _ _ => zeroF F
  | n + 1 => blockAcc (tileQ X b W n) (fun k => W (80 * n + k)) (sqm (rowsFrom X b n)) (pureSq (rowsFrom X b n))

theorem row_toNat (i : grid0.Coords) (o : BitVec 32) (n : ℕ) (hn : n < 5) (h : o.toNat = 80 * n) : (Scalar.addi (row0 i) o).toNat = base i + 80 * n := by
  have hb : base i ≤ 50000 := by
    have h0 : (i 0).val < 2 := (i 0).isLt
    have h1 : (i 1).val < 16 := (i 1).isLt
    unfold base; omega
  have e : (Scalar.addi (row0 i) o).toNat = ((row0 i).toNat + o.toNat) % 2 ^ 32 := BitVec.toNat_add _ _
  rw [e, row0_toNat, h]
  omega

theorem blk_lt : ∀ (t : Fin (loopN 3#32).trips) (p : Fin 2), condB (blk t p) = 1#1 ↔ 2 * t.val + p.val < 5 := by decide
theorem blk2_lt : ∀ (t : Fin (loopN 3#32).trips) (p : Fin 2), condB (Scalar.addi (blk t p) 2#32) = 1#1 ↔ 2 * t.val + p.val + 2 < 5 := by decide
theorem blk2_off : ∀ (t : Fin (loopN 3#32).trips) (p : Fin 2), (Scalar.muli (Scalar.addi (blk t p) 2#32) 80#32).toNat = 80 * (2 * t.val + p.val + 2) := by decide
theorem tb_first : ∀ (t : Fin (loopN 3#32).trips) (p : Fin 2), (Scalar.indexCast (tbOf (blk t p))).toNat = 80 * (2 * t.val + p.val) := by decide
theorem tb_last : ∀ (t : Fin (loopN 3#32).trips) (p : Fin 2), lastAt (tbOf (blk t p)) = 80 * (2 * t.val + p.val) + 64 := by decide
theorem tb_group : ∀ (t : Fin (loopN 3#32).trips) (p : Fin 2) (g : Fin (loopN 5#32).trips), idsAt (tbOf (blk t p)) g = 80 * (2 * t.val + p.val) + 16 * g.val := by
  decide

/-! ## The two halves -/

section Half

variable {q : PosShare TreeShare} {feat : Memref sig .scVector .hbm S50000x256 .f32} {idx : Memref sig .scVector .vmem S400 .i32}
  {accS accQ : Memref sig .scVector .vmem S64x256 .f32} {buf : Memref sig .scVector .vmem S80x256 .f32} {hbuf : buf.IsWhole} {sem : DmaSems sig S_}
  {X : Mat F} {W : ℕ → BitVec 32}

/-- Block `n` on its way into the buffer. -/
def Fly (d : Dev nD) (i : grid0.Coords) (q : PosShare TreeShare) (feat : Memref sig .scVector .hbm S50000x256 .f32)
    (buf : Memref sig .scVector .vmem S80x256 .f32) (sem : DmaSems sig S_) (X : Mat F) (n : ℕ) : sProp 𝕄 :=
  iprop(∃ P : sProp 𝕄, Transfers.Flight countersEmb (thr d i) (.dma sem.sem) (default : HIx 1) buf.view.dmaCredit
      iprop(own d i fullShare buf (blockOf (rowsFrom X (base i) n)) ∗ P)
    ∗ (P -∗ own d i q feat (featOf X)))

/-- Nothing on its way: the buffer at some contents, the share of the features, the semaphore at zero. -/
def Idle (d : Dev nD) (i : grid0.Coords) (q : PosShare TreeShare) (feat : Memref sig .scVector .hbm S50000x256 .f32)
    (buf : Memref sig .scVector .vmem S80x256 .f32) (sem : DmaSems sig S_) (X : Mat F) : sProp 𝕄 :=
  iprop((∃ Y, own d i fullShare buf Y) ∗ own d i q feat (featOf X) ∗ semVal (thr d i, .dma sem.sem) 0)

/-- One half of the double buffer before block `n`, which is one of the five or past them. -/
def Half (d : Dev nD) (i : grid0.Coords) (q : PosShare TreeShare) (feat : Memref sig .scVector .hbm S50000x256 .f32)
    (buf : Memref sig .scVector .vmem S80x256 .f32) (sem : DmaSems sig S_) (X : Mat F) (n : ℕ) : sProp 𝕄 :=
  if n < 5 then Fly d i q feat buf sem X n else Idle d i q feat buf sem X

/-- A block's copy started. -/
theorem wp_start {o : BitVec 32} {ho : ∀ a, (![(Scalar.addi (row0 i) o).toNat, 0] : Fin 2 → Nat) a + S80x256.size a ≤ S50000x256.size a}
    {n : ℕ} (hn : n < 5) (e : o.toNat = 80 * n) (hN : 0 < buf.view.dmaCredit) {hsrc : (featRows feat i o ho).view.WordExact} {hdst : buf.view.WordExact}
    {hsem : DmaTarget.Typed (nD := nD) (τ := τ) (p := .scVector (cV i) (jV i)) .hbm (.dma sem.sem) (.here buf)} {α : Type} {k : PUnit → PT F i α} {Q : α → sProp 𝕄} :
    Idle d i q feat buf sem X ⊢ iprop((Half d i q feat buf sem X n -∗ WP d i (k ⟨⟩) Q)
      -∗ WP d i (Prog.lift (.enqueueDma (featRows feat i o ho) (.here buf) (.dma sem.sem) hsrc hdst hsem) >>= k) Q) := by
  unfold Idle Half Fly
  rw [if_pos hn]
  iintro ⟨⟨%Y, HB⟩, HF, Hs⟩ Hk
  ihave H := own_slice (r := Rect.unit (s := S50000x256) ![(Scalar.addi (row0 i) o).toNat, 0] S80x256.size ho) (h := fun _ => rfl) $$ HF
  icases H with ⟨H1, H2⟩
  have e1 : (fun x => featOf X ((Rect.unit (s := S50000x256) ![(Scalar.addi (row0 i) o).toNat, 0] S80x256.size ho).emb x))
      = blockOf (rowsFrom X (base i) n) := by
    funext x
    exact congrArg₂ X (by show (Scalar.addi (row0 i) o).toNat + 1 * _ = _; exact congrArg₂ (· + ·) (row_toNat i o n hn e) (Nat.one_mul _))
      ((Nat.zero_add _).trans (Nat.one_mul _))
  rw [e1]
  iapply (wp_dma (src := featRows feat i o ho) (dst := buf) buf.view.dmaCredit rfl hN) $$ [H1 HB Hs]
  · isplitl [H1]; · iexact H1
    isplitl [HB] <;> iassumption
  iintro Hf
  iapply Hk
  iexists _
  isplitl [Hf]
  · iexact Hf
  · iexact H2

variable (hV : ∀ n, n < 400 → (W n).toNat < 64) (hN : 0 < buf.view.dmaCredit)

include hV hN in
/-- One half's turn: its block, if there is one, and the start of the next but one, if there is one. -/
theorem wp_half {p : Fin 2} {t : Fin (loopN 3#32).trips} {n : ℕ} (hn : n = 2 * t.val + p.val) {α : Type} {k : PUnit → PT F i α} {Q : α → sProp 𝕄} :
    iprop(Half d i q feat buf sem X n ∗ own d i fullShare idx (idsOf W)
        ∗ own d i fullShare accS (accOf (tileS X (base i) W (min n 5))) ∗ own d i fullShare accQ (accOf (tileQ X (base i) W (min n 5)))
        ∗ OW d i O W₀ ∗ Transfers.MayWaits (thr d i) (default : HIx 1) O)
      ⊢ iprop((Half d i q feat buf sem X (n + 2) -∗ own d i fullShare idx (idsOf W)
          -∗ own d i fullShare accS (accOf (tileS X (base i) W (min (n + 1) 5))) -∗ own d i fullShare accQ (accOf (tileQ X (base i) W (min (n + 1) 5)))
          -∗ OW d i O W₀ -∗ WP d i (k ⟨⟩) Q)
        -∗ WP d i (half i feat idx accS accQ buf hbuf sem p t >>= k) Q) := by
  subst hn
  iintro ⟨HH, HI, HA, HB, HO, #Hmw⟩ Hk
  iapply wp_seq
  unfold half
  by_cases h5 : 2 * t.val + p.val < 5
  · have hc := (blk_lt t p).2 h5
    rw [dif_pos hc, show min (2 * t.val + p.val) 5 = 2 * t.val + p.val from by omega, show min (2 * t.val + p.val + 1) 5 = 2 * t.val + p.val + 1 from by omega]
    ihave HH := (Entails.of_eq (show Half d i q feat buf sem X (2 * t.val + p.val) = Fly d i q feat buf sem X (2 * t.val + p.val) from if_pos h5)) $$ HH
    unfold Fly
    icases HH with ⟨%P, Hf, HP⟩
    iapply (wp_wait (dst := buf) rfl) $$ [Hf HO]
    · isplitl [Hf]; · iexact Hf
      isplitl [HO]; · iexact HO
      iexact Hmw
    iintro ⟨Hbuf, HP'⟩ Hs HO
    ihave HF := HP $$ HP'
    iapply (wp_block (A := tileS X (base i) W (2 * t.val + p.val)) (B := tileQ X (base i) W (2 * t.val + p.val)) hV
      (b := 80 * (2 * t.val + p.val)) (by omega) (tb_first t p) (tb_last t p) (tb_group t p)) $$ [Hbuf HI HA HB]
    · isplitl [Hbuf]; · iexact Hbuf
      isplitl [HI]; · iexact HI
      isplitl [HA] <;> iassumption
    iintro Hbuf HI HA HB
    ihave HA := (Entails.of_eq (show own d i fullShare accS (accOf (blockAcc (tileS X (base i) W (2 * t.val + p.val)) (fun n => W (80 * (2 * t.val + p.val) + n))
      (rowsFrom X (base i) (2 * t.val + p.val)) (pureS (rowsFrom X (base i) (2 * t.val + p.val))))) = own d i fullShare accS (accOf (tileS X (base i) W (2 * t.val + p.val + 1))) from rfl)) $$ HA
    ihave HB := (Entails.of_eq (show own d i fullShare accQ (accOf (blockAcc (tileQ X (base i) W (2 * t.val + p.val)) (fun n => W (80 * (2 * t.val + p.val) + n))
      (sqm (rowsFrom X (base i) (2 * t.val + p.val))) (pureSq (rowsFrom X (base i) (2 * t.val + p.val))))) = own d i fullShare accQ (accOf (tileQ X (base i) W (2 * t.val + p.val + 1))) from rfl)) $$ HB
    unfold nextIf
    by_cases h3 : 2 * t.val + p.val + 2 < 5
    · have hc' := (blk2_lt t p).2 h3
      rw [dif_pos hc', ← bind_pure (Prog.lift _)]
      iapply (wp_start (q := q) (X := X) (n := 2 * t.val + p.val + 2) h3 (blk2_off t p) hN) $$ [Hbuf HF Hs]
      · unfold Idle
        isplitl [Hbuf]; · iexists _; iexact Hbuf
        isplitl [HF] <;> iassumption
      iintro HH
      iapply wp_ret
      iapply Hk $$ HH HI HA HB HO
    · have hc' := fun h => h3 ((blk2_lt t p).1 h)
      rw [dif_neg hc']
      iapply wp_ret
      iapply Hk $$ [Hbuf HF Hs] HI HA HB HO
      unfold Half Idle
      rw [if_neg h3]
      isplitl [Hbuf]; · iexists _; iexact Hbuf
      isplitl [HF] <;> iassumption
  · have hc := fun h => h5 ((blk_lt t p).1 h)
    rw [dif_neg hc, show min (2 * t.val + p.val) 5 = 5 from by omega, show min (2 * t.val + p.val + 1) 5 = 5 from by omega]
    iapply wp_ret
    iapply Hk $$ [HH] HI HA HB HO
    iapply (Entails.of_eq (show Half d i q feat buf sem X (2 * t.val + p.val) = Half d i q feat buf sem X (2 * t.val + p.val + 2) from by
      unfold Half; rw [if_neg h5, if_neg (by omega)])) $$ HH

end Half

end Cert.KernelIdeal.Tile

end
-- ==== Proof.Ideal.Tile.lean ====
/-
  The whole of a tile's program.
-/
module

public import proofs.«01_k».proof.Proof.Ideal.TileWp

@[expose] public section

noncomputable section

namespace Cert.KernelIdeal.Tile

open Idealize.ShloMosaic Idealize.SL.Sem Cert.KernelIdeal Cert.KernelIdeal.Gen
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx

variable {F : FTy → Type} [FloatOps F] {U : Type} [URA U] [CountersIn U]

local notation "𝕄" => MT nD τ sig (HIx 1) (Elt F) ℕ U ℕ

variable {d : Dev nD} {i : grid0.Coords}
variable {O : CellTallies nD τ sig (HIx 1)} {W₀ : Waits sig (HIx 1)}

/-- The ids' contents. -/
def idsAll (V : ℕ → BitVec 32) : S50000.Idx → BitVec 32 := fun y => V (y 0).val

/-- Contents of an accumulator are some function of row and column. -/
theorem exists_acc (Y : S64x256.Idx → F .f32) : ∃ A : Mat F, Y = accOf A := by
  classical
  refine ⟨fun a b => if h : ∃ y : S64x256.Idx, (y 0).val = a ∧ (y 1).val = b then Y h.choose else zeroF F, ?_⟩
  funext y
  have h : ∃ z : S64x256.Idx, (z 0).val = (y 0).val ∧ (z 1).val = (y 1).val := ⟨y, rfl, rfl⟩
  have e : h.choose = y := by
    funext a
    fin_cases a
    · exact Fin.ext h.choose_spec.1
    · exact Fin.ext h.choose_spec.2
  show Y y = dite (∃ z : S64x256.Idx, (z 0).val = (y 0).val ∧ (z 1).val = (y 1).val) _ _
  rw [dif_pos h, e]

/-- A program is itself followed by its return. -/
theorem wp_tail {α : Type} {p : PT F i α} {Q : α → sProp 𝕄} : WP d i (p >>= pure) Q ⊢ WP d i p Q :=
  Entails.of_eq (by rw [bind_pure])

section Tile

variable {q ql qr qi : PosShare TreeShare} {feat : Memref sig .scVector .hbm S50000x256 .f32} {idx : Memref sig .scVector .vmem S400 .i32} {hidx : idx.IsWhole}
  {accS accQ : Memref sig .scVector .vmem S64x256 .f32} {ids : Memref sig .scVector .hbm S50000 .i32}
  {sums sqs : Memref sig .scVector .hbm S32x64x256 .f32}
  {buf0 : Memref sig .scVector .vmem S80x256 .f32} {hbuf0 : buf0.IsWhole} {buf1 : Memref sig .scVector .vmem S80x256 .f32} {hbuf1 : buf1.IsWhole}
  {hS : accS.IsWhole} {hQ : accQ.IsWhole} {sem0 sem1 semI semS semQ : DmaSems sig S_}
  {X : Mat F} {V : ℕ → BitVec 32}

variable (hV : ∀ n, n < 50000 → (V n).toNat < 64) (h0 : 0 < buf0.view.dmaCredit) (h1 : 0 < buf1.view.dmaCredit) (hI : 0 < idx.view.dmaCredit)
  (hs : 0 < (outRow i sums).view.dmaCredit) (hq : 0 < (outRow i sqs).view.dmaCredit)

include hV h0 h1 hI hs hq in
/-- A tile's program: from shares of the features and the ids, its own buffers and its own rows of the two results, it leaves in those rows what
its five blocks accumulate, and gives back everything else. -/
theorem wp_tile :
    iprop(((own d i ql feat (featOf X) ∗ own d i qr feat (featOf X)) ∗ own d i qi ids (idsAll V)
        ∗ (∃ Y, own d i fullShare (outRow i sums) Y) ∗ (∃ Y, own d i fullShare (outRow i sqs) Y))
      ∗ ((∃ Y, own d i fullShare buf0 Y) ∗ (∃ Y, own d i fullShare buf1 Y) ∗ (∃ Y, own d i fullShare idx Y)
        ∗ (∃ Y, own d i fullShare accS Y) ∗ (∃ Y, own d i fullShare accQ Y))
      ∗ (semVal (thr d i, .dma sem0.sem) 0 ∗ semVal (thr d i, .dma sem1.sem) 0 ∗ semVal (thr d i, .dma semI.sem) 0
        ∗ semVal (thr d i, .dma semS.sem) 0 ∗ semVal (thr d i, .dma semQ.sem) 0)
      ∗ OW d i O W₀ ∗ Transfers.MayWaits (thr d i) (default : HIx 1) O)
    ⊢ (WP d i (tile i feat idx hidx accS accQ ids sums sqs buf0 hbuf0 buf1 hbuf1 hS hQ sem0 sem1 semI semS semQ) fun _ =>
      iprop(((own d i ql feat (featOf X) ∗ own d i qr feat (featOf X)) ∗ own d i qi ids (idsAll V)
          ∗ own d i fullShare (outRow i sums) (accOf (tileS X (base i) (fun n => V (base i + n)) 5))
          ∗ own d i fullShare (outRow i sqs) (accOf (tileQ X (base i) (fun n => V (base i + n)) 5)))
        ∗ ((∃ Y, own d i fullShare buf0 Y) ∗ (∃ Y, own d i fullShare buf1 Y) ∗ (∃ Y, own d i fullShare idx Y)
          ∗ (∃ Y, own d i fullShare accS Y) ∗ (∃ Y, own d i fullShare accQ Y))
        ∗ (semVal (thr d i, .dma sem0.sem) 0 ∗ semVal (thr d i, .dma sem1.sem) 0 ∗ semVal (thr d i, .dma semI.sem) 0
          ∗ semVal (thr d i, .dma semS.sem) 0 ∗ semVal (thr d i, .dma semQ.sem) 0)
        ∗ OW d i O W₀) : sProp 𝕄) := by
  have hb : base i + 400 ≤ 50000 := by
    have h0 : (i 0).val < 2 := (i 0).isLt
    have h1 : (i 1).val < 16 := (i 1).isLt
    unfold base; omega
  have hW : ∀ n, n < 400 → ((fun n => V (base i + n)) n).toNat < 64 := fun n hn => hV _ (by omega)
  iintro ⟨⟨⟨HF0, HF1⟩, HV, ⟨%Y1, HY1⟩, ⟨%Y2, HY2⟩⟩, ⟨HB0, HB1, ⟨%Yi, Hi⟩, ⟨%Ya, Ha⟩, ⟨%Yq, Hq⟩⟩, ⟨H0, H1, H2, H3, H4⟩, HO, #Hmw⟩
  obtain ⟨A, rfl⟩ := exists_acc Ya
  obtain ⟨B, rfl⟩ := exists_acc Yq
  unfold tile
  have e : (fun x => idsAll V ((Rect.unit (s := S50000) (k0_off1 i) S400.size (k0_off1_inb i)).emb x)) = idsOf (fun n => V (base i + n)) := by
    funext x
    exact congrArg V (congrArg₂ (· + ·) (row0_toNat i) (Nat.one_mul _))
  have e' : (own d i qi ids (idsAll V) : sProp 𝕄) ⊢ iprop(own d i qi (idRows i ids) (idsOf fun n => V (base i + n))
      ∗ (own d i qi (idRows i ids) (idsOf fun n => V (base i + n)) -∗ own d i qi ids (idsAll V))) := by
    rw [← e]
    exact own_slice (h := fun _ => rfl)
  ihave H := e' $$ HV
  icases H with ⟨HV1, HV2⟩
  iapply (wp_dma (src := idRows i ids) (dst := idx) idx.view.dmaCredit rfl hI) $$ [HV1 Hi H2]
  · isplitl [HV1]; · iexact HV1
    isplitl [Hi] <;> iassumption
  iintro Hf
  iapply (wp_wait (dst := idx) rfl) $$ [Hf HO]
  · isplitl [Hf]; · iexact Hf
    isplitl [HO]; · iexact HO
    iexact Hmw
  iintro ⟨Hi, HV1⟩ H2 HO
  ihave HV := HV2 $$ HV1
  iapply (wp_zeroLoop (A := A) (B := B)) $$ [Ha Hq]
  · isplitl [Ha] <;> iassumption
  iintro Ha Hq
  iapply (wp_start (q := ql) (X := X) (n := 0) (by omega) rfl h0) $$ [HF0 HB0 H0]
  · unfold Idle
    isplitl [HB0]; · iexact HB0
    isplitl [HF0] <;> iassumption
  iintro HH0
  iapply (wp_start (q := qr) (X := X) (n := 1) (by omega) rfl h1) $$ [HF1 HB1 H1]
  · unfold Idle
    isplitl [HB1]; · iexact HB1
    isplitl [HF1] <;> iassumption
  iintro HH1
  iapply (Scf.wp_for_bind frame (wpE (defs₀ (F := F)) 𝒱₀ (thr d i) none) Set.univ _ _ _ loop3_ok _ _
    (fun t _ => iprop((Half d i ql feat buf0 sem0 X (2 * t) ∗ Half d i qr feat buf1 sem1 X (2 * t + 1)) ∗ own d i fullShare idx (idsOf fun n => V (base i + n))
      ∗ own d i fullShare accS (accOf (tileS X (base i) (fun n => V (base i + n)) (min (2 * t) 5)))
      ∗ own d i fullShare accQ (accOf (tileQ X (base i) (fun n => V (base i + n)) (min (2 * t) 5))) ∗ OW d i O W₀ ∗ Transfers.MayWaits (thr d i) (default : HIx 1) O)) ?_) $$ [HH0 HH1 Hi Ha Hq HO]
  · intro t u
    iintro ⟨⟨HH0, HH1⟩, Hi, Ha, Hq, HO, #Hmw⟩
    iapply (wp_half (X := X) hW h0 (p := 0) (t := t) (n := 2 * t.val) rfl) $$ [HH0 Hi Ha Hq HO]
    · isplitl [HH0]; · iexact HH0
      isplitl [Hi]; · iexact Hi
      isplitl [Ha]; · iexact Ha
      isplitl [Hq]; · iexact Hq
      isplitl [HO]; · iexact HO
      iexact Hmw
    iintro HH0 Hi Ha Hq HO
    rw [← bind_pure (half i feat idx accS accQ buf1 hbuf1 sem1 1 t)]
    iapply (wp_half (X := X) hW h1 (p := 1) (t := t) (n := 2 * t.val + 1) rfl) $$ [HH1 Hi Ha Hq HO]
    · isplitl [HH1]; · iexact HH1
      isplitl [Hi]; · iexact Hi
      isplitl [Ha]; · iexact Ha
      isplitl [Hq]; · iexact Hq
      isplitl [HO]; · iexact HO
      iexact Hmw
    iintro HH1 Hi Ha Hq HO
    iapply wp_ret
    rw [show 2 * (t.val + 1) = 2 * t.val + 2 from by omega, show 2 * t.val + 2 + 1 = 2 * t.val + 1 + 2 from by omega,
      show 2 * t.val + 1 + 1 = 2 * t.val + 2 from by omega]
    isplitl [HH0 HH1]
    · isplitl [HH0] <;> iassumption
    isplitl [Hi]; · iexact Hi
    isplitl [Ha]; · iexact Ha
    isplitl [Hq]; · iexact Hq
    isplitl [HO]; · iexact HO
    iexact Hmw
  · isplitl [HH0 HH1]
    · isplitl [HH0]; · iexact HH0
      iexact HH1
    isplitl [Hi]; · iexact Hi
    isplitl [Ha]; · iexact Ha
    isplitl [Hq]; · iexact Hq
    isplitl [HO]; · iexact HO
    iexact Hmw
  · iintro %u ⟨⟨HH0, HH1⟩, Hi, Ha, Hq, HO, -⟩
    rw [show Scf.trips (loopN 3#32).lb (loopN 3#32).ub (loopN 3#32).st = 3 from by decide, show min (2 * 3) 5 = 5 from rfl]
    ihave HH0 := (Entails.of_eq (show Half d i ql feat buf0 sem0 X (2 * 3) = Idle d i ql feat buf0 sem0 X from if_neg (by decide))) $$ HH0
    ihave HH1 := (Entails.of_eq (show Half d i qr feat buf1 sem1 X (2 * 3 + 1) = Idle d i qr feat buf1 sem1 X from if_neg (by decide))) $$ HH1
    unfold Idle
    icases HH0 with ⟨HB0, HF0, H0⟩
    icases HH1 with ⟨HB1, HF1, H1⟩
    iapply (wp_dma (src := accS) (dst := outRow i sums) (outRow i sums).view.dmaCredit rfl hs) $$ [Ha HY1 H3]
    · isplitl [Ha]; · iexact Ha
      isplitl [HY1] <;> iassumption
    iintro Hf
    iapply (wp_wait (srcw := accS) (dst := outRow i sums) (hsrc := hS.wordExact) (hdst := (View.wordExact_bits rfl).reshape _ _) rfl) $$ [Hf HO]
    · isplitl [Hf]; · iexact Hf
      isplitl [HO]; · iexact HO
      iexact Hmw
    iintro ⟨HY1, Ha⟩ H3 HO
    iapply (wp_dma (src := accQ) (dst := outRow i sqs) (outRow i sqs).view.dmaCredit rfl hq) $$ [Hq HY2 H4]
    · isplitl [Hq]; · iexact Hq
      isplitl [HY2] <;> iassumption
    iintro Hf
    iapply wp_tail
    iapply (wp_wait (srcw := accQ) (dst := outRow i sqs) (hsrc := hQ.wordExact) (hdst := (View.wordExact_bits rfl).reshape _ _) rfl) $$ [Hf HO]
    · isplitl [Hf]; · iexact Hf
      isplitl [HO]; · iexact HO
      iexact Hmw
    iintro ⟨HY2, Hq⟩ H4 HO
    iapply wp_ret
    isplitl [HF0 HF1 HV HY1 HY2]
    · isplitl [HF0 HF1]
      · isplitl [HF0] <;> iassumption
      isplitl [HV]; · iexact HV
      isplitl [HY1] <;> iassumption
    isplitl [HB0 HB1 Hi Ha Hq]
    · isplitl [HB0]; · iexact HB0
      isplitl [HB1]; · iexact HB1
      isplitl [Hi]; · iexists _; iexact Hi
      isplitl [Ha]; · iexists _; iexact Ha
      iexists _; iexact Hq
    isplitl [H0 H1 H2 H3 H4]
    · isplitl [H0]; · iexact H0
      isplitl [H1]; · iexact H1
      isplitl [H2]; · iexact H2
      isplitl [H3] <;> iassumption
    iexact HO

end Tile

end Cert.KernelIdeal.Tile

end
-- ==== Proof.Ideal.Launch.lean ====
/-
  The call on the SparseCores: what the handshakes carry, each tile's task, and how the tiles' parts make the arrays.
-/
module

public import proofs.«01_k».proof.Proof.Ideal.Tile
public import proofs.«01_k».proof.Proof.Ideal.ProgEq
public import proofs.«01_k».proof.Proof.Gen.KernelIdeal.Launch
public import Idealize.ShloMosaic.Lib.Pipeline.Kit
public import Idealize.ShloMosaic.Lib.SparseCore.Quiescent

@[expose] public section

noncomputable section

namespace Cert.KernelIdeal.Tile

open Idealize.ShloMosaic Idealize.SL.Sem Cert.KernelIdeal Cert.KernelIdeal.Gen
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx Idealize.ShloMosaic.Rounds

variable {F : FTy → Type}

/-! ## The program as the launch theorem sees it -/

abbrev ΛP : Labels := Pipeline.Sig Λ₀ (Fin 2) fun p => (pcfgs (F := F) p).Adm
/-- The handshakes. -/
abbrev K : SparseCore.Cfg τ sig (ΛP (F := F)) 1 := sc (F := F)
/-- The bodies of the pipelines and of the tiles. -/
abbrev D [FloatOps F] : Defs nD τ sig (Elt F) (ΛP (F := F)) := Pipeline.defs pcfgs defs₀
abbrev 𝒱 : Variants := 𝒱₀.lift
abbrev v₀ : 𝒱.V := Sum.inl none

theorem nSub_zero : (K (F := F)).nSub 0 = 16 := rfl
theorem nCore_zero : (K (F := F)).nCore 0 = 2 := rfl

/-- The handshakes' semaphores are apart, and no tile's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' cells, the copies' counters -/

abbrev UH : Type := URounds (GSem nD τ sig) ℕ
abbrev UPp : Type := URounds (GSem nD τ sig) Unit
abbrev UU : Type := (UH × UPp) × Counters

local notation "𝕄" => MT nD τ sig (HIx 1) (Elt F) ℕ UU ℕ

/-- Where the handshakes' rounds and the pipelines' cells live. -/
def EH : Emb UH (MT nD τ sig (HIx 1) (Elt F) ℕ UU ℕ) := (Emb.inl : Emb UH (UH × UPp)).trans embL
def EP : Emb UPp (MT nD τ sig (HIx 1) (Elt F) ℕ UU ℕ) := (Emb.inr : Emb UPp (UH × UPp)).trans embL

instance EH_landsIn : (EH : Emb UH 𝕄).LandsIn (upEmb : UEmb _ 𝕄) := by unfold EH; infer_instance
instance EP_landsIn : (EP : Emb UPp 𝕄).LandsIn (upEmb : UEmb _ 𝕄) := by unfold EP; infer_instance

/-! ## The arrays -/

variable (m : (ℓ : Loc nD τ sig) → Buf (Elt F) ℓ)

abbrev xLoc (d : Dev nD) : Loc nD τ sig := (SparseCore.T d).loc main_arg0
abbrev iLoc (d : Dev nD) : Loc nD τ sig := (SparseCore.T d).loc main_arg1
abbrev sLoc (d : Dev nD) : Loc nD τ sig := (SparseCore.T d).loc main_v2_0
abbrev qLoc (d : Dev nD) : Loc nD τ sig := (SparseCore.T d).loc main_v2_1

local notation "xV" => (Memref.whole main_arg0_scv : Memref sig Kind.scVector Space.hbm S50000x256 EltTy.f32)
local notation "iV" => (Memref.whole main_arg1_scv : Memref sig Kind.scVector Space.hbm S50000 EltTy.i32)
local notation "sV" => (Memref.whole main_v2_0_scv : Memref sig Kind.scVector Space.hbm S32x64x256 EltTy.f32)
local notation "qV" => (Memref.whole main_v2_1_scv : Memref sig Kind.scVector Space.hbm S32x64x256 EltTy.f32)

/-- The features and the ids by natural coordinates. -/
def matOf [FloatOps F] (A : S50000x256.Idx → F .f32) : Mat F := fun a b => if h : a < 50000 ∧ b < 256 then A (ix2 ⟨a, h.1⟩ ⟨b, h.2⟩) else zeroF F
def wordsOf (A : S50000.Idx → BitVec 32) : ℕ → BitVec 32 := fun a => if h : a < 50000 then A (ix1 ⟨a, h⟩) else 0#32

theorem featOf_matOf [FloatOps F] (A : S50000x256.Idx → F .f32) : featOf (matOf A) = A := by
  funext y
  have h0 : (y 0).val < 50000 := (y 0).isLt
  have h1 : (y 1).val < 256 := (y 1).isLt
  have e : ix2 (⟨(y 0).val, h0⟩ : Fin 50000) (⟨(y 1).val, h1⟩ : Fin 256) = y := by funext a; match a with | 0 => rfl | 1 => rfl
  show (if h : (y 0).val < 50000 ∧ (y 1).val < 256 then A (ix2 ⟨(y 0).val, h.1⟩ ⟨(y 1).val, h.2⟩) else zeroF F) = A y
  rw [dif_pos ⟨h0, h1⟩, e]

theorem idsAll_wordsOf (A : S50000.Idx → BitVec 32) : idsAll (wordsOf A) = A := by
  funext y
  have h0 : (y 0).val < 50000 := (y 0).isLt
  have e : ix1 (⟨(y 0).val, h0⟩ : Fin 50000) = y := by funext a; match a with | 0 => rfl
  show (if h : (y 0).val < 50000 then A (ix1 ⟨(y 0).val, h⟩) else 0#32) = A y
  rw [dif_pos h0, e]

/-- What the proof asks of the launch memory: every id is below sixty-four. -/
def PreOK : Prop := ∀ (d : Dev nD) (j : S50000.Idx), (m (iLoc d) j : BitVec 32).toNat < 64

theorem words_lt (h : PreOK m) (d : Dev nD) (n : ℕ) (hn : n < 50000) : (wordsOf (m (iLoc d)) n).toNat < 64 := by
  unfold wordsOf
  rw [dif_pos hn]
  exact h d _

/-- The tile's number. -/
def wid (i : grid0.Coords) : ℕ := 2 * (i 1).val + (i 0).val
/-- The first row of tile `w`. -/
def wbase (w : ℕ) : ℕ := 400 * w + 37200

theorem base_eq (i : grid0.Coords) : base i = wbase (wid i) := by unfold base wbase wid; omega

theorem wid_lt (i : grid0.Coords) : wid i < 32 := by
  have h0 : (i 0).val < 2 := (i 0).isLt
  have h1 : (i 1).val < 16 := (i 1).isLt
  unfold wid; omega

section Results

variable [FloatOps F]

/-- What the tiles leave in the two results. -/
def tilesS (X : Mat F) (W : ℕ → BitVec 32) : S32x64x256.Idx → F .f32 :=
  fun y => tileS X (wbase (y 0).val) (fun n => W (wbase (y 0).val + n)) 5 (y 1).val (y 2).val
def tilesQ (X : Mat F) (W : ℕ → BitVec 32) : S32x64x256.Idx → F .f32 :=
  fun y => tileQ X (wbase (y 0).val) (fun n => W (wbase (y 0).val + n)) 5 (y 1).val (y 2).val

abbrev resS (d : Dev nD) : Buf (Elt F) (sLoc d) := tilesS (matOf (m (xLoc d))) (wordsOf (m (iLoc d)))
abbrev resQ (d : Dev nD) : Buf (Elt F) (qLoc d) := tilesQ (matOf (m (xLoc d))) (wordsOf (m (iLoc d)))

end Results

/-! ## A tile's rows -/

/-- The entries of an output that tile `w` writes. -/
def rowSet (w : Fin 32) : Finset S32x64x256.Idx := Finset.univ.filter fun y => (y 0).val = w.val

theorem rowSet_disjoint : ∀ i ∈ (Finset.univ : Finset (Fin 32)), ∀ j ∈ (Finset.univ : Finset (Fin 32)), i ≠ j → Disjoint (rowSet i) (rowSet j) := by
  intro i _ j _ h
  rw [Finset.disjoint_left]
  intro y hi hj
  exact h (Fin.ext ((Finset.mem_filter.mp hi).2.symm.trans (Finset.mem_filter.mp hj).2))

theorem rowSet_cover : (Finset.univ : Finset (Fin 32)).biUnion rowSet = Finset.univ := by
  ext y
  simp only [Finset.mem_biUnion, Finset.mem_univ, true_and, iff_true]
  exact ⟨⟨(y 0).val, (y 0).isLt⟩, Finset.mem_filter.mpr ⟨Finset.mem_univ _, rfl⟩⟩

/-- The tile's number among the thirty-two. -/
abbrev widF (i : grid0.Coords) : Fin 32 := ⟨wid i, wid_lt i⟩

section OutRow

variable (i : grid0.Coords)

theorem unit_set : (Rect.unit (s := S32x64x256) (k0_off189 i) S1x64x256.size (k0_off189_inb i)).set = rowSet (widF i) := by
  ext y
  rw [Rect.mem_set_unit, k0_off189_eq]
  unfold rowSet
  rw [Finset.mem_filter]
  have h1 : (y 1).val < 64 := (y 1).isLt
  have h2 : (y 2).val < 256 := (y 2).isLt
  constructor
  · intro h
    have := h 0
    exact ⟨Finset.mem_univ _, show (y 0).val = 2 * (i 1).val + (i 0).val by
      have h3 : 2 * (i 1).val + (i 0).val ≤ (y 0).val := this.1
      have h4 : (y 0).val < 2 * (i 1).val + (i 0).val + 1 := this.2
      omega⟩
  · intro ⟨_, h⟩ a
    have h : (y 0).val = 2 * (i 1).val + (i 0).val := h
    match a with
    | 0 => exact ⟨le_of_eq h.symm, by show (y 0).val < 2 * (i 1).val + (i 0).val + 1; omega⟩
    | 1 => exact ⟨Nat.zero_le _, by show (y 1).val < 0 + 64; omega⟩
    | 2 => exact ⟨Nat.zero_le _, by show (y 2).val < 0 + 256; omega⟩

theorem set_outS : (outRow i sV).view.set = rowSet (widF i) := by
  rw [← unit_set]
  show (((sV).view.slice (Rect.unit (s := S32x64x256) (k0_off189 i) S1x64x256.size (k0_off189_inb i))).reshape S64x256 squeezes_S1x64x256_S64x256.numel_eq).set = _
  rw [View.set_reshape]
  exact View.set_slice_whole main_v2_0_scv _
theorem set_outQ : (outRow i qV).view.set = rowSet (widF i) := by
  rw [← unit_set]
  show (((qV).view.slice (Rect.unit (s := S32x64x256) (k0_off189 i) S1x64x256.size (k0_off189_inb i))).reshape S64x256 squeezes_S1x64x256_S64x256.numel_eq).set = _
  rw [View.set_reshape]
  exact View.set_slice_whole main_v2_1_scv _

/-- Reading through a tile's row of an output. -/
theorem read_outS (f : S32x64x256.Idx → F .f32) (a : Fin 64) (b : Fin 256) :
    (outRow i sV).view.read (Elt F) f (ix2 a b) = f (ix3 (widF i) a b) := by
  show shapeCast S64x256 (fun x => f ((Rect.unit (s := S32x64x256) (k0_off189 i) S1x64x256.size (k0_off189_inb i)).emb x)) squeezes_S1x64x256_S64x256.numel_eq (ix2 a b) = _
  rw [shapeCast_1ab_ab_apply]
  congr 1
  funext c
  apply Fin.ext
  have e := congrFun (k0_off189_eq i) c
  show k0_off189 i c + 1 * _ = _
  rw [e]
  match c with
  | 0 => show 2 * (i 1).val + (i 0).val + 1 * 0 = 2 * (i 1).val + (i 0).val; omega
  | 1 => show 0 + 1 * a.val = a.val; omega
  | 2 => show 0 + 1 * b.val = b.val; omega
theorem read_outQ (f : S32x64x256.Idx → F .f32) (a : Fin 64) (b : Fin 256) :
    (outRow i qV).view.read (Elt F) f (ix2 a b) = f (ix3 (widF i) a b) := read_outS i f a b

end OutRow

/-! ## A buffer held whole -/

section Whole

variable {d : Dev nD} {i : grid0.Coords}

theorem own_of_whole {q : PosShare TreeShare} (b : Ref sig .scVector) (f : Buf (Elt F) ((thr d i).loc b)) :
    ((thr d i).loc b ↦{q} f : sProp 𝕄) ⊢ own d i q (Memref.whole b) f := by
  unfold own
  have e : (Memref.whole b).view.set = (Finset.univ : Finset b.ty.Idx) := View.set_whole b
  rw [e]
  iintro H
  iexists f
  isplitr
  · ipureintro; rfl
  · iexact H

theorem whole_of_own {q : PosShare TreeShare} (b : Ref sig .scVector) (f : Buf (Elt F) ((thr d i).loc b)) :
    own d i q (Memref.whole b) f ⊢ ((thr d i).loc b ↦{q} f : sProp 𝕄) := by
  unfold own
  have e : (Memref.whole b).view.set = (Finset.univ : Finset b.ty.Idx) := View.set_whole b
  rw [e]
  iintro ⟨%g, %hg, H⟩
  have hg : g = f := hg
  subst hg
  iexact H

theorem some_of_whole (b : Ref sig .scVector) :
    (iprop(∃ f, (thr d i).loc b ↦{fullShare} f) : sProp 𝕄) ⊢ iprop(∃ Y, own d i fullShare (Memref.whole b) Y) := by
  iintro ⟨%f, H⟩
  iexists f
  iapply (own_of_whole b f); iexact H

theorem whole_of_some (b : Ref sig .scVector) :
    (iprop(∃ Y, own d i fullShare (Memref.whole b) Y) : sProp 𝕄) ⊢ iprop(∃ f, (thr d i).loc b ↦{fullShare} f) := by
  iintro ⟨%f, H⟩
  iexists f
  iapply (whole_of_own b f); iexact H

/-- A tile's row of an output, at some contents and at given ones. -/
theorem own_outS (f : Buf (Elt F) (sLoc d)) :
    (sLoc d ↦[rowSet (widF i)]{fullShare} f : sProp 𝕄) ⊢ iprop(∃ Y, own d i fullShare (outRow i sV) Y) := by
  unfold own
  rw [set_outS]
  iintro H
  iexists _, f
  isplitr
  · ipureintro; rfl
  · iexact H
theorem own_outQ (f : Buf (Elt F) (qLoc d)) :
    (qLoc d ↦[rowSet (widF i)]{fullShare} f : sProp 𝕄) ⊢ iprop(∃ Y, own d i fullShare (outRow i qV) Y) := by
  unfold own
  rw [set_outQ]
  iintro H
  iexists _, f
  isplitr
  · ipureintro; rfl
  · iexact H

/-- Contents that agree through a row agree on it. -/
theorem row_agree {f g : S32x64x256.Idx → F .f32} {A : Mat F} (hf : ∀ a b, f (ix3 (widF i) a b) = accOf A (ix2 a b))
    (hg : ∀ (a : Fin 64) (b : Fin 256), g (ix3 (widF i) a b) = A a.val b.val) : ∀ y ∈ rowSet (widF i), f y = g y := by
  intro y hy
  have h0 : (y 0).val = wid i := (Finset.mem_filter.mp hy).2
  have e : y = ix3 (widF i) (y 1) (y 2) := by
    funext a
    match a with
    | 0 => exact Fin.ext h0
    | 1 => rfl
    | 2 => rfl
  rw [e]
  exact (hf (y 1) (y 2)).trans (hg (y 1) (y 2)).symm

theorem outS_own {A : Mat F} {g : Buf (Elt F) (sLoc d)} (hg : ∀ (a : Fin 64) (b : Fin 256), (g : S32x64x256.Idx → F .f32) (ix3 (widF i) a b) = A a.val b.val) :
    own d i fullShare (outRow i sV) (accOf A) ⊢ (sLoc d ↦[rowSet (widF i)]{fullShare} g : sProp 𝕄) := by
  unfold own
  rw [set_outS]
  iintro ⟨%f, %hf, H⟩
  have hf' : ∀ (a : Fin 64) (b : Fin 256), (f : S32x64x256.Idx → F .f32) (ix3 (widF i) a b) = accOf A (ix2 a b) :=
    fun a b => (read_outS i f a b).symm.trans (congrFun hf (ix2 a b))
  have e : ((outRow i sV).view.loc (thr d i) ↦[rowSet (widF i)]{fullShare} f : sProp 𝕄) ⊢ sLoc d ↦[rowSet (widF i)]{fullShare} g :=
    Entails.of_eq (pointsTo_congr (ℓ := sLoc d) (f := f) (g := g) (row_agree hf' hg))
  iapply e; iexact H
theorem outQ_own {A : Mat F} {g : Buf (Elt F) (qLoc d)} (hg : ∀ (a : Fin 64) (b : Fin 256), (g : S32x64x256.Idx → F .f32) (ix3 (widF i) a b) = A a.val b.val) :
    own d i fullShare (outRow i qV) (accOf A) ⊢ (qLoc d ↦[rowSet (widF i)]{fullShare} g : sProp 𝕄) := by
  unfold own
  rw [set_outQ]
  iintro ⟨%f, %hf, H⟩
  have hf' : ∀ (a : Fin 64) (b : Fin 256), (f : S32x64x256.Idx → F .f32) (ix3 (widF i) a b) = accOf A (ix2 a b) :=
    fun a b => (read_outQ i f a b).symm.trans (congrFun hf (ix2 a b))
  have e : ((outRow i qV).view.loc (thr d i) ↦[rowSet (widF i)]{fullShare} f : sProp 𝕄) ⊢ qLoc d ↦[rowSet (widF i)]{fullShare} g :=
    Entails.of_eq (pointsTo_congr (ℓ := qLoc d) (f := f) (g := g) (row_agree hf' hg))
  iapply e; iexact H

end Whole

/-! ## What the handshakes carry -/

section Pay

variable [FloatOps F]

/-- A tile's share of what it reads. -/
abbrev tok (w : Fin 32) : PosShare TreeShare := Transfers.shareTok fullShare 32 w

/-- A tile's part: its shares of the features and the ids, its rows of the two results. -/
def part (d : Dev nD) (f : Buf (Elt F) (sLoc d)) (g : Buf (Elt F) (qLoc d)) (w : Fin 32) : sProp 𝕄 :=
  iprop((xLoc d ↦{tok w} m (xLoc d)) ∗ (iLoc d ↦{tok w} m (iLoc d)) ∗ (sLoc d ↦[rowSet w]{fullShare} f) ∗ (qLoc d ↦[rowSet w]{fullShare} g))

instance part_storable (d : Dev nD) (f : Buf (Elt F) (sLoc d)) (g : Buf (Elt F) (qLoc d)) (w : Fin 32) :
    BI.Storable (upEmb : UEmb _ 𝕄) (part m d f g w) := by unfold part; infer_instance

/-- Tile `s` of core `c`. -/
def tileOf (c : Fin 2) (s : Fin 16) : Fin 32 := ⟨2 * s.val + c.val, by omega⟩

/-- Before and after a tile's task. -/
abbrev goP (d : Dev nD) (c : Fin 2) (s : Fin 16) : sProp 𝕄 := part m d (m (sLoc d)) (m (qLoc d)) (tileOf c s)
abbrev tdP (d : Dev nD) (c : Fin 2) (s : Fin 16) : sProp 𝕄 := part m d (resS m d) (resQ m d) (tileOf c s)

/-- Each core is handed its tiles' parts and brings them back. -/
def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with | 0 => (inferInstance : BI.Storable (upEmb : UEmb _ 𝕄) (goP m d (Fin.cast nCore_zero c) (Fin.cast nSub_zero i)))
  td q d c i := match q with | 0 => (inferInstance : BI.Storable (upEmb : UEmb _ 𝕄) (tdP m d (Fin.cast nCore_zero c) (Fin.cast nSub_zero i)))

/-- A core's parts are its tiles'. -/
theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ (bigSep Finset.univ fun s : Fin 16 => tdP m d (Fin.cast nCore_zero c) s)))
  have e (Φ : Fin 16 → sProp 𝕄) : (bigSep Finset.univ fun i : Fin ((K (F := F)).nSub 0) => Φ (Fin.cast nSub_zero i)) = bigSep Finset.univ Φ :=
    bigSep_congr fun _ _ => congrArg Φ (Fin.ext rfl)
  rw [e fun s => goP m d (Fin.cast nCore_zero c) s, e fun s => tdP m d (Fin.cast nCore_zero c) s]
  iintro H; imodintro
  isplitl [H]; · iexact H
  iintro H; iexact H

end Pay

/-! ## A tile's own buffers and semaphores -/

section Scratch

variable (d : Dev nD) (i : grid0.Coords)

/-- The tile's cell of a semaphore. -/
abbrev cell (s : DmaSems sig S_) : GSem nD τ sig := (thr d i, .dma s.sem)

theorem cell_mem (s : DmaSems sig S_) (h : (SemLoc.dma s.sem : SemLoc sig).isScoped .scVector = true) : cell d i s ∈ ownCells (thr d i) :=
  mem_ownCells.mpr ⟨rfl, h⟩
theorem cell_ne {s t : DmaSems sig S_} (h : s.sem ≠ t.sem) : cell d i s ≠ cell d i t := by
  intro e
  injection e with _ e
  injection e with e
  exact h e

/-- The cells that are not the five the task names. -/
def otherCells : Finset (GSem nD τ sig) :=
  (((((ownCells (thr d i)).erase (cell d i cc0_scratch5)).erase (cell d i cc0_scratch6)).erase (cell d i cc0_scoped0)).erase (cell d i cc0_scoped1)).erase
    (cell d i cc0_scoped2)

theorem ownSems0_V : (ownSems0 (thr d i) : sProp 𝕄)
    = iprop(semVal (cell d i cc0_scratch5) 0 ∗ semVal (cell d i cc0_scratch6) 0 ∗ semVal (cell d i cc0_scoped0) 0 ∗ semVal (cell d i cc0_scoped1) 0
        ∗ semVal (cell d i cc0_scoped2) 0 ∗ bigSep (otherCells d i) fun g => semVal g 0) := by
  have n1 : cell d i cc0_scratch6 ≠ cell d i cc0_scratch5 := cell_ne d i (by decide)
  have n2 : cell d i cc0_scoped0 ≠ cell d i cc0_scratch5 := cell_ne d i (by decide)
  have n3 : cell d i cc0_scoped0 ≠ cell d i cc0_scratch6 := cell_ne d i (by decide)
  have n4 : cell d i cc0_scoped1 ≠ cell d i cc0_scratch5 := cell_ne d i (by decide)
  have n5 : cell d i cc0_scoped1 ≠ cell d i cc0_scratch6 := cell_ne d i (by decide)
  have n6 : cell d i cc0_scoped1 ≠ cell d i cc0_scoped0 := cell_ne d i (by decide)
  have n7 : cell d i cc0_scoped2 ≠ cell d i cc0_scratch5 := cell_ne d i (by decide)
  have n8 : cell d i cc0_scoped2 ≠ cell d i cc0_scratch6 := cell_ne d i (by decide)
  have n9 : cell d i cc0_scoped2 ≠ cell d i cc0_scoped0 := cell_ne d i (by decide)
  have n10 : cell d i cc0_scoped2 ≠ cell d i cc0_scoped1 := cell_ne d i (by decide)
  have m1 := cell_mem d i cc0_scratch5 (by decide)
  have m2 := cell_mem d i cc0_scratch6 (by decide)
  have m3 := cell_mem d i cc0_scoped0 (by decide)
  have m4 := cell_mem d i cc0_scoped1 (by decide)
  have m5 := cell_mem d i cc0_scoped2 (by decide)
  unfold SparseCore.Cfg.ownSems0 otherCells
  rw [SparseCore.bigSep_erase' m1, SparseCore.bigSep_erase' (Finset.mem_erase.mpr ⟨n1, m2⟩),
    SparseCore.bigSep_erase' (Finset.mem_erase.mpr ⟨n3, Finset.mem_erase.mpr ⟨n2, m3⟩⟩),
    SparseCore.bigSep_erase' (Finset.mem_erase.mpr ⟨n6, Finset.mem_erase.mpr ⟨n5, Finset.mem_erase.mpr ⟨n4, m4⟩⟩⟩),
    SparseCore.bigSep_erase' (Finset.mem_erase.mpr ⟨n10, Finset.mem_erase.mpr ⟨n9, Finset.mem_erase.mpr ⟨n8, Finset.mem_erase.mpr ⟨n7, m5⟩⟩⟩⟩)]

/-- The tile's name for a buffer. -/
abbrev bref (b : Ref sig .scVector) : DevRef τ sig := (Proc.scVector (cV i) (jV i)).devRef b

theorem bref_mem (b : Ref sig .scVector) (h : (bref i b).owner = .proc (.scVector (cV i) (jV i))) : bref i b ∈ ownRefs (τ := τ) (sig := sig) (.scVector (cV i) (jV i)) :=
  SparseCore.Cfg.mem_ownRefs_of_owner (p := Proc.scVector (cV i) (jV i)) h
theorem bref_ne {b b' : Ref sig .scVector} (h : b ≠ b') : bref i b ≠ bref i b' := fun e => h (Proc.devRef_injective _ e)

/-- The buffers that are not the five the task names. -/
def otherRefs : Finset (DevRef τ sig) :=
  (((((ownRefs (τ := τ) (sig := sig) (.scVector (cV i) (jV i))).erase (bref i cc0_scratch0)).erase (bref i cc0_scratch1)).erase (bref i cc0_scratch2)).erase
    (bref i cc0_scratch3)).erase (bref i cc0_scratch4)

theorem ownBufs_V : (ownBufs (thr d i) : sProp 𝕄)
    = iprop((∃ f, (thr d i).loc cc0_scratch0 ↦{fullShare} f) ∗ (∃ f, (thr d i).loc cc0_scratch1 ↦{fullShare} f) ∗ (∃ f, (thr d i).loc cc0_scratch2 ↦{fullShare} f)
        ∗ (∃ f, (thr d i).loc cc0_scratch3 ↦{fullShare} f) ∗ (∃ f, (thr d i).loc cc0_scratch4 ↦{fullShare} f)
        ∗ bigSep (otherRefs i) fun b => iprop(∃ f, ((d, b) : Loc nD τ sig) ↦{fullShare} f)) := by
  have n1 : bref i cc0_scratch1 ≠ bref i cc0_scratch0 := bref_ne i (by decide)
  have n2 : bref i cc0_scratch2 ≠ bref i cc0_scratch0 := bref_ne i (by decide)
  have n3 : bref i cc0_scratch2 ≠ bref i cc0_scratch1 := bref_ne i (by decide)
  have n4 : bref i cc0_scratch3 ≠ bref i cc0_scratch0 := bref_ne i (by decide)
  have n5 : bref i cc0_scratch3 ≠ bref i cc0_scratch1 := bref_ne i (by decide)
  have n6 : bref i cc0_scratch3 ≠ bref i cc0_scratch2 := bref_ne i (by decide)
  have n7 : bref i cc0_scratch4 ≠ bref i cc0_scratch0 := bref_ne i (by decide)
  have n8 : bref i cc0_scratch4 ≠ bref i cc0_scratch1 := bref_ne i (by decide)
  have n9 : bref i cc0_scratch4 ≠ bref i cc0_scratch2 := bref_ne i (by decide)
  have n10 : bref i cc0_scratch4 ≠ bref i cc0_scratch3 := bref_ne i (by decide)
  have m1 := bref_mem i cc0_scratch0 rfl
  have m2 := bref_mem i cc0_scratch1 rfl
  have m3 := bref_mem i cc0_scratch2 rfl
  have m4 := bref_mem i cc0_scratch3 rfl
  have m5 := bref_mem i cc0_scratch4 rfl
  unfold SparseCore.Cfg.ownBufs otherRefs
  refine (SparseCore.bigSep_erase' m1).trans ?_
  rw [SparseCore.bigSep_erase' (Finset.mem_erase.mpr ⟨n1, m2⟩),
    SparseCore.bigSep_erase' (Finset.mem_erase.mpr ⟨n3, Finset.mem_erase.mpr ⟨n2, m3⟩⟩),
    SparseCore.bigSep_erase' (Finset.mem_erase.mpr ⟨n6, Finset.mem_erase.mpr ⟨n5, Finset.mem_erase.mpr ⟨n4, m4⟩⟩⟩),
    SparseCore.bigSep_erase' (Finset.mem_erase.mpr ⟨n10, Finset.mem_erase.mpr ⟨n9, Finset.mem_erase.mpr ⟨n8, Finset.mem_erase.mpr ⟨n7, m5⟩⟩⟩⟩)]

end Scratch

/-! ## The task -/

section Task

variable [FloatOps F] (d : Dev nD) (i : grid0.Coords)

/-- The task's program, on the call's own buffers. -/
abbrev taskProg : PT F i PUnit :=
  cc0__sc_body i xV (Memref.isWhole_whole _) iV (Memref.isWhole_whole _) sV (Memref.isWhole_whole _) qV (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scoped0 cc0_scoped1 cc0_scoped2

set_option maxHeartbeats 1000000 in
/-- A tile's task, from its part and its own buffers and semaphores. -/
theorem task (hpre : PreOK m) (O : CellTallies nD τ sig (HIx 1)) (W : Waits sig (HIx 1)) (hO : ∀ g, O g none = 0) :
    iprop(levAts (K (F := F)).L (K (F := F)).lev ∗ emp ∗ part m d (m (sLoc d)) (m (qLoc d)) (widF i)
        ∗ scopedBufs (thr d i) ∗ scopedSems0 (thr d i) ∗ owes (thr d i) O W)
      ⊢ (WP d i (taskProg i) fun _ => iprop(part m d (resS m d) (resQ m d) (widF i) ∗ scopedBufs (thr d i) ∗ scopedSems0 (thr d i)
            ∗ ∃ W', ⌜∀ p ∈ W', p ∈ W ∨ p.2 = none⌝ ∗ owes (thr d i) O W') : sProp 𝕄) := by
  have hV := words_lt m hpre d
  unfold taskProg
  rw [body_eq, (K (F := F)).scopedBufs_V facts d (cV i) (jV i), SparseCore.Cfg.scopedSems0_V (Val := Elt F) d (cV i) (jV i), ownSems0_V, ownBufs_V]
  unfold part
  iintro ⟨#Hlv, -, ⟨Hx, Hi, Hs, Hq⟩, ⟨B0, B1, B2, B3, B4, HB⟩, ⟨S0, S1, S2, S3, S4, HS⟩, HO⟩
  ihave #Hmw := (show levAts (K (F := F)).L (K (F := F)).lev ⊢ Transfers.MayWaits (thr d i) (default : HIx 1) O from
    (K (F := F)).mayWaits_none (thr := thr d i) hO) $$ Hlv
  ihave Hx2 := ((pointsTo_share (PosShare.mem_left_op_right (tok (widF i)))).1) $$ Hx
  icases Hx2 with ⟨Hxl, Hxr⟩
  have eX : featOf (matOf (m (xLoc d))) = m (xLoc d) := featOf_matOf (F := F) (m (xLoc d))
  have eI : idsAll (wordsOf (m (iLoc d))) = m (iLoc d) := idsAll_wordsOf (m (iLoc d))
  have toX (q : PosShare TreeShare) : (xLoc d ↦{q} m (xLoc d) : sProp 𝕄) ⊢ own d i q xV (featOf (matOf (m (xLoc d)))) := by
    rw [eX]; exact own_of_whole main_arg0_scv _
  have ofX (q : PosShare TreeShare) : own d i q xV (featOf (matOf (m (xLoc d)))) ⊢ (xLoc d ↦{q} m (xLoc d) : sProp 𝕄) := by
    rw [eX]; exact whole_of_own main_arg0_scv _
  have toI (q : PosShare TreeShare) : (iLoc d ↦{q} m (iLoc d) : sProp 𝕄) ⊢ own d i q iV (idsAll (wordsOf (m (iLoc d)))) := by
    rw [eI]; exact own_of_whole main_arg1_scv _
  have ofI (q : PosShare TreeShare) : own d i q iV (idsAll (wordsOf (m (iLoc d)))) ⊢ (iLoc d ↦{q} m (iLoc d) : sProp 𝕄) := by
    rw [eI]; exact whole_of_own main_arg1_scv _
  have hw := wp_tile (F := F) (U := UU) (d := d) (i := i) (O := O) (W₀ := W) (ql := (tok (widF i)).left) (qr := (tok (widF i)).right) (qi := tok (widF i))
    (feat := xV) (idx := Memref.whole cc0_scratch2) (hidx := Memref.isWhole_whole _) (accS := Memref.whole cc0_scratch3) (accQ := Memref.whole cc0_scratch4)
    (ids := iV) (sums := sV) (sqs := qV) (buf0 := Memref.whole cc0_scratch0) (hbuf0 := Memref.isWhole_whole _) (buf1 := Memref.whole cc0_scratch1)
    (hbuf1 := Memref.isWhole_whole _) (hS := Memref.isWhole_whole _) (hQ := Memref.isWhole_whole _) (sem0 := cc0_scratch5) (sem1 := cc0_scratch6)
    (semI := cc0_scoped0) (semS := cc0_scoped1) (semQ := cc0_scoped2) (X := matOf (m (xLoc d))) (V := wordsOf (m (iLoc d))) hV
    (by decide) (by decide) (by decide) (show 0 < (Memref.whole cc0_scratch3).view.dmaCredit by decide) (show 0 < (Memref.whole cc0_scratch4).view.dmaCredit by decide)
  have b0 : (iprop(∃ f, (thr d i).loc cc0_scratch0 ↦{fullShare} f) : sProp 𝕄)
      ⊢ iprop(∃ Y, own d i fullShare (Memref.whole cc0_scratch0 : Memref sig .scVector .vmem S80x256 .f32) Y) := some_of_whole cc0_scratch0
  have b1 : (iprop(∃ f, (thr d i).loc cc0_scratch1 ↦{fullShare} f) : sProp 𝕄)
      ⊢ iprop(∃ Y, own d i fullShare (Memref.whole cc0_scratch1 : Memref sig .scVector .vmem S80x256 .f32) Y) := some_of_whole cc0_scratch1
  have b2 : (iprop(∃ f, (thr d i).loc cc0_scratch2 ↦{fullShare} f) : sProp 𝕄)
      ⊢ iprop(∃ Y, own d i fullShare (Memref.whole cc0_scratch2 : Memref sig .scVector .vmem S400 .i32) Y) := some_of_whole cc0_scratch2
  have b3 : (iprop(∃ f, (thr d i).loc cc0_scratch3 ↦{fullShare} f) : sProp 𝕄)
      ⊢ iprop(∃ Y, own d i fullShare (Memref.whole cc0_scratch3 : Memref sig .scVector .vmem S64x256 .f32) Y) := some_of_whole cc0_scratch3
  have b4 : (iprop(∃ f, (thr d i).loc cc0_scratch4 ↦{fullShare} f) : sProp 𝕄)
      ⊢ iprop(∃ Y, own d i fullShare (Memref.whole cc0_scratch4 : Memref sig .scVector .vmem S64x256 .f32) Y) := some_of_whole cc0_scratch4
  iapply (hw.trans (wp_wand frame (wpE (defs₀ (F := F)) 𝒱₀ (thr d i) none) Set.univ)) $$ [Hxl Hxr Hi Hs Hq B0 B1 B2 B3 B4 S0 S1 S2 S3 S4 HO]
  · isplitl [Hxl Hxr Hi Hs Hq]
    · isplitl [Hxl Hxr]
      · isplitl [Hxl]
        · iapply (toX _); iexact Hxl
        · iapply (toX _); iexact Hxr
      isplitl [Hi]; · iapply (toI _); iexact Hi
      isplitl [Hs]; · iapply (own_outS _); iexact Hs
      iapply (own_outQ _); iexact Hq
    isplitl [B0 B1 B2 B3 B4]
    · isplitl [B0]; · iapply b0; iexact B0
      isplitl [B1]; · iapply b1; iexact B1
      isplitl [B2]; · iapply b2; iexact B2
      isplitl [B3]; · iapply b3; iexact B3
      iapply b4; iexact B4
    isplitl [S0 S1 S2 S3 S4]
    · isplitl [S0]; · iexact S0
      isplitl [S1]; · iexact S1
      isplitl [S2]; · iexact S2
      isplitl [S3]; · iexact S3
      iexact S4
    isplitl [HO]
    · unfold OW
      iexists W
      isplitr
      · ipureintro; exact fun p hp => Or.inl hp
      · iexact HO
    iexact Hmw
  iintro %_ ⟨⟨⟨Hxl, Hxr⟩, Hi, Hs, Hq⟩, ⟨B0, B1, B2, B3, B4⟩, ⟨S0, S1, S2, S3, S4⟩, HO⟩
  isplitl [Hxl Hxr Hi Hs Hq]
  · isplitl [Hxl Hxr]
    · iapply ((pointsTo_share (PosShare.mem_left_op_right (tok (widF i)))).2)
      isplitl [Hxl]
      · iapply (ofX _); iexact Hxl
      · iapply (ofX _); iexact Hxr
    isplitl [Hi]; · iapply (ofI _); iexact Hi
    isplitl [Hs]
    · iapply (outS_own fun a b => ?_) $$ Hs
      show tilesS _ _ _ = _
      unfold tilesS
      rw [base_eq]
    · iapply (outQ_own fun a b => ?_) $$ Hq
      show tilesQ _ _ _ = _
      unfold tilesQ
      rw [base_eq]
  isplitl [B0 B1 B2 B3 B4 HB]
  · isplitl [B0]; · iapply (whole_of_some _); iexact B0
    isplitl [B1]; · iapply (whole_of_some _); iexact B1
    isplitl [B2]; · iapply (whole_of_some _); iexact B2
    isplitl [B3]; · iapply (whole_of_some _); iexact B3
    isplitl [B4]; · iapply (whole_of_some _); iexact B4
    iexact HB
  isplitl [S0 S1 S2 S3 S4 HS]
  · isplitl [S0]; · iexact S0
    isplitl [S1]; · iexact S1
    isplitl [S2]; · iexact S2
    isplitl [S3]; · iexact S3
    isplitl [S4]; · iexact S4
    iexact HS
  unfold OW
  iexact HO

/-! ## The obligation -/

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => taskProg (coordsV c s)) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Every tile's task meets what the launch asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (task m d (coordsV ⟨_, hci.1⟩ ⟨_, hci.2⟩) hpre O W hO).trans (wp_mono frame _ _ fun _ => obl_post)

end Task

end Cert.KernelIdeal.Tile

end
-- ==== Proof.Ideal.TcBody.lean ====
/-
  What the two TensorCore kernels do with the blocks they are given.
-/
module

public import proofs.«01_k».proof.Proof.Ideal.Launch

@[expose] public section

noncomputable section

namespace Cert.KernelIdeal.Tile

open Idealize.ShloMosaic Idealize.ShloMosaic.TcCoe Idealize.SL.Sem Cert.KernelIdeal Cert.KernelIdeal.Gen
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx

variable {F : FTy → Type} [FloatOps F]

local notation "𝕄" => MT nD τ sig (HIx 1) (Elt F) ℕ UU ℕ

/-! ## Whole accesses -/

section Whole

variable {c : Dev nD}

/-- A TensorCore kernel's weakest precondition. -/
abbrev WT (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wt_ret {α : Type} {a : α} {Q : α → sProp 𝕄} : Q a ⊢ WT c (pure a) Q := by
  show Q a ⊢ wp frame (wpE (defs₀ (F := F)) 𝒱₀ (c : Thread nD τ) none) Set.univ (pure a) Q
  rw [wp_pure]
  iintro H; imodintro; iexact H

theorem wt_seq {α β : Type} {p : Prog (TpuEff nD τ sig (Elt F) Λ₀ .tc) α} {k : α → Prog (TpuEff nD τ sig (Elt F) Λ₀ .tc) β} {Q : β → sProp 𝕄} :
    WT c p (fun a => WT c (k a) Q) ⊢ WT c (p >>= k) Q := by
  show _ ⊢ wp frame (wpE (defs₀ (F := F)) 𝒱₀ (c : Thread nD τ) none) Set.univ (p >>= k) Q
  rw [wp_bind]

theorem emb_whole {s : Shape} {off : Fin s.rank → ℕ} (h : ∀ a, off a = 0) (inb : ∀ a, off a + s.size a ≤ s.size a) (y : s.Idx) :
    (Rect.unit off s.size inb).emb y = y := by
  funext a
  apply Fin.ext
  show off a + 1 * (y a).val = (y a).val
  rw [h a]; omega

/-- A load of a whole buffer reads its contents. -/
theorem wt_load_op {cs : CoreSpace} {s : Shape} {e : EltTy} {m : Memref sig .tc cs s e} {off : Fin s.rank → ℕ} (h : ∀ a, off a = 0)
    {inb : ∀ a, off a + s.size a ≤ s.size a} {hl : m.view.LoadsAt (Rect.unit off s.size inb).toLoadRect} {α : Type}
    {k : (s.Idx → Elt F e) → Prog (TpuEff nD τ sig (Elt F) Λ₀ .tc) α} {Q : α → sProp 𝕄} {X : s.Idx → Elt F e} :
    owns (c : Thread nD τ) m fullShare X ⊢ iprop((owns (c : Thread nD τ) m fullShare X -∗ WT c (k X) Q)
      -∗ WT c (.op (.load m (Rect.unit off s.size inb).toLoadRect hl) k) Q) := by
  unfold owns
  iintro ⟨%f, %hf, H⟩ Hk
  iapply (wp_load_rect 𝒱₀ (c : Thread nD τ) none Set.univ (m := m) (r := Rect.unit off s.size inb) (hl := hl) (View.set_slice_subset _ _)) $$ H
  iintro H
  have e : (m.access (Rect.unit off s.size inb)).read (Elt F) f = X := by
    subst hf
    funext y
    show m.view.read (Elt F) f ((Rect.unit off s.size inb).emb y) = _
    rw [emb_whole h]
  rw [e]
  iapply Hk
  iexists f
  isplitr
  · ipureintro; exact hf
  · iexact H

/-- The same, the load bound. -/
theorem wt_load {cs : CoreSpace} {s : Shape} {e : EltTy} {m : Memref sig .tc cs s e} {off : Fin s.rank → ℕ} (h : ∀ a, off a = 0)
    {inb : ∀ a, off a + s.size a ≤ s.size a} {hl : m.view.LoadsAt (Rect.unit off s.size inb).toLoadRect} {α : Type}
    {k : (s.Idx → Elt F e) → Prog (TpuEff nD τ sig (Elt F) Λ₀ .tc) α} {Q : α → sProp 𝕄} {X : s.Idx → Elt F e} :
    owns (c : Thread nD τ) m fullShare X ⊢ iprop((owns (c : Thread nD τ) m fullShare X -∗ WT c (k X) Q)
      -∗ WT c (Prog.lift (.load m (Rect.unit off s.size inb).toLoadRect hl) >>= k) Q) := wt_load_op h

/-- A store to a whole buffer puts its values there. -/
theorem wt_store_op {cs : CoreSpace} {s : Shape} {e : EltTy} {m : Memref sig .tc cs s e} {off : Fin s.rank → ℕ} (h : ∀ a, off a = 0)
    {inb : ∀ a, off a + s.size a ≤ s.size a} {w : s.Idx → Elt F e}
    {hx : (m.access (Rect.unit off s.size inb)).Stores Finset.univ} {hm : (Finset.univ : Finset (Rect.unit off s.size inb).shape.Idx) = Finset.univ ∨ ∀ a, (Rect.unit off s.size inb).stride a = 1}
    {α : Type} {k : PUnit → Prog (TpuEff nD τ sig (Elt F) Λ₀ .tc) α} {Q : α → sProp 𝕄} {X : s.Idx → Elt F e} :
    owns (c : Thread nD τ) m fullShare X ⊢ iprop((owns (c : Thread nD τ) m fullShare w -∗ WT c (k ⟨⟩) Q)
      -∗ WT c (.op (.store m (Rect.unit off s.size inb) w Finset.univ hx hm) k) Q) := by
  unfold owns
  iintro ⟨%f, %hf, H⟩ Hk
  iapply (wp_store 𝒱₀ (c : Thread nD τ) none Set.univ (m := m) (r := Rect.unit off s.size inb) (w := w) (Mk := Finset.univ) (hx := hx) (hm := hm) (S := m.view.set)
    (by rw [View.setOn_univ]; exact View.set_slice_subset _ _)) $$ H
  iintro H
  iapply Hk
  iexists _
  isplitr
  rotate_left
  · iexact H
  · ipureintro
    funext y
    have e := View.read_slice_write_emb (v := m.view) (Rect.unit off s.size inb) f w (Finset.mem_univ y)
    rw [emb_whole h] at e
    exact e

/-- The same, the store bound. -/
theorem wt_store {cs : CoreSpace} {s : Shape} {e : EltTy} {m : Memref sig .tc cs s e} {off : Fin s.rank → ℕ} (h : ∀ a, off a = 0)
    {inb : ∀ a, off a + s.size a ≤ s.size a} {w : s.Idx → Elt F e}
    {hx : (m.access (Rect.unit off s.size inb)).Stores Finset.univ} {hm : (Finset.univ : Finset (Rect.unit off s.size inb).shape.Idx) = Finset.univ ∨ ∀ a, (Rect.unit off s.size inb).stride a = 1}
    {α : Type} {k : PUnit → Prog (TpuEff nD τ sig (Elt F) Λ₀ .tc) α} {Q : α → sProp 𝕄} {X : s.Idx → Elt F e} :
    owns (c : Thread nD τ) m fullShare X ⊢ iprop((owns (c : Thread nD τ) m fullShare w -∗ WT c (k ⟨⟩) Q)
      -∗ WT c (Prog.lift (.store m (Rect.unit off s.size inb) w Finset.univ hx hm) >>= k) Q) := wt_store_op h

end Whole

/-! ## What the first kernel computes -/

/-- The block's one-hot matrix: one where the segment is the row's id. -/
def onehot (v : Vec F S1x1x1200 .i32) : FVec F S64x1200 .bf16 :=
  truncf .bf16 (sitofp .f32 (extui 32 (cmpi .eq (iota .tc S64x1200 32 [0] iota_S64x1200_d0_w32)
    (broadcastTo S64x1200 (shapeCast S1x1200 (shapeCast S1200 v shapeCasts_S1x1x1200_S1200) shapeCasts_S1200_S1x1200) broadcasts_S1x1200_S64x1200)) natLt_1_32)) bitsLt_bf16_f32

/-- The block's features rounded, and what rounding leaves. -/
def featHi (x : Vec F S1200x256 .f32) : FVec F S1200x256 .bf16 := truncf .bf16 x bitsLt_bf16_f32
def featLo (x : Vec F S1200x256 .f32) : FVec F S1200x256 .bf16 := truncf .bf16 (subf x (extf .f32 (featHi x) bitsLt_bf16_f32)) bitsLt_bf16_f32

abbrev zeros : FVec F S64x256 .f32 := constant S64x256 .f32 0x00000000#32
/-- A product with the one-hot matrix. -/
def mm (v : Vec F S1x1x1200 .i32) (y : FVec F S1200x256 .bf16) : FVec F S64x256 .f32 :=
  matmul dot_S64x1200_S1200x256_S64x256_1_0_0_1_n_n none (onehot v) y zeros

/-- The two accumulators after a block. -/
def stepS (v : Vec F S1x1x1200 .i32) (x : Vec F S1200x256 .f32) (a : Vec F S64x256 .f32) : Vec F S64x256 .f32 := addf a (addf (mm v (featHi x)) (mm v (featLo x)))
def stepQ (v : Vec F S1x1x1200 .i32) (x : Vec F S1200x256 .f32) (a : Vec F S64x256 .f32) : Vec F S64x256 .f32 := addf a (mm v (truncf .bf16 (mulf x x) bitsLt_bf16_f32))

/-- What the accumulators start from. -/
abbrev acc0 : Vec F S64x256 .f32 := broadcast S64x256 (Scalar.ofBits .f32 0x00000000#32)

/-- The first block's test. -/
abbrev isFirst (i : grid1.Coords) : Prop := Scalar.cmpi .ne (Scalar.extui (Scalar.cmpi .eq (BitVec.ofNat 32 (i 0).val) 0#32)) 0#32 = 1#1

section Body

variable {c : Dev nD} {i : grid1.Coords} {arg1 : Memref sig .tc .vmem S1x1x1200 .i32} {harg1 : arg1.IsWhole} {arg2 : Memref sig .tc .vmem S1200x256 .f32} {harg2 : arg2.IsWhole}
  {arg3 arg4 arg5 arg6 : Memref sig .tc .vmem S64x256 .f32} {harg3 : arg3.IsWhole} {harg4 : arg4.IsWhole} {harg5 : arg5.IsWhole} {harg6 : arg6.IsWhole}
  {v : Vec F S1x1x1200 .i32} {x : Vec F S1200x256 .f32} {a b y z : Vec F S64x256 .f32}

theorem zero2 : ∀ a, (![0, 0] : Fin 2 → ℕ) a = 0 := fun a => match a with | 0 => rfl | 1 => rfl
theorem zero3 : ∀ a, (![0, 0, 0] : Fin 3 → ℕ) a = 0 := fun a => match a with | 0 => rfl | 1 => rfl | 2 => rfl

/-- The block's part of the body: the accumulators set to zero at the first block, the block added. -/
theorem wp_part1 {Q : PUnit → sProp 𝕄} :
    iprop(owns (c : Thread nD τ) arg1 fullShare v ∗ owns (c : Thread nD τ) arg2 fullShare x ∗ owns (c : Thread nD τ) arg5 fullShare a ∗ owns (c : Thread nD τ) arg6 fullShare b)
    ⊢ iprop((iprop(owns (c : Thread nD τ) arg1 fullShare v ∗ owns (c : Thread nD τ) arg2 fullShare x
        ∗ owns (c : Thread nD τ) arg5 fullShare (stepS v x (if isFirst i then acc0 else a)) ∗ owns (c : Thread nD τ) arg6 fullShare (stepQ v x (if isFirst i then acc0 else b))) -∗ Q ⟨⟩)
      -∗ WT c (k1_part1 i arg1 harg1 arg2 harg2 arg3 harg3 arg4 harg4 arg5 harg5 arg6 harg6) Q) := by
  iintro ⟨H1, H2, H5, H6⟩ Hk
  unfold k1_part1
  by_cases h : isFirst i
  · have h' := h
    dsimp only
    rw [dif_pos h', if_pos h, if_pos h]
    iapply (wt_load zero2) $$ H5; iintro H5
    iapply (wt_store zero2) $$ H5; iintro H5
    iapply (wt_load zero2) $$ H6; iintro H6
    iapply (wt_store zero2) $$ H6; iintro H6
    iapply (wt_load zero2) $$ H2; iintro H2
    iapply (wt_load zero3) $$ H1; iintro H1
    iapply (wt_load zero2) $$ H5; iintro H5
    iapply (wt_load zero2) $$ H5; iintro H5
    iapply (wt_store zero2) $$ H5; iintro H5
    iapply (wt_load zero2) $$ H6; iintro H6
    iapply (wt_load zero2) $$ H6; iintro H6
    iapply (wt_store zero2) $$ H6; iintro H6
    iapply wt_ret
    iapply Hk
    simp only [shapeCast_self]
    isplitl [H1]; · iexact H1
    isplitl [H2]; · iexact H2
    isplitl [H5]; · iexact H5
    iexact H6
  · have h' := h
    dsimp only
    rw [dif_neg h', if_neg h, if_neg h]
    iapply (wt_load zero2) $$ H2; iintro H2
    iapply (wt_load zero3) $$ H1; iintro H1
    iapply (wt_load zero2) $$ H5; iintro H5
    iapply (wt_load zero2) $$ H5; iintro H5
    iapply (wt_store zero2) $$ H5; iintro H5
    iapply (wt_load zero2) $$ H6; iintro H6
    iapply (wt_load zero2) $$ H6; iintro H6
    iapply (wt_store zero2) $$ H6; iintro H6
    iapply wt_ret
    iapply Hk
    simp only [shapeCast_self]
    isplitl [H1]; · iexact H1
    isplitl [H2]; · iexact H2
    isplitl [H5]; · iexact H5
    iexact H6

/-- The body at a point: the block added, and at the last point the accumulators copied to the results. -/
theorem wp_body1 {Q : PUnit → sProp 𝕄} :
    iprop(owns (c : Thread nD τ) arg1 fullShare v ∗ owns (c : Thread nD τ) arg2 fullShare x ∗ owns (c : Thread nD τ) arg3 fullShare y ∗ owns (c : Thread nD τ) arg4 fullShare z
      ∗ owns (c : Thread nD τ) arg5 fullShare a ∗ owns (c : Thread nD τ) arg6 fullShare b)
    ⊢ iprop((iprop(owns (c : Thread nD τ) arg1 fullShare v ∗ owns (c : Thread nD τ) arg2 fullShare x
        ∗ owns (c : Thread nD τ) arg3 fullShare (if k1_cond2 i = 1#1 then stepS v x (if isFirst i then acc0 else a) else y)
        ∗ owns (c : Thread nD τ) arg4 fullShare (if k1_cond2 i = 1#1 then stepQ v x (if isFirst i then acc0 else b) else z)
        ∗ owns (c : Thread nD τ) arg5 fullShare (stepS v x (if isFirst i then acc0 else a)) ∗ owns (c : Thread nD τ) arg6 fullShare (stepQ v x (if isFirst i then acc0 else b))) -∗ Q ⟨⟩)
      -∗ WT c (cc1__tc_body i arg1 harg1 arg2 harg2 arg3 harg3 arg4 harg4 arg5 harg5 arg6 harg6) Q) := by
  iintro ⟨H1, H2, H3, H4, H5, H6⟩ Hk
  unfold cc1__tc_body
  dsimp only
  iapply wt_seq
  iapply wp_part1 $$ [H1 H2 H5 H6]
  · isplitl [H1]; · iexact H1
    isplitl [H2]; · iexact H2
    isplitl [H5]; · iexact H5
    iexact H6
  iintro ⟨H1, H2, H5, H6⟩
  by_cases h : k1_cond2 i = 1#1
  · rw [if_pos h, if_pos h, dif_pos h]
    iapply (wt_load zero2) $$ H5; iintro H5
    iapply (wt_load zero2) $$ H3; iintro H3
    iapply (wt_store zero2) $$ H3; iintro H3
    iapply (wt_load zero2) $$ H6; iintro H6
    iapply (wt_load zero2) $$ H4; iintro H4
    iapply (wt_store zero2) $$ H4; iintro H4
    iapply wt_ret
    iapply Hk
    isplitl [H1]; · iexact H1
    isplitl [H2]; · iexact H2
    isplitl [H3]; · iexact H3
    isplitl [H4]; · iexact H4
    isplitl [H5]; · iexact H5
    iexact H6
  · rw [if_neg h, if_neg h, dif_neg h]
    iapply wt_ret
    iapply Hk
    isplitl [H1]; · iexact H1
    isplitl [H2]; · iexact H2
    isplitl [H3]; · iexact H3
    isplitl [H4]; · iexact H4
    isplitl [H5]; · iexact H5
    iexact H6

end Body

/-! ## What the second kernel computes -/

/-- The result from the two accumulators and the tiles' sums. -/
def finVal (s q : Vec F S64x256 .f32) (S Q : Vec F S32x64x256 .f32) : Vec F S64x256 .f32 :=
  sqrt (addf (maximumf (subf (addf q (multiReduction .add [0] S64x256 Q 0x00000000#32 reduces_S32x64x256_S64x256 (.inl rfl) rfl))
      (mulf (addf s (multiReduction .add [0] S64x256 S 0x00000000#32 reduces_S32x64x256_S64x256 (.inl rfl) rfl))
        (addf s (multiReduction .add [0] S64x256 S 0x00000000#32 reduces_S32x64x256_S64x256 (.inl rfl) rfl))))
    (broadcast S64x256 (Scalar.ofBits .f32 0x00000000#32))) (broadcast S64x256 (Scalar.ofBits .f32 0x3727C5AC#32)))

/-- The second body writes that. -/
theorem wp_body2 {c : Dev nD} {arg0 arg1 arg4 : Memref sig .tc .vmem S64x256 .f32} {harg0 : arg0.IsWhole} {harg1 : arg1.IsWhole} {harg4 : arg4.IsWhole}
    {arg2 arg3 : Memref sig .tc .vmem S32x64x256 .f32} {harg2 : arg2.IsWhole} {harg3 : arg3.IsWhole} {s q y : Vec F S64x256 .f32} {S Q : Vec F S32x64x256 .f32} {R : PUnit → sProp 𝕄} :
    iprop(owns (c : Thread nD τ) arg0 fullShare s ∗ owns (c : Thread nD τ) arg1 fullShare q ∗ owns (c : Thread nD τ) arg2 fullShare S ∗ owns (c : Thread nD τ) arg3 fullShare Q
      ∗ owns (c : Thread nD τ) arg4 fullShare y)
    ⊢ iprop((iprop(owns (c : Thread nD τ) arg0 fullShare s ∗ owns (c : Thread nD τ) arg1 fullShare q ∗ owns (c : Thread nD τ) arg2 fullShare S ∗ owns (c : Thread nD τ) arg3 fullShare Q
      ∗ owns (c : Thread nD τ) arg4 fullShare (finVal s q S Q)) -∗ R ⟨⟩)
      -∗ WT c (cc2__fin_body arg0 harg0 arg1 harg1 arg2 harg2 arg3 harg3 arg4 harg4) R) := by
  iintro ⟨H0, H1, H2, H3, H4⟩ Hk
  unfold cc2__fin_body
  dsimp only
  iapply (wt_load zero2) $$ H0; iintro H0
  iapply (wt_load zero3) $$ H2; iintro H2
  iapply (wt_load zero2) $$ H1; iintro H1
  iapply (wt_load zero3) $$ H3; iintro H3
  iapply (wt_load zero2) $$ H4; iintro H4
  iapply (wt_store zero2) $$ H4; iintro H4
  iapply wt_ret
  iapply Hk
  simp only [shapeCast_self]
  isplitl [H0]; · iexact H0
  isplitl [H1]; · iexact H1
  isplitl [H2]; · iexact H2
  isplitl [H3]; · iexact H3
  iexact H4

end Cert.KernelIdeal.Tile

end
-- ==== Proof.Ideal.Region1.lean ====
/-
  The first TensorCore call: its blocks, its accumulators point by point, and its region.
-/
module

public import proofs.«01_k».proof.Proof.Ideal.TcBody
public import proofs.«01_k».proof.Proof.Gen.KernelIdeal.Points
public import Idealize.ShloMosaic.Lib.Pipeline.Regions
public import Idealize.ShloMosaic.Lib.Pipeline.ClipFacts
public import Idealize.ShloMosaic.Lib.Pipeline.ValueKit.Geometry

@[expose] public section

noncomputable section

namespace Cert.KernelIdeal.Tile

open Idealize.ShloMosaic Idealize.ShloMosaic.TcCoe Idealize.SL.Sem Cert.KernelIdeal Cert.KernelIdeal.Gen
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx
open Idealize.ShloMosaic.Pipeline (Dat Cfg Window BodyObligation)

variable {F : FTy → Type} [FloatOps F]

local notation "𝕄" => MT nD τ sig (HIx 1) (Elt F) ℕ UU ℕ

/-- Contents of the TensorCore's buffers. -/
abbrev Vals (F : FTy → Type) : Type := (c : Dev nD) → (b : Ref sig .tc) → Buf (Elt F) ((c : Thread nD τ).loc b)

variable (V : Vals F)

/-- The ids and the features of a block. -/
def idBlk (c : Dev nD) (t : Fin cfg1.N) : Vec F S1x1x1200 .i32 := ((cfg1.win 0).blk t).view.read (Elt F) (V c main_v1)
def ftBlk (c : Dev nD) (t : Fin cfg1.N) : Vec F S1200x256 .f32 :=
  (cfg1.win 1).fill (cfg1.grid.coords t) (fun _ => Scalar.ofBits .f32 0x00000000#32) (((cfg1.win 1).blk t).view.read (Elt F) (V c main_arg0))

/-- The accumulators after the first blocks. -/
def accS (c : Dev nD) : ℕ → Vec F S64x256 .f32
  | 0 => acc0
  | n + 1 => if h : n < cfg1.N then stepS (idBlk V c ⟨n, h⟩) (ftBlk V c ⟨n, h⟩) (accS c n) else accS c n
def accQ (c : Dev nD) : ℕ → Vec F S64x256 .f32
  | 0 => acc0
  | n + 1 => if h : n < cfg1.N then stepQ (idBlk V c ⟨n, h⟩) (ftBlk V c ⟨n, h⟩) (accQ c n) else accQ c n

/-- The second call's staging buffers, which the first leaves alone. -/
def others (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f))

/-- The accumulators between points: anything before the first, the prefix's after. -/
def accAt (c : Dev nD) (n : ℕ) : sProp 𝕄 :=
  iprop((∃ X, ⌜n ≠ 0 → X = accS V c n⌝ ∗ owns (c : Thread nD τ) (Memref.whole cc1_scratch0) fullShare X)
    ∗ (∃ X, ⌜n ≠ 0 → X = accQ V c n⌝ ∗ owns (c : Thread nD τ) (Memref.whole cc1_scratch1) fullShare X) ∗ others c)

variable (F) in
/-- What the core's waits may have recorded: nothing above the first launch's. -/
abbrev below (c : Dev nD) : Set (SemLoc sig × HIx 1) := {p | (K (F := F)).lev (SparseCore.T c, p.1) p.2 ≤ 8}

/-- The region's proof data. -/
def dat1 (c : Dev nD) : Dat τ (Elt F) (HIx 1) ℕ UU ℕ cfg1 c where
  A w := V c (Pipeline.arrRef spec1 w)
  after w t := match w with
    | ⟨0, _⟩ => idBlk V c t
    | ⟨1, _⟩ => ftBlk V c t
    | ⟨2, _⟩ => accS V c (t.val + 1)
    | ⟨3, _⟩ => accQ V c (t.val + 1)
  Φ t := accAt V c t.val
  q _ := fullShare
  owed _ := 0
  recorded _ := below F c

theorem after1_0 (c : Dev nD) (t : Fin cfg1.N) : (dat1 V c).after 0 t = idBlk V c t := by dsimp only [dat1]
theorem after1_1 (c : Dev nD) (t : Fin cfg1.N) : (dat1 V c).after 1 t = ftBlk V c t := by dsimp only [dat1]
theorem after1_2 (c : Dev nD) (t : Fin cfg1.N) : (dat1 V c).after 2 t = accS V c (t.val + 1) := by dsimp only [dat1]
theorem after1_3 (c : Dev nD) (t : Fin cfg1.N) : (dat1 V c).after 3 t = accQ V c (t.val + 1) := by dsimp only [dat1]

theorem before1_0 (c : Dev nD) (t : Fin cfg1.N) (d) : (dat1 V c).before 0 t d = idBlk V c t := by
  unfold Dat.before; rw [if_pos (fetch1_0 t)]; rfl

theorem inb1_1 : ∀ (i : grid1.Coords) (a : Fin 2), (cc1_transform_1 i a + 1) * S1200x256.size a ≤ S50000x256.size a := by
  decide +kernel
theorem clip1_1 (i : grid1.Coords) (a) : (cfg1.win 1).clip i a = none := Pipeline.Clip.of_eq_none (inb1_1 i a)

theorem before1_1 (c : Dev nD) (t : Fin cfg1.N) (d) : (dat1 V c).before 1 t d = ftBlk V c t := by
  unfold Dat.before; rw [if_pos (fetch1_1 t)]
  exact (dat1 V c).fetched_of_clip_none 1 t (clip1_1 _) d _

theorem first_iff : ∀ t : Fin cfg1.N, isFirst (cfg1.grid.coords t) ↔ t.val = 0 :=
  (by decide +kernel : ∀ t : Fin grid1.N, isFirst (grid1.coords t) ↔ t.val = 0)
theorem last_iff : ∀ t : Fin cfg1.N, k1_cond2 (cfg1.grid.coords t) = 1#1 ↔ t.val = 30 :=
  (by decide +kernel : ∀ t : Fin grid1.N, k1_cond2 (grid1.coords t) = 1#1 ↔ t.val = 30)

theorem accS_step (c : Dev nD) (t : Fin cfg1.N) : accS V c (t.val + 1) = stepS (idBlk V c t) (ftBlk V c t) (accS V c t.val) := by
  rw [accS, dif_pos t.isLt]
theorem accQ_step (c : Dev nD) (t : Fin cfg1.N) : accQ V c (t.val + 1) = stepQ (idBlk V c t) (ftBlk V c t) (accQ V c t.val) := by
  rw [accQ, dif_pos t.isLt]

theorem startS (c : Dev nD) (t : Fin cfg1.N) (X) (h : t.val ≠ 0 → X = accS V c t.val) :
    (if isFirst (cfg1.grid.coords t) then acc0 else X) = accS V c t.val := by
  by_cases h0 : t.val = 0
  · rw [if_pos ((first_iff t).mpr h0), h0]; rfl
  · rw [if_neg (fun e => h0 ((first_iff t).mp e)), h h0]
theorem startQ (c : Dev nD) (t : Fin cfg1.N) (X) (h : t.val ≠ 0 → X = accQ V c t.val) :
    (if isFirst (cfg1.grid.coords t) then acc0 else X) = accQ V c t.val := by
  by_cases h0 : t.val = 0
  · rw [if_pos ((first_iff t).mpr h0), h0]; rfl
  · rw [if_neg (fun e => h0 ((first_iff t).mp e)), h h0]

theorem Φ1_start (c : Dev nD) (t : Fin cfg1.N) : (dat1 V c).Φ t.castSucc = accAt V c t.val := rfl
theorem Φ1_end (c : Dev nD) (t : Fin cfg1.N) : (dat1 V c).Φ t.succ = accAt V c (t.val + 1) := rfl

theorem row1 (t : Fin cfg1.N) : (defs₀ (F := F)) .tc cfg1.body (cfg1.bodyArgs t (cfg1.slots t)) = bodyAt1 t := rfl

/-- What the body leaves in a result's buffer: the accumulator at the last point, what it found elsewhere. -/
theorem leaves1_2 (c : Dev nD) (t : Fin cfg1.N) (d) :
    owns (c : Thread nD τ) (st1_2 t) fullShare (if k1_cond2 (cfg1.grid.coords t) = 1#1 then accS V c (t.val + 1) else (dat1 V c).before 2 t d) ⊢ ((dat1 V c).leavesExact 2 t : sProp 𝕄) := by
  by_cases h : k1_cond2 (cfg1.grid.coords t) = 1#1
  · have hi : cfg1.idle 2 (cfg1.grid.coords t) = false := by
      show (!(k1_cond2 (cfg1.grid.coords t) == 1#1)) = false
      rw [h]; rfl
    unfold Dat.leavesExact
    rw [if_pos h, hi, after1_2]
  · have hi : cfg1.idle 2 (cfg1.grid.coords t) = true := by
      show (!(k1_cond2 (cfg1.grid.coords t) == 1#1)) = true
      rw [beq_eq_false_iff_ne.mpr h]; rfl
    have hf : (cfg1.win 2).flush t = false := by
      have := (flush1_2 t).not.mpr (fun e => h ((last_iff t).mpr (by have := t.isLt; have e : cfg1.N = 31 := N_1; omega)))
      simpa using this
    unfold Dat.leavesExact
    rw [if_neg h, hi, hf]
    iintro H
    iexists d; iexact H
theorem leaves1_3 (c : Dev nD) (t : Fin cfg1.N) (d) :
    owns (c : Thread nD τ) (st1_3 t) fullShare (if k1_cond2 (cfg1.grid.coords t) = 1#1 then accQ V c (t.val + 1) else (dat1 V c).before 3 t d) ⊢ ((dat1 V c).leavesExact 3 t : sProp 𝕄) := by
  by_cases h : k1_cond2 (cfg1.grid.coords t) = 1#1
  · have hi : cfg1.idle 3 (cfg1.grid.coords t) = false := by
      show (!(k1_cond2 (cfg1.grid.coords t) == 1#1)) = false
      rw [h]; rfl
    unfold Dat.leavesExact
    rw [if_pos h, hi, after1_3]
  · have hi : cfg1.idle 3 (cfg1.grid.coords t) = true := by
      show (!(k1_cond2 (cfg1.grid.coords t) == 1#1)) = true
      rw [beq_eq_false_iff_ne.mpr h]; rfl
    have hf : (cfg1.win 3).flush t = false := by
      have := (flush1_3 t).not.mpr (fun e => h ((last_iff t).mpr (by have := t.isLt; have e : cfg1.N = 31 := N_1; omega)))
      simpa using this
    unfold Dat.leavesExact
    rw [if_neg h, hi, hf]
    iintro H
    iexists d; iexact H

/-- The body at a point, from what it finds to what it leaves. -/
theorem sound1 (c : Dev nD) (t : Fin cfg1.N) :
    iprop((dat1 V c).Φ t.castSucc ∗ (dat1 V c).owesAt (none : HIx 1) t.castSucc
      ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d)))
    ⊢ WT (F := F) c (bodyAt1 t) fun _ => iprop((dat1 V c).Φ t.succ ∗ (dat1 V c).owesAt (none : HIx 1) t.succ
      ∗ owns (c : Thread nD τ) (st1_0 t) fullShare ((dat1 V c).after 0 t) ∗ owns (c : Thread nD τ) (st1_1 t) fullShare ((dat1 V c).after 1 t)
      ∗ (dat1 V c).leavesExact 2 t ∗ (dat1 V c).leavesExact 3 t) := by
  rw [Φ1_start, Φ1_end, show (dat1 V c).owesAt (none : HIx 1) t.succ = (dat1 V c).owesAt (none : HIx 1) t.castSucc from rfl, after1_0, after1_1]
  simp only [before1_0, before1_1]
  unfold accAt
  iintro ⟨⟨⟨%X, %hX, H5⟩, ⟨%Y, %hY, H6⟩, Ho⟩, Howes, ⟨%d0, H0⟩, ⟨%d1, H1⟩, ⟨%d2, H2⟩, ⟨%d3, H3⟩⟩
  unfold bodyAt1
  iapply wp_body1 $$ [H0 H1 H2 H3 H5 H6]
  · isplitl [H0]; · iexact H0
    isplitl [H1]; · iexact H1
    isplitl [H2]; · iexact H2
    isplitl [H3]; · iexact H3
    isplitl [H5]; · iexact H5
    iexact H6
  rw [startS V c t X hX, startQ V c t Y hY, ← accS_step, ← accQ_step]
  iintro ⟨H0, H1, H2, H3, H5, H6⟩
  isplitl [H5 H6 Ho]
  · isplitl [H5]
    · iexists _; isplitr
      rotate_left
      · iexact H5
      · ipureintro; exact fun _ => rfl
    isplitl [H6]
    · iexists _; isplitr
      rotate_left
      · iexact H6
      · ipureintro; exact fun _ => rfl
    iexact Ho
  isplitl [Howes]; · iexact Howes
  isplitl [H0]; · iexact H0
  isplitl [H1]; · iexact H1
  isplitl [H2]
  · iapply (leaves1_2 V c t d2); iexact H2
  · iapply (leaves1_3 V c t d3); iexact H3

theorem body1 (c : Dev nD) : BodyObligation (dat1 V c) (defs₀ (F := F)) 𝒱₀ (none : HIx 1) Set.univ := fun t => by
  rw [bigSep_W1, bigSep_W1, row1]
  exact sound1 V c t

/-- What the region leaves in the two results. -/
theorem arr1_2 (c : Dev nD) : (dat1 V c).arrAt 2 cfg1.N = accS V c 31 := by
  refine (dat1 V c).arrAt_eq_of_after_last 2 (⟨30, by decide⟩ : Fin cfg1.N) (by decide +kernel) _ fun j => ?_
  rw [after1_2]; rfl
theorem arr1_3 (c : Dev nD) : (dat1 V c).arrAt 3 cfg1.N = accQ V c 31 := by
  refine (dat1 V c).arrAt_eq_of_after_last 3 (⟨30, by decide⟩ : Fin cfg1.N) (by decide +kernel) _ fun j => ?_
  rw [after1_3]; rfl

end Cert.KernelIdeal.Tile

end
-- ==== Proof.Ideal.Region2.lean ====
/-
  The second TensorCore call, and the two calls as regions of the program.
-/
module

public import proofs.«01_k».proof.Proof.Ideal.Region1
public import Idealize.ShloMosaic.Lib.Pipeline.RegionsLoop

@[expose] public section

noncomputable section

namespace Cert.KernelIdeal.Tile

open Idealize.ShloMosaic Idealize.ShloMosaic.TcCoe Idealize.SL.Sem Cert.KernelIdeal Cert.KernelIdeal.Gen
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx
open Idealize.ShloMosaic.Pipeline (Dat Cfg Window BodyObligation)

variable {F : FTy → Type} [FloatOps F]

local notation "𝕄" => MT nD τ sig (HIx 1) (Elt F) ℕ UU ℕ

variable (V : Vals F)

/-- The region's proof data. -/
def dat2 (c : Dev nD) : Dat τ (Elt F) (HIx 1) ℕ UU ℕ cfg2 c where
  A w := V c (Pipeline.arrRef spec2 w)
  after w _ := match w with
    | ⟨0, _⟩ => V c main_v3_0
    | ⟨1, _⟩ => V c main_v3_1
    | ⟨2, _⟩ => V c main_v2_0
    | ⟨3, _⟩ => V c main_v2_1
    | ⟨4, _⟩ => finVal (V c main_v3_0) (V c main_v3_1) (V c main_v2_0) (V c main_v2_1)
  Φ _ := Pipeline.scopedRest spec2 c
  q _ := fullShare
  owed _ := 0
  recorded _ := below F c

theorem whole2_0 (f : (Ref.ty main_v3_0).Contents (Elt F)) : ((cfg2.win 0).blk t2_0).view.read (Elt F) f = f := by
  funext y
  show f (((cfg2.win 0).rect t2_0).emb y) = f y
  exact congrArg f (funext fun a => Fin.ext (Pipeline.Window.rect_emb_val_of_index_zero _ _ a rfl y))
theorem before2_0 (c : Dev nD) (d) : (dat2 V c).before 0 t2_0 d = V c main_v3_0 := by
  unfold Dat.before; rw [if_pos (fetch2_0 _)]
  exact whole2_0 (V c main_v3_0)
theorem whole2_1 (f : (Ref.ty main_v3_1).Contents (Elt F)) : ((cfg2.win 1).blk t2_0).view.read (Elt F) f = f := by
  funext y
  show f (((cfg2.win 1).rect t2_0).emb y) = f y
  exact congrArg f (funext fun a => Fin.ext (Pipeline.Window.rect_emb_val_of_index_zero _ _ a rfl y))
theorem before2_1 (c : Dev nD) (d) : (dat2 V c).before 1 t2_0 d = V c main_v3_1 := by
  unfold Dat.before; rw [if_pos (fetch2_1 _)]
  exact whole2_1 (V c main_v3_1)
theorem whole2_2 (f : (Ref.ty main_v2_0).Contents (Elt F)) : ((cfg2.win 2).blk t2_0).view.read (Elt F) f = f := by
  funext y
  show f (((cfg2.win 2).rect t2_0).emb y) = f y
  exact congrArg f (funext fun a => Fin.ext (Pipeline.Window.rect_emb_val_of_index_zero _ _ a rfl y))
theorem before2_2 (c : Dev nD) (d) : (dat2 V c).before 2 t2_0 d = V c main_v2_0 := by
  unfold Dat.before; rw [if_pos (fetch2_2 _)]
  exact whole2_2 (V c main_v2_0)
theorem whole2_3 (f : (Ref.ty main_v2_1).Contents (Elt F)) : ((cfg2.win 3).blk t2_0).view.read (Elt F) f = f := by
  funext y
  show f (((cfg2.win 3).rect t2_0).emb y) = f y
  exact congrArg f (funext fun a => Fin.ext (Pipeline.Window.rect_emb_val_of_index_zero _ _ a rfl y))
theorem before2_3 (c : Dev nD) (d) : (dat2 V c).before 3 t2_0 d = V c main_v2_1 := by
  unfold Dat.before; rw [if_pos (fetch2_3 _)]
  exact whole2_3 (V c main_v2_1)

theorem after2_0 (c : Dev nD) (t) : (dat2 V c).after 0 t = V c main_v3_0 := by dsimp only [dat2]
theorem after2_1 (c : Dev nD) (t) : (dat2 V c).after 1 t = V c main_v3_1 := by dsimp only [dat2]
theorem after2_2 (c : Dev nD) (t) : (dat2 V c).after 2 t = V c main_v2_0 := by dsimp only [dat2]
theorem after2_3 (c : Dev nD) (t) : (dat2 V c).after 3 t = V c main_v2_1 := by dsimp only [dat2]
theorem after2_4 (c : Dev nD) (t) : (dat2 V c).after 4 t = finVal (V c main_v3_0) (V c main_v3_1) (V c main_v2_0) (V c main_v2_1) := by dsimp only [dat2]

theorem row2 (t : Fin cfg2.N) : (defs₀ (F := F)) .tc cfg2.body (cfg2.bodyArgs t (cfg2.slots t)) = bodyAt2 t := rfl

/-- The body at the one point, from what it finds to what it leaves. -/
theorem sound2 (c : Dev nD) :
    iprop((dat2 V c).Φ t2_0.castSucc ∗ (dat2 V c).owesAt (none : HIx 1) t2_0.castSucc
      ∗ (∃ d, owns (c : Thread nD τ) (win2_0.stage (cfg2.slots t2_0 0)) fullShare ((dat2 V c).before 0 t2_0 d))
      ∗ (∃ d, owns (c : Thread nD τ) (win2_1.stage (cfg2.slots t2_0 1)) fullShare ((dat2 V c).before 1 t2_0 d))
      ∗ (∃ d, owns (c : Thread nD τ) (win2_2.stage (cfg2.slots t2_0 2)) fullShare ((dat2 V c).before 2 t2_0 d))
      ∗ (∃ d, owns (c : Thread nD τ) (win2_3.stage (cfg2.slots t2_0 3)) fullShare ((dat2 V c).before 3 t2_0 d))
      ∗ (∃ d, owns (c : Thread nD τ) (win2_4.stage (cfg2.slots t2_0 4)) fullShare ((dat2 V c).before 4 t2_0 d)))
    ⊢ WT (F := F) c (bodyAt2 t2_0) fun _ => iprop((dat2 V c).Φ t2_0.succ ∗ (dat2 V c).owesAt (none : HIx 1) t2_0.succ
      ∗ owns (c : Thread nD τ) (win2_0.stage (cfg2.slots t2_0 0)) fullShare ((dat2 V c).after 0 t2_0)
      ∗ owns (c : Thread nD τ) (win2_1.stage (cfg2.slots t2_0 1)) fullShare ((dat2 V c).after 1 t2_0)
      ∗ owns (c : Thread nD τ) (win2_2.stage (cfg2.slots t2_0 2)) fullShare ((dat2 V c).after 2 t2_0)
      ∗ owns (c : Thread nD τ) (win2_3.stage (cfg2.slots t2_0 3)) fullShare ((dat2 V c).after 3 t2_0)
      ∗ owns (c : Thread nD τ) (win2_4.stage (cfg2.slots t2_0 4)) fullShare ((dat2 V c).after 4 t2_0)) := by
  rw [show (dat2 V c).Φ t2_0.succ = (dat2 V c).Φ t2_0.castSucc from rfl,
    show (dat2 V c).owesAt (none : HIx 1) t2_0.succ = (dat2 V c).owesAt (none : HIx 1) t2_0.castSucc from rfl, after2_0, after2_1, after2_2, after2_3, after2_4]
  simp only [before2_0, before2_1, before2_2, before2_3]
  iintro ⟨HΦ, Howes, ⟨%d0, H0⟩, ⟨%d1, H1⟩, ⟨%d2, H2⟩, ⟨%d3, H3⟩, ⟨%d4, H4⟩⟩
  unfold bodyAt2
  iapply wp_body2 $$ [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

theorem body2 (c : Dev nD) : BodyObligation (dat2 V c) (defs₀ (F := F)) 𝒱₀ (none : HIx 1) Set.univ := fun t => by
  obtain rfl := fin_N2 t
  rw [bigSep_W2, bigSep_W2, row2]
  exact sound2 V c

/-- What the region leaves in the result. -/
theorem arr2_4 (c : Dev nD) : (dat2 V c).arrAt 4 cfg2.N = finVal (V c main_v3_0) (V c main_v3_1) (V c main_v2_0) (V c main_v2_1) := by
  refine (dat2 V c).arrAt_eq_of_after_last 4 t2_0 (by decide +kernel) _ fun j => ?_
  rw [after2_4]; rfl

/-! ## The regions -/

/-- The pipelines' tables: neither call has any. -/
abbrev adm (p : Fin 2) : (pcfgs (F := F) p).Adm := (cfgs p).toPCfg_adm

/-- The regions' proof data, at one valuation. -/
def pdats : (p : Fin 2) → (c : Dev nD) → Dat τ (Elt F) (HIx 1) ℕ UU ℕ (Pipeline.pin (pcfgs (F := F)) adm p) c
  | ⟨0, _⟩ => fun c => dat1 V c
  | ⟨1, _⟩ => fun c => dat2 V c

variable (F) in
/-- A core that owes nothing, its waits below the first launch's mark. -/
abbrev free (c : Dev nD) : sProp 𝕄 :=
  iprop(∃ W, ⌜(K (F := F)).WBelow (SparseCore.T c) W 8⌝ ∗ owes (c : Thread nD τ) (0 : CellTallies nD τ sig (HIx 1)) W)

variable (Vp : Vals F)

set_option backward.isDefEq.respectTransparency.types false in
/-- The first call as a region: every buffer at `V` before it, at `Vp` after. -/
def reg1 (h0 : ∀ c, Vp c main_v3_0 = accS V c 31) (h1 : ∀ c, Vp c main_v3_1 = accQ V c 31)
    (hne : ∀ c (b : Ref sig .tc), b ≠ main_v3_0 → b ≠ main_v3_1 → Vp c b = V c b) :
    Pipeline.RegionSeg (pcfgs (F := F)) adm (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ free F c)
  post c := iprop(unscopedBufs c (Vp c) ∗ free F c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = accAt V c 0 from rfl]
    refine BIBase.Entails.trans (Q := Pipeline.scopedRest spec1 c) (by iintro ⟨-, -, Hr⟩; iexact Hr) ?_
    rw [scopedRest1_eq]
    unfold accAt others
    simp only [owns_whole]
    iintro ⟨⟨%f, H0⟩, ⟨%g, H1⟩, Hr⟩
    isplitl [H0]
    · iexists f; isplitr; · ipureintro; exact fun h => absurd rfl h
      iexact H0
    isplitl [H1]
    · iexists g; isplitr; · ipureintro; exact fun h => absurd rfl h
      iexact H1
    iexact Hr
  hout c := by
    rw [Pipeline.ownSems0_none, show (pdats V 0 c).Φ (Fin.last _) = accAt V c 31 from rfl]
    refine BIBase.Entails.trans (Q := Pipeline.scopedRest spec1 c) ?_ (by
      iintro Hr
      isplitr; · iempintro
      isplitr; · iempintro
      iexact Hr)
    rw [scopedRest1_eq]
    unfold accAt others
    simp only [owns_whole]
    iintro ⟨⟨%f, -, H0⟩, ⟨%g, -, H1⟩, Hr⟩
    isplitl [H0]; · iexists f; iexact H0
    isplitl [H1]; · iexists g; iexact H1
    iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v1 (by decide) (by decide)).symm
        · exact ((pdats V 0 c).arrAt_in 1 rfl _).trans (hne c main_arg0 (by decide) (by decide)).symm
        · exact (arr1_2 V c).trans (h0 c).symm
        · exact (arr1_3 V c).trans (h1 c).symm)
      (fun b hb => hne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in
/-- The second call as a region: every buffer at `V` before it, at `Vp` after. -/
def reg2 (h4 : ∀ c, Vp c main_v4 = finVal (V c main_v3_0) (V c main_v3_1) (V c main_v2_0) (V c main_v2_1))
    (hne : ∀ c (b : Ref sig .tc), b ≠ main_v4 → Vp c b = V c b) :
    Pipeline.RegionSeg (pcfgs (F := F)) adm (pdats V) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := iprop(unscopedBufs c (V c) ∗ free F c)
  post c := iprop(unscopedBufs c (Vp c) ∗ free F c)
  X _ := BI.emp
  Y _ := BI.emp
  Z c := iprop(Pipeline.unscopedRest (Ix := HIx 1) (Name := ℕ) (U := UU) (Lvl := ℕ) spec2 c (V c))
  hentry c := by
    rw [Pipeline.ownSems0_none]
    have hsplit := Pipeline.arrays_of_unscopedBufs (p := 1) (pcfgs (F := F)) adm (pdats V) (launch2).win (launch2).arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 1 c).Φ 0 = Pipeline.scopedRest spec2 c from rfl]
    iintro ⟨-, -, Hr⟩; iexact Hr
  hout c := by
    rw [Pipeline.ownSems0_none, show (pdats V 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v3_0 (by decide)).symm
        · exact ((pdats V 1 c).arrAt_in 1 rfl _).trans (hne c main_v3_1 (by decide)).symm
        · exact ((pdats V 1 c).arrAt_in 2 rfl _).trans (hne c main_v2_0 (by decide)).symm
        · exact ((pdats V 1 c).arrAt_in 3 rfl _).trans (hne c main_v2_1 (by decide)).symm
        · exact (arr2_4 V c).trans (h4 c).symm)
      (fun b hb => hne c b (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.KernelIdeal.Tile

end
-- ==== Proof.Ideal.Run.lean ====
/-
  The program's run: the host's slice of the ids, the call on the SparseCores, the two calls on the TensorCore, and what
  the memory holds at the end.
-/
module

public import proofs.«01_k».proof.Proof.Ideal.Region2
public import Idealize.ShloMosaic.Lib.Pipeline.Frame

@[expose] public section

noncomputable section

namespace Cert.KernelIdeal.Tile

open Idealize.ShloMosaic Idealize.ShloMosaic.TcCoe Idealize.SL.Sem Cert.KernelIdeal Cert.KernelIdeal.Gen
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Tactic Idealize.ShloMosaic.ValueIdx Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' parts make the arrays -/

/-- A core and a subcore number a tile. -/
def tiles : Fin 2 × Fin 16 ≃ Fin 32 where
  toFun p := tileOf p.1 p.2
  invFun w := (⟨w.val % 2, by omega⟩, ⟨w.val / 2, by omega⟩)
  left_inv p := by
    obtain ⟨c, s⟩ := p
    refine Prod.ext (Fin.ext ?_) (Fin.ext ?_)
    · show (2 * s.val + c.val) % 2 = c.val; omega
    · show (2 * s.val + c.val) / 2 = s.val; omega
  right_inv w := Fin.ext (show 2 * (w.val / 2) + w.val % 2 = w.val by omega)

theorem cores_parts (Φ : Fin 32 → sProp 𝕄) :
    (bigSep Finset.univ fun c : Fin ((K (F := F)).nCore 0) => bigSep Finset.univ fun s : Fin 16 => Φ (tileOf (Fin.cast nCore_zero c) s))
      = bigSep Finset.univ Φ := by
  rw [bigSep_univ_equiv tiles Φ, bigSep_univ_prod]
  exact bigSep_congr fun _ _ => rfl

theorem parts_eq (d : Dev nD) (f : Buf (Elt F) (sLoc d)) (g : Buf (Elt F) (qLoc d)) :
    (bigSep Finset.univ fun w : Fin 32 => part m d f g w)
      = iprop((bigSep Finset.univ fun w : Fin 32 => xLoc d ↦{tok w} m (xLoc d)) ∗ (bigSep Finset.univ fun w : Fin 32 => iLoc d ↦{tok w} m (iLoc d))
          ∗ (sLoc d ↦{fullShare} f) ∗ (qLoc d ↦{fullShare} g)) := by
  have hs : (sLoc d ↦{fullShare} f : sProp 𝕄) = bigSep Finset.univ fun w : Fin 32 => sLoc d ↦[rowSet w]{fullShare} f :=
    (congrArg (fun S : Finset (Idx (sLoc d)) => (sLoc d ↦[S]{fullShare} f : sProp 𝕄)) rowSet_cover.symm).trans
      (pointsTo_biUnion (ℓ := sLoc d) (q := fullShare) (f := f) (Finset.univ : Finset (Fin 32)) (fun w => (rowSet w : Finset (Idx (sLoc d)))) rowSet_disjoint)
  have hq : (qLoc d ↦{fullShare} g : sProp 𝕄) = bigSep Finset.univ fun w : Fin 32 => qLoc d ↦[rowSet w]{fullShare} g :=
    (congrArg (fun S : Finset (Idx (qLoc d)) => (qLoc d ↦[S]{fullShare} g : sProp 𝕄)) rowSet_cover.symm).trans
      (pointsTo_biUnion (ℓ := qLoc d) (q := fullShare) (f := g) (Finset.univ : Finset (Fin 32)) (fun w => (rowSet w : Finset (Idx (qLoc d)))) rowSet_disjoint)
  rw [hs, hq]
  unfold part
  rw [bigSep_sep', bigSep_sep', bigSep_sep']

/-! ## The arrays through the program -/

/-- The memory's arrays, as the host's operations see them. -/
def W0 (d : Dev nD) : Valuation τ sig (Elt F) := fun b => m (d, b)

/-- The slice and the reshape. -/
abbrev opSlice : HloOp τ sig (Elt F) :=
  StableHlo.unary main_arg1 main_v0 (extractStridedSlice S37200 ![0] · slices_S50000_S37200_0)
abbrev opShape : HloOp τ sig (Elt F) := StableHlo.reshape main_v0 main_v1 rfl shapeCasts_S37200_S31x1x1200

theorem opSlice_bufs : (opSlice (F := F)).bufs ⊆ Pipeline.ucRefs τ sig :=
  show ({Proc.devRef .tc main_arg1, Proc.devRef .tc main_v0} : Finset (DevRef τ sig)) ⊆ Pipeline.ucRefs τ sig by decide
theorem opShape_bufs : (opShape (F := F)).bufs ⊆ Pipeline.ucRefs τ sig :=
  show ({Proc.devRef .tc main_v0, Proc.devRef .tc main_v1} : Finset (DevRef τ sig)) ⊆ Pipeline.ucRefs τ sig by decide

/-- After the host's operations. -/
def W2 (d : Dev nD) : Valuation τ sig (Elt F) := (opShape (F := F)).result ((opSlice (F := F)).result (W0 m d))

def V2 : Vals F := fun d b => W2 m d b
/-- After the call on the SparseCores. -/
def V3 : Vals F := fun d => Function.update (Function.update (V2 m d) main_v2_0 (resS m d)) main_v2_1 (resQ m d)
/-- After the first call on the TensorCore. -/
def V4 : Vals F := fun d => Function.update (Function.update (V3 m d) main_v3_0 (accS (V3 m) d 31)) main_v3_1 (accQ (V3 m) d 31)
/-- The result. -/
def outV (d : Dev nD) : Vec F S64x256 .f32 := finVal (accS (V3 m) d 31) (accQ (V3 m) d 31) (resS m d) (resQ m d)
/-- After the second. -/
def V5 : Vals F := fun d => Function.update (V4 m d) main_v4 (outV m d)

theorem V2_of (d : Dev nD) (b : Ref sig .tc) (h0 : b ≠ main_v0) (h1 : b ≠ main_v1) : V2 m d b = m ((SparseCore.T d).loc b) := by
  unfold V2 W2
  rw [StableHlo.result_of_writes_ne (opShape (F := F)) _ main_v1 b rfl h1, StableHlo.result_of_writes_ne (opSlice (F := F)) _ main_v0 b rfl h0]
  rfl
theorem V3_of (d : Dev nD) (b : Ref sig .tc) (h0 : b ≠ main_v2_0) (h1 : b ≠ main_v2_1) : V3 m d b = V2 m d b := by
  unfold V3
  rw [Function.update_of_ne h1, Function.update_of_ne h0]
theorem V3_s (d : Dev nD) : V3 m d main_v2_0 = resS m d := by
  unfold V3
  rw [Function.update_of_ne (by decide), Function.update_self]
theorem V3_q (d : Dev nD) : V3 m d main_v2_1 = resQ m d := by
  unfold V3
  rw [Function.update_self]
theorem V4_of (d : Dev nD) (b : Ref sig .tc) (h0 : b ≠ main_v3_0) (h1 : b ≠ main_v3_1) : V4 m d b = V3 m d b := by
  unfold V4
  rw [Function.update_of_ne h1, Function.update_of_ne h0]
theorem V4_s (d : Dev nD) : V4 m d main_v3_0 = accS (V3 m) d 31 := by
  unfold V4
  rw [Function.update_of_ne (by decide), Function.update_self]
theorem V4_q (d : Dev nD) : V4 m d main_v3_1 = accQ (V3 m) d 31 := by
  unfold V4
  rw [Function.update_self]
theorem V5_of (d : Dev nD) (b : Ref sig .tc) (h : b ≠ main_v4) : V5 m d b = V4 m d b := by
  unfold V5
  rw [Function.update_of_ne h]
theorem V5_out (d : Dev nD) : V5 m d main_v4 = outV m d := by
  unfold V5
  rw [Function.update_self]

/-- The arrays, one by one. -/
theorem unscopedBufs_eq (d : Dev nD) (W : (b : Ref sig .tc) → Buf (Elt F) ((d : Thread nD τ).loc b)) :
    (unscopedBufs d W : sProp 𝕄)
      = iprop((xLoc d ↦{fullShare} W main_arg0) ∗ (iLoc d ↦{fullShare} W main_arg1) ∗ (sLoc d ↦{fullShare} W main_v2_0) ∗ (qLoc d ↦{fullShare} W main_v2_1)
          ∗ ((SparseCore.T d).loc main_v0 ↦{fullShare} W main_v0) ∗ ((SparseCore.T d).loc main_v1 ↦{fullShare} W main_v1)
          ∗ ((SparseCore.T d).loc main_v3_0 ↦{fullShare} W main_v3_0) ∗ ((SparseCore.T d).loc main_v3_1 ↦{fullShare} W main_v3_1)
          ∗ (SparseCore.T d).loc main_v4 ↦{fullShare} W main_v4) := by
  unfold unscopedBufs
  rw [show (Finset.univ.filter fun b : Ref sig .tc => ¬ b.isScoped)
      = {main_arg0, main_arg1, main_v2_0, main_v2_1, main_v0, main_v1, main_v3_0, main_v3_1, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## The call on the SparseCores -/

/-- What the main thread keeps during the call. -/
def kept (d : Dev nD) : sProp 𝕄 :=
  iprop((xLoc d ↦{Transfers.shareDrop fullShare 32} m (xLoc d)) ∗ (iLoc d ↦{Transfers.shareDrop fullShare 32} m (iLoc d))
    ∗ ((SparseCore.T d).loc main_v0 ↦{fullShare} V2 m d main_v0) ∗ ((SparseCore.T d).loc main_v1 ↦{fullShare} V2 m d main_v1)
    ∗ ((SparseCore.T d).loc main_v3_0 ↦{fullShare} V2 m d main_v3_0) ∗ ((SparseCore.T d).loc main_v3_1 ↦{fullShare} V2 m d main_v3_1)
    ∗ (SparseCore.T d).loc main_v4 ↦{fullShare} V2 m d main_v4)

theorem split_parts (d : Dev nD) :
    (unscopedBufs d (V2 m d) : sProp 𝕄) ⊢ iprop((bigSep Finset.univ fun w : Fin 32 => part m d (m (sLoc d)) (m (qLoc d)) w) ∗ kept m d) := by
  rw [unscopedBufs_eq, parts_eq, V2_of m d main_arg0 (by decide) (by decide), V2_of m d main_arg1 (by decide) (by decide),
    V2_of m d main_v2_0 (by decide) (by decide), V2_of m d main_v2_1 (by decide) (by decide)]
  unfold kept
  iintro ⟨Hx, Hi, Hs, Hq, Hr⟩
  ihave Hx := (Transfers.pointsTo_toks (ℓ := xLoc d) (S := Finset.univ) (f := m (xLoc d)) fullShare 32).1 $$ Hx
  ihave Hi := (Transfers.pointsTo_toks (ℓ := iLoc d) (S := Finset.univ) (f := m (iLoc d)) fullShare 32).1 $$ Hi
  icases Hx with ⟨Hx0, Hx⟩
  icases Hi with ⟨Hi0, Hi⟩
  isplitl [Hx Hi Hs Hq]
  · isplitl [Hx]; · iexact Hx
    isplitl [Hi]; · iexact Hi
    isplitl [Hs]; · iexact Hs
    iexact Hq
  isplitl [Hx0]; · iexact Hx0
  isplitl [Hi0]; · iexact Hi0
  iexact Hr

theorem join_parts (d : Dev nD) :
    iprop((bigSep Finset.univ fun w : Fin 32 => part m d (resS m d) (resQ m d) w) ∗ kept m d) ⊢ (unscopedBufs d (V3 m d) : sProp 𝕄) := by
  rw [unscopedBufs_eq, parts_eq, V3_s, V3_q, V3_of m d main_arg0 (by decide) (by decide), V3_of m d main_arg1 (by decide) (by decide),
    V2_of m d main_arg0 (by decide) (by decide), V2_of m d main_arg1 (by decide) (by decide), V3_of m d main_v0 (by decide) (by decide),
    V3_of m d main_v1 (by decide) (by decide), V3_of m d main_v3_0 (by decide) (by decide), V3_of m d main_v3_1 (by decide) (by decide),
    V3_of m d main_v4 (by decide) (by decide)]
  unfold kept
  iintro ⟨⟨Hx, Hi, Hs, Hq⟩, Hx0, Hi0, Hr⟩
  isplitl [Hx Hx0]
  · iapply (Transfers.pointsTo_toks (ℓ := xLoc d) (S := Finset.univ) (f := m (xLoc d)) fullShare 32).2
    isplitl [Hx0]; · iexact Hx0
    iexact Hx
  isplitl [Hi Hi0]
  · iapply (Transfers.pointsTo_toks (ℓ := iLoc d) (S := Finset.univ) (f := m (iLoc d)) fullShare 32).2
    isplitl [Hi0]; · iexact Hi0
    iexact Hi
  isplitl [Hs]; · iexact Hs
  isplitl [Hq]; · iexact Hq
  iexact Hr

theorem st_eq (d : Dev nD) : (bigSep Finset.univ fun c : Fin ((K (F := F)).nCore 0) => (P m).st 0 d c)
    = bigSep Finset.univ fun w : Fin 32 => part m d (m (sLoc d)) (m (qLoc d)) w := cores_parts fun w => part m d (m (sLoc d)) (m (qLoc d)) w
theorem dn_eq (d : Dev nD) : (bigSep Finset.univ fun c : Fin ((K (F := F)).nCore 0) => (P m).dn 0 d c)
    = bigSep Finset.univ fun w : Fin 32 => part m d (resS m d) (resQ m d) w := cores_parts fun w => part m d (resS m d) (resQ m d) w

/-! ## The ghost state at the launch -/

theorem phinj : Function.Injective (Pipeline.cellOf (nD := nD) (τ := τ) (Pipeline.pin (pcfgs (F := F)) adm)) := cellOf_inj

/-- What a device's pipelines are dealt. -/
def ghost (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

def u₀ : UU := ((initOf (K (F := F)).hsCells (K (F := F)).hsToks,
  initOf (Pipeline.cells (Pipeline.pin (pcfgs (F := F)) adm) (phinj (F := F))) (Pipeline.launchToks (Pipeline.pin (pcfgs (F := F)) adm) (phinj (F := F)))), 1)

theorem deal : (ownU (u₀ (F := F)) : sProp 𝕄)
    ⊢ iprop(BI.own (EH (initOf (K (F := F)).hsCells (K (F := F)).hsToks))
        ∗ BI.own (EP (initOf (Pipeline.cells (Pipeline.pin (pcfgs (F := F)) adm) (phinj (F := F))) (Pipeline.launchToks (Pipeline.pin (pcfgs (F := F)) adm) (phinj (F := F)))))) := by
  unfold u₀
  refine (ownU_pair _ _).trans (sep_elim_left.trans ?_)
  exact own_pair_emb (embL : Emb (UH × UPp) (MT nD τ sig (HIx 1) (Elt F) ℕ UU ℕ)) _ _

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  iintro Hu
  ihave H := (deal (F := F)) $$ Hu
  icases H with ⟨HH, HP⟩
  imod (Pipeline.fund_ghost (Pipeline.pin (pcfgs (F := F)) adm) EP (phinj (F := F))) $$ HP with ⟨Hg, Ht⟩
  imodintro
  isplitl [HH]; · iexact HH
  isplitl [Hg Ht]
  · unfold ghost
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-! ## The calls on the TensorCore -/

/-- A region's call, in the program's own table. -/
theorem wp_region [∀ e, Nonempty (Elt F e)] {V : Vals F} {p : Fin 2} (R : Pipeline.RegionSeg (pcfgs (F := F)) adm (pdats V) (none : HIx 1) defs₀ 𝒱₀ (K (F := F)).L (K (F := F)).lev p)
    (d : Dev nD) (Q : PUnit → sProp 𝕄) :
    iprop((iprop(boundary (SparseCore.T d) ∗ R.post d) -∗ Q ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  have h := Pipeline.RegionSeg.wp (pcfgs (F := F)) adm (pdats V) (none : HIx 1) (phinj (F := F)) EP defs₀ 𝒱₀ (K (F := F)).L (K (F := F)).lev R d none
    (fun u hu => by cases hu) (fun _ => .ret ⟨⟩) Q
  refine BIBase.Entails.trans ?_ h
  iintro ⟨Hk, Hb, Hp, Hl, Hg, Ht⟩
  isplitl [Hk]
  · iintro H
    rw [Idealize.SL.Sem.wp_ret]
    imodintro
    iapply Hk; iexact H
  isplitl [Hb]; · iexact Hb
  isplitl [Hp]; · iexact Hp
  isplitl [Hl]; · iexact Hl
  isplitl [Hg]; · iexact Hg
  iexact Ht

def seg1 : Pipeline.RegionSeg (pcfgs (F := F)) adm (pdats (V3 m)) (none : HIx 1) defs₀ 𝒱₀ (K (F := F)).L (K (F := F)).lev 0 :=
  reg1 (V3 m) (V4 m) (V4_s m) (V4_q m) (V4_of m)
def seg2 : Pipeline.RegionSeg (pcfgs (F := F)) adm (pdats (V4 m)) (none : HIx 1) defs₀ 𝒱₀ (K (F := F)).L (K (F := F)).lev 1 :=
  reg2 (V4 m) (V5 m) (fun d => by
    rw [V5_out, V4_s, V4_q, V4_of m d main_v2_0 (by decide) (by decide), V4_of m d main_v2_1 (by decide) (by decide), V3_s, V3_q]; rfl) (V5_of m)

/-! ## The whole of @main -/

/-- What is kept to the end: the arguments and the result. -/
abbrev FIN (d : Dev nD) : sProp 𝕄 :=
  iprop((xLoc d ↦{fullShare} m (xLoc d)) ∗ (iLoc d ↦{fullShare} m (iLoc d)) ∗ (SparseCore.T d).loc main_v4 ↦{fullShare} outV m d)

theorem fin_of (d : Dev nD) : (unscopedBufs d (V5 m d) : sProp 𝕄) ⊢ FIN m d := by
  rw [unscopedBufs_eq, V5_out, V5_of m d main_arg0 (by decide), V5_of m d main_arg1 (by decide), V4_of m d main_arg0 (by decide) (by decide),
    V4_of m d main_arg1 (by decide) (by decide), V3_of m d main_arg0 (by decide) (by decide), V3_of m d main_arg1 (by decide) (by decide),
    V2_of m d main_arg0 (by decide) (by decide), V2_of m d main_arg1 (by decide) (by decide)]
  iintro ⟨Hx, Hi, -, -, -, -, -, -, Ho⟩
  isplitl [Hx]; · iexact Hx
  isplitl [Hi]; · iexact Hi
  iexact Ho

theorem tcSt_one (d : Dev nD) : ∃ R : sProp 𝕄, (K (F := F)).tcSt EH d 1 = iprop(free F d ∗ R) := by
  unfold SparseCore.Cfg.tcSt
  rw [(K (F := F)).Otc_end d (le_refl 1)]
  exact ⟨_, rfl⟩

/-- A host operation at the head of the program. -/
theorem wp_host {d : Dev nD} {hp : (SparseCore.T d).2.kind.runsHlo = true} (op : HloOp τ sig (Elt F)) (hS : op.bufs ⊆ Pipeline.ucRefs τ sig) (hf : op.fresh = ∅) (V : Valuation τ sig (Elt F))
    (Q : PUnit → sProp 𝕄) :
    iprop(boundary (d : Thread nD τ) ∗ (StableHlo.held (d : Thread nD τ) (Pipeline.ucRefs τ sig) V : sProp 𝕄))
      ⊢ iprop(((boundary (d : Thread nD τ) ∗ (StableHlo.held (d : Thread nD τ) (Pipeline.ucRefs τ sig) (op.result V) : sProp 𝕄)) -∗ Q ⟨⟩)
        -∗ wp frame (wpE ((K (F := F)).defs (D (F := F))) 𝒱 (SparseCore.T d) none) Set.univ (hlo hp op fun _ => .ret ⟨⟩) Q) := by
  iintro H Hk
  iapply (StableHlo.wp_hlo_within 𝒱 (d : Thread nD τ) none Set.univ hS (hf := hf)) $$ H
  iintro H
  rw [Idealize.SL.Sem.wp_ret]; imodintro
  iapply Hk; iexact H

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd ghost
  rw [show (unscopedBufs d (fun b => m ((SparseCore.T d).loc b)) : sProp 𝕄) = StableHlo.held (d : Thread nD τ) (Pipeline.ucRefs τ sig) (W0 m d) from
    Pipeline.unscopedBufs_held d (W0 m d), bigSep_two, bigSep_two]
  simp only [main, wp_bind, wp_pure]
  iintro ⟨#Hctx, Hst, ⟨Hb, Hu, Hts, -⟩, ⟨Hg0, Hg1⟩, Ht0, Ht1⟩
  iapply (wp_host (opSlice (F := F)) opSlice_bufs rfl _ _) $$ [Hb Hu]
  · isplitl [Hb]; · iexact Hb
    iexact Hu
  iintro ⟨Hb, Hu⟩
  iapply (wp_host (opShape (F := F)) opShape_bufs rfl _ _) $$ [Hb Hu]
  · isplitl [Hb]; · iexact Hb
    iexact Hu
  iintro ⟨Hb, Hu⟩
  ihave Hu := (Entails.of_eq (show StableHlo.held (d : Thread nD τ) (Pipeline.ucRefs τ sig) ((opShape (F := F)).result ((opSlice (F := F)).result (W0 m d)))
    = (unscopedBufs d (V2 m d) : sProp 𝕄) from (Pipeline.unscopedBufs_held d (W2 m d)).symm)) $$ Hu
  ihave Hu := (split_parts m d) $$ Hu
  icases Hu with ⟨Hp, Hkept⟩
  iapply ((K (F := F)).wp_run (D (F := F)) 𝒱 (EH := EH) (P := P m) κ d 0) $$ [Hst Hp Hkept Hb Hts Hg0 Hg1 Ht0 Ht1]
  isplitr; · iexact Hctx
  isplitl [Hst]; · iexact Hst
  isplitl [Hp]; · rw [st_eq]; iexact Hp
  rw [dn_eq]
  iintro ⟨Hst, Hp⟩
  ihave Hu := (join_parts m d) $$ [Hp Hkept]
  · isplitl [Hp]; · iexact Hp
    iexact Hkept
  obtain ⟨R, hR⟩ := tcSt_one (F := F) d
  ihave Hst := (Entails.of_eq (show (K (F := F)).tcSt EH d ((0 : Fin 1).val + 1) = iprop(free F d ∗ R) from hR)) $$ Hst
  icases Hst with ⟨Hf, HR⟩
  ihave #Hlev := (SparseCore.Cfg.ctx_levAts κ) $$ Hctx
  iapply (wp_region (seg1 m) d)
  isplitr [Hb Hu Hf Hg0 Ht0]
  rotate_left
  · isplitl [Hb]; · iexact Hb
    isplitl [Hu Hf]
    · iapply (Entails.of_eq (show iprop(unscopedBufs d (V3 m d) ∗ free F d) = (seg1 m).pre d from rfl))
      isplitl [Hu]; · iexact Hu
      iexact Hf
    isplitr; · iexact Hlev
    isplitl [Hg0]; · iexact Hg0
    iexact Ht0
  iintro ⟨Hb, H⟩
  ihave H := (Entails.of_eq (show (seg1 m).post d = iprop(unscopedBufs d (V4 m d) ∗ free F d) from rfl)) $$ H
  icases H with ⟨Hu, Hf⟩
  iapply (wp_region (seg2 m) d)
  isplitr [Hb Hu Hf Hg1 Ht1]
  rotate_left
  · isplitl [Hb]; · iexact Hb
    isplitl [Hu Hf]
    · iapply (Entails.of_eq (show iprop(unscopedBufs d (V4 m d) ∗ free F d) = (seg2 m).pre d from rfl))
      isplitl [Hu]; · iexact Hu
      iexact Hf
    isplitr; · iexact Hlev
    isplitl [Hg1]; · iexact Hg1
    iexact Ht1
  iintro ⟨Hb, H⟩
  ihave H := (Entails.of_eq (show (seg2 m).post d = iprop(unscopedBufs d (V5 m d) ∗ free F d) from rfl)) $$ H
  icases H with ⟨Hu, Hf⟩
  imodintro
  isplitl [Hf HR]
  · iapply (Entails.of_eq hR.symm)
    isplitl [Hf]; · iexact Hf
    iexact HR
  isplitl [Hu]
  · iapply (fin_of m d); iexact Hu
  isplitl [Hb]; · iexact Hb
  iexact Hts

/-- What the memory shows at the end. -/
def fq (d : Dev nD) (s' : Phys nD τ sig (Elt F)) : Prop :=
  s'.mem.mem (xLoc d) = m (xLoc d) ∧ s'.mem.mem (iLoc d) = m (iLoc d) ∧ s'.mem.mem ((SparseCore.T d).loc main_v4) = outV m d

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := (SparseCore.T d).loc main_v4) (I := Finset.univ) (q := fullShare) (f := outV m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The end of a run. -/
def QC : PUnit × MemSt nD τ sig (Elt F) → Prop := fun r =>
  (∀ d : Dev nD, r.2.mem (xLoc d) = m (xLoc d) ∧ r.2.mem (iLoc d) = m (iLoc d) ∧ r.2.mem ((SparseCore.T d).loc main_v4) = outV m d) ∧ r.2.sem = fun _ => 0

/-- From a launch whose ids are below sixty-four, every weakly fair run ends with the arguments as they were, the result at `outV`, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.KernelIdeal.Tile

end
-- ==== Proof.Ideal.Frame.lean ====
/-
  The frame of the program: what the precondition says of the ids, and the run read at the arguments and at the
  semaphores.
-/
module

public import proofs.«01_k».proof.Proof.Ideal.Run
public import proofs.«01_k».proof.Defs
public import proofs.«01_k».proof.Proof.Gen.Pre_ids_in_range
public import Idealize.ShloMosaic.Lib.ReduceAll

@[expose] public section

noncomputable section

namespace Cert.KernelIdeal.Tile

open Idealize.ShloMosaic Idealize.SL.Sem

instance : Subsingleton (Cert.Pre_ids_in_range.S_).Idx := ⟨fun a b => funext fun d => d.elim0⟩

/-- A signed word that is at least zero and below sixty-four is below sixty-four as a natural number. -/
theorem toNat_of_range (v : BitVec 32) (h : IntOp.andi (IntOp.cmpi .sge v 0#32) (IntOp.cmpi .slt v 64#32) = 1#1) : v.toNat < 64 := by
  rw [IntOp.andi_eq_one, IntOp.cmpi_sge, IntOp.cmpi_slt] at h
  obtain ⟨h0, h1⟩ := h
  rw [show (0#32 : BitVec 32).toInt = 0 from by decide] at h0
  rw [show (64#32 : BitVec 32).toInt = 64 from by decide] at h1
  rw [BitVec.toInt_eq_toNat_cond] at h0 h1
  split at h0 <;> omega

/-- The precondition's text, read: every id is below sixty-four. -/
theorem ids_lt {F : FTy → Type} [FloatOps F] (x : FVec F Cert.Pre_ids_in_range.S50000x256 .f32) (v : IVec Cert.Pre_ids_in_range.S50000 32)
    (h : Cert.Pre_ids_in_range.fn (F := F) x v = fun _ => 1#1) (j : Cert.Pre_ids_in_range.S50000.Idx) : (v j).toNat < 64 := by
  have e := congrFun h (Shape.Idx.first Cert.Pre_ids_in_range.Facts.h_S_)
  simp only [Cert.Pre_ids_in_range.fn] at e
  exact toNat_of_range _ (Host.reduce_andi_all _ _ _ _ _ e j)

/-- The precondition on a launch, as the run wants it. -/
theorem ok_of_pre (m) (h : Cert.Pre_KernelIdeal m) : PreOK m := fun d j => ids_lt _ _ (h d) j

/-- The frame: the run ends with the arguments as they were and every semaphore at zero. -/
theorem frame : Cert.quiescent_KernelIdeal := fun m ρ hpre =>
  (θ_run Cert.KernelIdeal.defs _ _).mono (fun _ h => ⟨fun c => ⟨(h.1 c).1, (h.1 c).2.1⟩, h.2⟩) (run_main m ρ (ok_of_pre m hpre))

end Cert.KernelIdeal.Tile

end
-- ==== Proof.Ideal.OneHot.lean ====
/-
  A product of the first kernel with its one-hot matrix, over the extended reals: the sum of the block's rows whose id is
  the segment; and the two accumulators' steps.
-/
module

public import proofs.«01_k».proof.Proof.Ideal.TcBody
public import Idealize.ShloMosaic.Lib.MatmulPlain
public import Idealize.ShloMosaic.Lib.ValueLayout
public import Idealize.ShloMosaic.Lib.ValueIdx

@[expose] public section

noncomputable section

namespace Cert.KernelIdeal.Tile

open Idealize.ShloMosaic Idealize.ShloMosaic.ValueIdx Cert.KernelIdeal Cert.KernelIdeal.Gen
open scoped BigOperators

/-- The id of a row of the block. -/
theorem idRow {α : Type} (v : S1x1x1200.Idx → α) (a : Fin 64) (k : Fin 1200) :
    broadcastTo S64x1200 (shapeCast S1x1200 (shapeCast S1200 v shapeCasts_S1x1x1200_S1200) shapeCasts_S1200_S1x1200) broadcasts_S1x1200_S64x1200 (ix2 a k)
      = v (ix3 (0 : Fin 1) (0 : Fin 1) k) := by
  refine (broadcastTo_1b_ab_apply _ _ a k).trans ?_
  refine (shapeCast_a_1a_apply _ _ (0 : Fin 1) k).trans ?_
  refine shapeCast_apply v _ (ix1 k) (ix3 (0 : Fin 1) (0 : Fin 1) k) ?_
  rw [Shape.rowMajor_val_three, Shape.rowMajor_val_one]
  show (0 * 1 + 0) * 1200 + k.val = k.val
  omega

/-- A bit as an extended real. -/
theorem bit_real (p : Bool) : ((((BitVec.ofBool p).setWidth 32).toInt : ℝ) : EReal) = if p = true then 1 else 0 := by
  cases p
  · rw [show ((BitVec.ofBool false).setWidth 32).toInt = 0 from by decide]; simp
  · rw [show ((BitVec.ofBool true).setWidth 32).toInt = 1 from by decide]; simp

/-- A small number's word is a word exactly when the word reads the number. -/
theorem ofNat_beq (a : Fin 64) (v : BitVec 32) : ((BitVec.ofNat 32 a.val == v) = true) ↔ v.toNat = a.val := by
  have ha : (BitVec.ofNat 32 a.val).toNat = a.val := by
    rw [BitVec.toNat_ofNat]; have := a.isLt; omega
  rw [beq_iff_eq, ← BitVec.toNat_inj, ha]
  exact eq_comm

/-- The one-hot matrix: one where the row's id is the segment. -/
theorem onehot_ideal (v : Vec Ideal S1x1x1200 .i32) (a : Fin 64) (k : Fin 1200) :
    (onehot v (ix2 a k) : EReal) = if (v (ix3 (0 : Fin 1) (0 : Fin 1) k) : BitVec 32).toNat = a.val then 1 else 0 := by
  have e : (onehot v (ix2 a k) : EReal)
      = ((((BitVec.ofBool (BitVec.ofNat 32 a.val == (v (ix3 (0 : Fin 1) (0 : Fin 1) k) : BitVec 32))).setWidth 32).toInt : ℝ) : EReal) := by
    show ((((IntOp.cmpi .eq (iota .tc S64x1200 32 [0] iota_S64x1200_d0_w32 (ix2 a k))
      (broadcastTo S64x1200 (shapeCast S1x1200 (shapeCast S1200 v shapeCasts_S1x1x1200_S1200) shapeCasts_S1200_S1x1200) broadcasts_S1x1200_S64x1200 (ix2 a k))).setWidth 32).toInt : ℝ) : EReal) = _
    rw [idRow v a k, iota_single_apply]
    rfl
  rw [e, bit_real]
  simp only [ofNat_beq]

/-- A product with the one-hot matrix. -/
theorem mm_ideal (v : Vec Ideal S1x1x1200 .i32) (y : FVec Ideal S1200x256 .bf16) (a : Fin 64) (b : Fin 256) :
    (mm v y (ix2 a b) : EReal) = ∑ k : Fin 1200, if (v (ix3 (0 : Fin 1) (0 : Fin 1) k) : BitVec 32).toNat = a.val then (y (ix2 k b) : EReal) else 0 := by
  refine (Ideal.matmul_plain_apply (M := 64) (K := 1200) (N := 256) none (onehot v) y zeros a b).trans ?_
  rw [show (zeros (F := Ideal) (ix2 a b) : EReal) = 0 from Ideal.ofBits_zero_f32, zero_add]
  refine Finset.sum_congr rfl fun k _ => ?_
  rw [onehot_ideal]
  split
  · exact one_mul _
  · exact zero_mul _

/-- The accumulator of sums after a block: the rows with the segment's id, and what rounding leaves of them. -/
theorem stepS_ideal (v : Vec Ideal S1x1x1200 .i32) (x : Vec Ideal S1200x256 .f32) (s : Vec Ideal S64x256 .f32) (a : Fin 64) (b : Fin 256) :
    (stepS v x s (ix2 a b) : EReal) = s (ix2 a b)
      + ((∑ k : Fin 1200, if (v (ix3 (0 : Fin 1) (0 : Fin 1) k) : BitVec 32).toNat = a.val then (x (ix2 k b) : EReal) else 0)
        + ∑ k : Fin 1200, if (v (ix3 (0 : Fin 1) (0 : Fin 1) k) : BitVec 32).toNat = a.val then ((x (ix2 k b) : EReal) - (x (ix2 k b) : EReal)) else 0) := by
  show (s (ix2 a b) : EReal) + ((mm v (featHi x) (ix2 a b) : EReal) + (mm v (featLo x) (ix2 a b) : EReal)) = _
  rw [mm_ideal, mm_ideal]
  rfl

/-- The accumulator of sums of squares after a block. -/
theorem stepQ_ideal (v : Vec Ideal S1x1x1200 .i32) (x : Vec Ideal S1200x256 .f32) (s : Vec Ideal S64x256 .f32) (a : Fin 64) (b : Fin 256) :
    (stepQ v x s (ix2 a b) : EReal) = s (ix2 a b)
      + ∑ k : Fin 1200, if (v (ix3 (0 : Fin 1) (0 : Fin 1) k) : BitVec 32).toNat = a.val then ((x (ix2 k b) : EReal) * (x (ix2 k b) : EReal)) else 0 := by
  show (s (ix2 a b) : EReal) + (mm v (truncf .bf16 (mulf x x) bitsLt_bf16_f32) (ix2 a b) : EReal) = _
  rw [mm_ideal]
  rfl

end Cert.KernelIdeal.Tile

end
-- ==== Proof.Ideal.Sums.lean ====
/-
  What a tile's accumulators hold, over the extended reals: at a segment and a column, the sum of the tile's rows whose id
  is that segment. The ids being sorted, a block whose first and last ids agree has one id.
-/
module

public import proofs.«01_k».proof.Proof.Ideal.Launch
public import Idealize.ShloMosaic.PureOps.Ideal.Laws
public import Mathlib.Algebra.BigOperators.Intervals

@[expose] public section

noncomputable section

namespace Cert.KernelIdeal.Tile

open Idealize.ShloMosaic
open scoped BigOperators

/-- The sum, at column `b`, of the `n` rows from row `o` on whose id is `a`. -/
def seg (W : ℕ → BitVec 32) (X : Mat Ideal) (o n a b : ℕ) : EReal :=
  ∑ k ∈ Finset.range n, if (W (o + k)).toNat = a then X (o + k) b else 0

/-- Sums over consecutive rows are added. -/
theorem seg_add (W : ℕ → BitVec 32) (X : Mat Ideal) (o n p a b : ℕ) : seg W X o (n + p) a b = seg W X o n a b + seg W X (o + n) p a b := by
  unfold seg
  rw [Finset.sum_range_add]
  simp only [Nat.add_assoc]

/-- The program's zero. -/
theorem zeroF_ideal : (zeroF Ideal : EReal) = 0 := Ideal.ofBits_zero_f32

/-- A pure block's even and odd sums. -/
theorem pureQ_sums (X : Mat Ideal) (b n : ℕ) :
    ((pureQ X b n).1 : EReal) = ∑ k ∈ Finset.range n, X (2 * k) b ∧ ((pureQ X b n).2.2.1 : EReal) = ∑ k ∈ Finset.range n, X (2 * k + 1) b := by
  induction n with
  | zero => exact ⟨zeroF_ideal, zeroF_ideal⟩
  | succ n ih =>
    rw [Finset.sum_range_succ, Finset.sum_range_succ, ← ih.1, ← ih.2]
    exact ⟨rfl, rfl⟩

theorem sum_even_odd (f : ℕ → EReal) (n : ℕ) :
    (∑ k ∈ Finset.range n, f (2 * k)) + ∑ k ∈ Finset.range n, f (2 * k + 1) = ∑ k ∈ Finset.range (2 * n), f k := by
  induction n with
  | zero => simp
  | succ n ih =>
    rw [Finset.sum_range_succ, Finset.sum_range_succ, show 2 * (n + 1) = 2 * n + 1 + 1 from by omega, Finset.sum_range_succ, Finset.sum_range_succ, ← ih,
      add_add_add_comm, add_assoc, add_assoc, add_assoc]

/-- A pure block's sum is the sum of its rows. -/
theorem pureS_sum (X : Mat Ideal) (b : ℕ) : (pureS X b : EReal) = ∑ k ∈ Finset.range 80, X k b := by
  refine Eq.trans ?_ (sum_even_odd (fun k => X k b) 40)
  rw [← (pureQ_sums X b 40).1, ← (pureQ_sums X b 40).2]
  rfl

/-- The sums of squares of a pure block are the sums of the squared block. -/
theorem pureQ_sq {F : FTy → Type} [FloatOps F] (X : Mat F) (b n : ℕ) :
    (pureQ X b n).2.1 = (pureQ (sqm X) b n).1 ∧ (pureQ X b n).2.2.2 = (pureQ (sqm X) b n).2.2.1 := by
  induction n with
  | zero => exact ⟨rfl, rfl⟩
  | succ n ih =>
    constructor
    · show FloatOps.addf (pureQ X b n).2.1 _ = FloatOps.addf (pureQ (sqm X) b n).1 _
      rw [ih.1]; rfl
    · show FloatOps.addf (pureQ X b n).2.2.2 _ = FloatOps.addf (pureQ (sqm X) b n).2.2.1 _
      rw [ih.2]; rfl

theorem pureSq_eq {F : FTy → Type} [FloatOps F] (X : Mat F) : pureSq X = pureS (sqm X) := by
  funext b
  unfold pureSq pureS
  rw [(pureQ_sq X b 40).1, (pureQ_sq X b 40).2]

/-- A tile's sums of squares are the sums of the squared features. -/
theorem tileQ_eq {F : FTy → Type} [FloatOps F] (X : Mat F) (o : ℕ) (W : ℕ → BitVec 32) (n : ℕ) : tileQ X o W n = tileS (sqm X) o W n := by
  induction n with
  | zero => rfl
  | succ n ih =>
    show blockAcc (tileQ X o W n) _ (sqm (rowsFrom X o n)) (pureSq (rowsFrom X o n)) = blockAcc (tileS (sqm X) o W n) _ (rowsFrom (sqm X) o n) (pureS (rowsFrom (sqm X) o n))
    rw [ih, pureSq_eq]
    rfl

/-- A row added to its segment. -/
theorem addTo_ideal (A : Mat Ideal) (r : ℕ) (x : ℕ → EReal) (a b : ℕ) (hb : b < 256) :
    (addTo A r x 256 a b : EReal) = A a b + if r = a then x b else 0 := by
  unfold addTo
  by_cases h : a = r
  · rw [if_pos ⟨h, hb⟩, if_pos h.symm]; rfl
  · rw [if_neg fun q => h q.1, if_neg fun q => h q.symm, add_zero]

/-- A mixed block's rows, each added to its segment. -/
theorem rowsAdd_ideal (A : Mat Ideal) (W : ℕ → BitVec 32) (X : Mat Ideal) (a b : ℕ) (hb : b < 256) (n : ℕ) :
    (rowsAdd A W X n a b : EReal) = A a b + ∑ k ∈ Finset.range n, if (W k).toNat = a then X k b else 0 := by
  induction n with
  | zero => exact (add_zero _).symm
  | succ n ih =>
    rw [Finset.sum_range_succ, ← add_assoc, ← ih]
    exact addTo_ideal (rowsAdd A W X n) (W n).toNat (X n) a b hb

/-- The ids do not decrease. -/
def Sorted (W : ℕ → BitVec 32) (n : ℕ) : Prop := ∀ i j, i ≤ j → j < n → (W i).toNat ≤ (W j).toNat

/-- A block, pure or mixed, adds to each segment the rows that have its id. -/
theorem blockAcc_ideal (A : Mat Ideal) (W : ℕ → BitVec 32) (X : Mat Ideal) (hW : Sorted W 80) (a b : ℕ) (hb : b < 256) :
    (blockAcc A W X (pureS X) a b : EReal) = A a b + ∑ k ∈ Finset.range 80, if (W k).toNat = a then X k b else 0 := by
  unfold blockAcc
  split
  · next h =>
    rw [addTo_ideal _ _ _ _ _ hb]
    have hk : ∀ k ∈ Finset.range 80, (W k).toNat = (W 0).toNat := fun k hk => by
      have h1 := hW 0 k (Nat.zero_le _) (Finset.mem_range.1 hk)
      have h2 := hW k 79 (by have := Finset.mem_range.1 hk; omega) (by omega)
      rw [← h] at h2
      omega
    rw [Finset.sum_congr rfl fun k q => by rw [hk k q]]
    by_cases e : (W 0).toNat = a
    · simp only [if_pos e]; rw [← pureS_sum]
    · simp only [if_neg e]; rw [Finset.sum_const_zero]
  · exact rowsAdd_ideal A W X a b hb 80

/-- A tile's accumulator after `n` blocks. -/
theorem tileS_ideal (X : Mat Ideal) (W : ℕ → BitVec 32) (o : ℕ) (hW : Sorted W (o + 400)) (a b : ℕ) (hb : b < 256) (n : ℕ) (hn : n ≤ 5) :
    (tileS X o (fun k => W (o + k)) n a b : EReal) = seg W X o (80 * n) a b := by
  induction n with
  | zero => exact zeroF_ideal
  | succ n ih =>
    rw [show 80 * (n + 1) = 80 * n + 80 from by omega, seg_add, ← ih (by omega)]
    refine (blockAcc_ideal _ _ _ ?_ a b hb).trans ?_
    · intro i j hij hj
      exact hW _ _ (by omega) (by omega)
    · unfold seg
      simp only [Nat.add_assoc]
      rfl

/-- The tiles' two results. -/
theorem tilesS_ideal (X : Mat Ideal) (W : ℕ → BitVec 32) (hW : Sorted W 50000) (w : Fin 32) (a : Fin 64) (b : Fin 256) :
    (tilesS X W (ValueIdx.ix3 w a b) : EReal) = seg W X (wbase w) 400 a b :=
  tileS_ideal X W (wbase w) (fun i j hij hj => hW i j hij (by have := w.isLt; unfold wbase at hj; omega)) a b b.isLt 5 (le_refl _)
theorem tilesQ_ideal (X : Mat Ideal) (W : ℕ → BitVec 32) (hW : Sorted W 50000) (w : Fin 32) (a : Fin 64) (b : Fin 256) :
    (tilesQ X W (ValueIdx.ix3 w a b) : EReal) = seg W (sqm X) (wbase w) 400 a b :=
  (congrFun (congrFun (tileQ_eq X (wbase w) _ 5) a) b).trans (tilesS_ideal (sqm X) W hW w a b)

/-- The rows of the tiles, one tile after another. -/
theorem tiles_sum (W : ℕ → BitVec 32) (X : Mat Ideal) (a b n : ℕ) :
    ∑ w ∈ Finset.range n, seg W X (wbase w) 400 a b = seg W X 37200 (400 * n) a b := by
  induction n with
  | zero => rfl
  | succ n ih =>
    rw [Finset.sum_range_succ, ih, show 400 * (n + 1) = 400 * n + 400 from by omega, seg_add, show 37200 + 400 * n = wbase n from by unfold wbase; omega]

/-! ## What rounding leaves -/

/-- What the first kernel's split of a feature leaves of it: the difference of the feature with itself. -/
def rest (X : Mat Ideal) : Mat Ideal := fun a b => ((X a b : EReal) - (X a b : EReal) : EReal)

/-- An extended real is infinite. -/
def Inf (x : EReal) : Prop := x = ⊤ ∨ x = ⊥

theorem Inf.add {x : EReal} (h : Inf x) (y : EReal) : Inf (x + y) := by
  rcases h with rfl | rfl
  · by_cases hy : y = ⊥
    · exact .inr (by rw [hy, EReal.add_bot])
    · exact .inl (EReal.top_add_of_ne_bot hy)
  · exact .inr (EReal.bot_add y)

theorem Inf.sq {x : EReal} (h : Inf x) : x * x = ⊤ := by
  rcases h with rfl | rfl <;> rfl

theorem Inf.sub {x : EReal} (h : Inf x) : x - x = ⊥ := by
  rcases h with rfl | rfl <;> rfl

theorem sub_self_of_not_inf {x : EReal} (h : ¬ Inf x) : x - x = 0 :=
  EReal.sub_self (fun e => h (.inl e)) (fun e => h (.inr e))

theorem Inf.seg {W : ℕ → BitVec 32} {X : Mat Ideal} {o n a b k : ℕ} (hk : k < n) (ha : (W (o + k)).toNat = a) (h : Inf (X (o + k) b)) : Inf (seg W X o n a b) := by
  unfold Tile.seg
  rw [← Finset.add_sum_erase _ _ (Finset.mem_range.2 hk), if_pos ha]
  exact h.add _

/-- The rest does not change the square of a segment's sum: it is zero, or the sum is infinite without it and with it. -/
theorem sq_with_rest (W : ℕ → BitVec 32) (X : Mat Ideal) (n p a b : ℕ) (y : EReal) (hy : y = seg W X 0 (n + p) a b) :
    (y + seg W (rest X) 0 n a b) * (y + seg W (rest X) 0 n a b) = y * y := by
  by_cases h : ∃ k, k < n ∧ (W (0 + k)).toNat = a ∧ Inf (X (0 + k) b)
  · obtain ⟨k, hk, ha, hx⟩ := h
    have h1 : Inf (seg W (rest X) 0 n a b) := Inf.seg (X := rest X) hk ha (.inr hx.sub)
    have h2 : Inf y := hy ▸ Inf.seg (X := X) (by omega) ha hx
    rw [(h2.add _).sq, h2.sq]
  · have : seg W (rest X) 0 n a b = 0 := by
      unfold Tile.seg
      refine Finset.sum_eq_zero fun k hk => ?_
      split
      · next ha => exact sub_self_of_not_inf fun q => h ⟨k, Finset.mem_range.1 hk, ha, q⟩
      · rfl
    rw [this, add_zero]

end Cert.KernelIdeal.Tile

end
-- ==== Proof.Ideal.Blocks.lean ====
/-
  The first kernel's accumulators over the extended reals: its blocks are the ids and the features of twelve hundred rows
  each, and after the last block each segment has the sum of its rows among the first 37200.
-/
module

public import proofs.«01_k».proof.Proof.Ideal.OneHot
public import proofs.«01_k».proof.Proof.Ideal.Sums
public import proofs.«01_k».proof.Proof.Ideal.Run

@[expose] public section

noncomputable section

namespace Cert.KernelIdeal.Tile

open Idealize.ShloMosaic Idealize.ShloMosaic.TcCoe Idealize.ShloMosaic.ValueIdx Cert.KernelIdeal Cert.KernelIdeal.Gen
open scoped BigOperators

variable {F : FTy → Type} [FloatOps F]
variable (m : (ℓ : Loc nD τ sig) → Buf (Elt F) ℓ)

/-! ## The blocks -/

theorem index1_0 : ∀ t : Fin grid1.N, win1_0.index t 0 = t.val ∧ win1_0.index t 1 = 0 ∧ win1_0.index t 2 = 0 := by decide +kernel
theorem index1_1 : ∀ t : Fin grid1.N, win1_1.index t 0 = t.val ∧ win1_1.index t 1 = 0 := by decide +kernel

/-- The ids, as the host arranges them for the first kernel. -/
theorem V2_ids (d : Dev nD) : (V2 m d main_v1 : S31x1x1200.Idx → BitVec 32)
    = shapeCast S31x1x1200 (extractStridedSlice S37200 ![0] (m (iLoc d)) slices_S50000_S37200_0) shapeCasts_S37200_S31x1x1200 := by
  unfold V2 W2
  refine (StableHlo.reshape_result' (x := main_v0) (y := main_v1) rfl shapeCasts_S37200_S31x1x1200 _ _ _).trans ?_
  show shapeCast S31x1x1200 ((opSlice (F := F)).result (W0 m d) (Proc.devRef .tc main_v0)) shapeCasts_S37200_S31x1x1200 = _
  rw [show (opSlice (F := F)).result (W0 m d) (Proc.devRef .tc main_v0)
      = extractStridedSlice S37200 ![0] (W0 m d (Proc.devRef .tc main_arg1)) slices_S50000_S37200_0 from StableHlo.unary_result' _ _ _ _]
  rfl

theorem V2_ids_apply (d : Dev nD) (t : Fin 31) (k : Fin 1200) :
    (V2 m d main_v1 : S31x1x1200.Idx → BitVec 32) (ix3 t (0 : Fin 1) k) = wordsOf (m (iLoc d)) (1200 * t.val + k.val) := by
  have hr : 1200 * t.val + k.val < 37200 := by have := t.isLt; have := k.isLt; omega
  rw [V2_ids]
  refine (shapeCast_apply _ _ (ix3 t (0 : Fin 1) k) (ix1 (⟨1200 * t.val + k.val, hr⟩ : Fin 37200)) ?_).trans ?_
  · rw [Shape.rowMajor_val_three, Shape.rowMajor_val_one]
    show 1200 * t.val + k.val = (t.val * 1 + 0) * 1200 + k.val
    omega
  · refine (extractStridedSlice_apply _ _ _ _ (ix1 (⟨1200 * t.val + k.val, by omega⟩ : Fin 50000)) fun a => ?_).trans ?_
    · match a with
      | ⟨0, _⟩ => show 1200 * t.val + k.val = 0 + (1200 * t.val + k.val); omega
    · unfold wordsOf
      rw [dif_pos (show 1200 * t.val + k.val < 50000 by omega)]

/-- A block's ids are the ids of its rows. -/
theorem idBlk_apply (d : Dev nD) (t : Fin cfg1.N) (k : Fin 1200) :
    (idBlk (V3 m) d t (ix3 (0 : Fin 1) (0 : Fin 1) k) : BitVec 32) = wordsOf (m (iLoc d)) (1200 * t.val + k.val) := by
  refine Eq.trans ?_ (V2_ids_apply m d (t.cast N_1) k)
  unfold idBlk
  rw [View.read_apply]
  refine Eq.trans ?_ (congrFun (V3_of m d main_v1 (by decide) (by decide)) (ix3 (t.cast N_1) (0 : Fin 1) k))
  show V3 m d main_v1 _ = V3 m d main_v1 _
  congr 1
  obtain ⟨h0, h1, h2⟩ := index1_0 t
  funext a
  apply Fin.ext
  match a with
  | ⟨0, _⟩ => show win1_0.index t 0 * 1 + 1 * 0 = t.val; rw [h0]; omega
  | ⟨1, _⟩ => show win1_0.index t 1 * 1 + 1 * 0 = 0; rw [h1]
  | ⟨2, _⟩ => show win1_0.index t 2 * 1200 + 1 * k.val = k.val; rw [h2]; omega

/-- A block's features are the features of its rows. -/
theorem ftBlk_apply (d : Dev nD) (t : Fin cfg1.N) (k : Fin 1200) (b : Fin 256) :
    ftBlk (V3 m) d t (ix2 k b) = matOf (m (xLoc d)) (1200 * t.val + k.val) b.val := by
  have ht : t.val < 31 := (t.cast N_1).isLt
  have hr : 1200 * t.val + k.val < 50000 := by have := k.isLt; omega
  have hm : (cfg1.win 1).moved (cfg1.grid.coords t) (ix2 k b) = true :=
    ((cfg1.win 1).moved_iff _ _).mpr fun a => by
      have := ((ix2 k b : S1200x256.Idx) a).isLt
      unfold Pipeline.Window.xsize; rw [clip1_1 _ a]; exact this
  unfold ftBlk Pipeline.Window.fill
  rw [dif_pos hm, View.read_apply]
  unfold matOf
  rw [dif_pos ⟨hr, b.isLt⟩]
  refine Eq.trans ?_ (congrFun ((V3_of m d main_arg0 (by decide) (by decide)).trans (V2_of m d main_arg0 (by decide) (by decide)))
    (ix2 (⟨1200 * t.val + k.val, hr⟩ : Fin 50000) b))
  show V3 m d main_arg0 _ = V3 m d main_arg0 _
  congr 1
  obtain ⟨h0, h1⟩ := index1_1 t
  funext a
  apply Fin.ext
  match a with
  | ⟨0, _⟩ => show win1_1.index t 0 * 1200 + 1 * k.val = 1200 * t.val + k.val; rw [h0]; omega
  | ⟨1, _⟩ => show win1_1.index t 1 * 256 + 1 * b.val = b.val; rw [h1]; omega

end Cert.KernelIdeal.Tile

namespace Cert.KernelIdeal.Tile

open Idealize.ShloMosaic Idealize.ShloMosaic.TcCoe Idealize.ShloMosaic.ValueIdx Cert.KernelIdeal Cert.KernelIdeal.Gen
open scoped BigOperators

variable (m : (ℓ : Loc nD τ sig) → Buf (Elt Ideal) ℓ)

/-! ## The accumulators -/

/-- A block's sum is the sum over its rows. -/
theorem block_seg (d : Dev nD) (t : Fin cfg1.N) (X : Mat Ideal) (f : Fin 1200 → EReal) (a : Fin 64) (b : ℕ)
    (hf : ∀ k : Fin 1200, f k = X (1200 * t.val + k.val) b) :
    (∑ k : Fin 1200, if (idBlk (V3 m) d t (ix3 (0 : Fin 1) (0 : Fin 1) k) : BitVec 32).toNat = a.val then f k else 0)
      = seg (wordsOf (m (iLoc d))) X (1200 * t.val) 1200 a.val b := by
  unfold seg
  rw [Finset.sum_range]
  refine Finset.sum_congr rfl fun k _ => ?_
  rw [idBlk_apply, hf]

/-- After `n` blocks the first accumulator has the sums of their rows, and what rounding leaves. -/
theorem accS_ideal (d : Dev nD) (a : Fin 64) (b : Fin 256) (n : ℕ) (hn : n ≤ 31) :
    (accS (V3 m) d n (ix2 a b) : EReal)
      = seg (wordsOf (m (iLoc d))) (matOf (m (xLoc d))) 0 (1200 * n) a b + seg (wordsOf (m (iLoc d))) (rest (matOf (m (xLoc d)))) 0 (1200 * n) a b := by
  induction n with
  | zero =>
    refine (show (accS (V3 m) d 0 (ix2 a b) : EReal) = 0 from Ideal.ofBits_zero_f32).trans ?_
    exact (add_zero (0 : EReal)).symm
  | succ n ih =>
    have h : n < cfg1.N := by rw [show cfg1.N = 31 from N_1]; omega
    rw [show accS (V3 m) d (n + 1) = stepS (idBlk (V3 m) d ⟨n, h⟩) (ftBlk (V3 m) d ⟨n, h⟩) (accS (V3 m) d n) from dif_pos h]
    rw [stepS_ideal, ih (by omega), show 1200 * (n + 1) = 1200 * n + 1200 from by omega, seg_add, seg_add,
      block_seg m d ⟨n, h⟩ (matOf (m (xLoc d))) _ a b fun k => ftBlk_apply m d ⟨n, h⟩ k b,
      block_seg m d ⟨n, h⟩ (rest (matOf (m (xLoc d)))) _ a b fun k => by
        rw [ftBlk_apply m d ⟨n, h⟩ k b]; rfl,
      Nat.zero_add]
    exact add_add_add_comm _ _ _ _

/-- And the second the sums of their squares. -/
theorem accQ_ideal (d : Dev nD) (a : Fin 64) (b : Fin 256) (n : ℕ) (hn : n ≤ 31) :
    (accQ (V3 m) d n (ix2 a b) : EReal) = seg (wordsOf (m (iLoc d))) (sqm (matOf (m (xLoc d)))) 0 (1200 * n) a b := by
  induction n with
  | zero => exact Ideal.ofBits_zero_f32
  | succ n ih =>
    have h : n < cfg1.N := by rw [show cfg1.N = 31 from N_1]; omega
    rw [show accQ (V3 m) d (n + 1) = stepQ (idBlk (V3 m) d ⟨n, h⟩) (ftBlk (V3 m) d ⟨n, h⟩) (accQ (V3 m) d n) from dif_pos h]
    rw [stepQ_ideal, ih (by omega), show 1200 * (n + 1) = 1200 * n + 1200 from by omega, seg_add,
      block_seg m d ⟨n, h⟩ (sqm (matOf (m (xLoc d)))) _ a b fun k => by
        rw [ftBlk_apply m d ⟨n, h⟩ k b]; rfl,
      Nat.zero_add]

end Cert.KernelIdeal.Tile

end
-- ==== Proof.Ideal.Final.lean ====
/-
  The program's result over the extended reals: an element is the root of what the sum of squares leaves over the squared
  sum, both over all the rows of its segment.
-/
module

public import proofs.«01_k».proof.Proof.Ideal.Blocks

@[expose] public section

noncomputable section

namespace Cert.KernelIdeal.Tile

open Idealize.ShloMosaic Idealize.ShloMosaic.TcCoe Idealize.ShloMosaic.ValueIdx Cert.KernelIdeal Cert.KernelIdeal.Gen
open scoped BigOperators

variable (m : (ℓ : Loc nD τ sig) → Buf (Elt Ideal) ℓ)

/-- The result at one element, from the sum of squares and the sum. -/
def fin1 (q s : EReal) : EReal :=
  Ideal.sqrt (max (q - s * s) (Ideal.ofBits .f32 0x00000000#32) + Ideal.ofBits .f32 0x3727C5AC#32)

/-- An array of the tiles, added over them. -/
def overTiles (R : Vec Ideal S32x64x256 .f32) : FVec Ideal S64x256 .f32 :=
  multiReduction .add [0] S64x256 R 0x00000000#32 reduces_S32x64x256_S64x256 (.inl rfl) rfl

/-- The tiles' sums, added over the tiles. -/
theorem sum_tiles (R : Vec Ideal S32x64x256 .f32) (W : ℕ → BitVec 32) (X : Mat Ideal) (a : Fin 64) (b : Fin 256)
    (hR : ∀ w : Fin 32, (R (ix3 w a b) : EReal) = seg W X (wbase w) 400 a b) :
    (overTiles R (ix2 a b) : EReal) = seg W X 37200 12800 a b := by
  refine (Ideal.multiReduction_add_single R 0x00000000#32 reduces_S32x64x256_S64x256 (.inl rfl) rfl (ix2 a b)).trans ?_
  refine Eq.trans ?_ (tiles_sum W X a b 32)
  rw [Finset.sum_range]
  refine Finset.sum_congr rfl fun w _ => ?_
  refine Eq.trans (congrArg R ?_) (hR w)
  funext z
  match z with
  | ⟨0, _⟩ => rfl
  | ⟨1, _⟩ => rfl
  | ⟨2, _⟩ => rfl

/-- The result at one element, by the sums over all the rows. -/
theorem outV_ideal (d : Dev nD) (hW : Sorted (wordsOf (m (iLoc d))) 50000) (a : Fin 64) (b : Fin 256) :
    (outV m d (ix2 a b) : EReal) = fin1 (seg (wordsOf (m (iLoc d))) (sqm (matOf (m (xLoc d)))) 0 50000 a b)
      (seg (wordsOf (m (iLoc d))) (matOf (m (xLoc d))) 0 50000 a b) := by
  have hS := sum_tiles (resS m d) (wordsOf (m (iLoc d))) (matOf (m (xLoc d))) a b fun w => tilesS_ideal _ _ hW w a b
  have hQ := sum_tiles (resQ m d) (wordsOf (m (iLoc d))) (sqm (matOf (m (xLoc d)))) a b fun w => tilesQ_ideal _ _ hW w a b
  have aS := accS_ideal m d a b 31 (le_refl _)
  have aQ := accQ_ideal m d a b 31 (le_refl _)
  have e := fun X : Mat Ideal => seg_add (wordsOf (m (iLoc d))) X 0 37200 12800 a b
  have hw := sq_with_rest (wordsOf (m (iLoc d))) (matOf (m (xLoc d))) 37200 12800 a b _ rfl
  have s1 : ((accS (V3 m) d 31 (ix2 a b) : EReal) + (overTiles (resS m d) (ix2 a b) : EReal) : EReal)
      = seg (wordsOf (m (iLoc d))) (matOf (m (xLoc d))) 0 (37200 + 12800) a b + seg (wordsOf (m (iLoc d))) (rest (matOf (m (xLoc d)))) 0 37200 a b := by
    rw [hS, aS, e]
    exact add_right_comm _ _ _
  have q1 : ((accQ (V3 m) d 31 (ix2 a b) : EReal) + (overTiles (resQ m d) (ix2 a b) : EReal) : EReal)
      = seg (wordsOf (m (iLoc d))) (sqm (matOf (m (xLoc d)))) 0 (37200 + 12800) a b := by
    rw [hQ, aQ, e]
  refine (show (outV m d (ix2 a b) : EReal)
    = Ideal.sqrt (max (((accQ (V3 m) d 31 (ix2 a b) : EReal) + (overTiles (resQ m d) (ix2 a b) : EReal) : EReal)
      - ((accS (V3 m) d 31 (ix2 a b) : EReal) + (overTiles (resS m d) (ix2 a b) : EReal) : EReal)
      * ((accS (V3 m) d 31 (ix2 a b) : EReal) + (overTiles (resS m d) (ix2 a b) : EReal) : EReal))
      (Ideal.ofBits .f32 0x00000000#32) + Ideal.ofBits .f32 0x3727C5AC#32) from rfl).trans ?_
  rw [s1, q1, hw]
  rfl

end Cert.KernelIdeal.Tile

end
-- ==== Proof.Ideal.RefValue.lean ====
/-
  The reference over the extended reals: its accumulating scatter adds to each segment the rows whose id names it.
-/
module

public import proofs.«01_k».proof.Proof.Ideal.Final
public import proofs.«01_k».proof.Proof.Gen.ReferenceIdeal.Run
public import Idealize.ShloMosaic.Lib.Routing.OpsPair
public import Idealize.ShloMosaic.Lib.IdealHost

@[expose] public section

noncomputable section

namespace Cert.ReferenceIdeal.Sums

open Idealize.ShloMosaic Idealize.ShloMosaic.ValueIdx Cert.ReferenceIdeal Cert.ReferenceIdeal.Gen
open Cert.KernelIdeal.Tile (Mat seg matOf wordsOf sqm fin1)
open scoped BigOperators

/-- The scatter's dimension numbers: row `k` of the updates goes to the row that word `k` names. -/
abbrev dims : ScatterDims S64x256 S50000x1 S50000x256 := scatter_S64x256_S50000x1_S50000x256_1_0_0_1

theorem window_0 (k : Fin 50000) (b : Fin 256) : dims.window (ix2 k b) 0 = 0 := by
  unfold ScatterDims.window
  exact dif_neg (by decide)
theorem window_1 (k : Fin 50000) (b : Fin 256) : dims.window (ix2 k b) 1 = b.val := by
  unfold ScatterDims.window
  rw [dif_pos (show (1 : Fin 2) ∈ dims.sKept by decide)]
  rfl
theorem start_1 (k : Fin 50000) (b : Fin 256) (idx : IVec S50000x1 32) : dims.start (ix2 k b) idx 1 = 0 := by
  unfold ScatterDims.start
  exact dif_neg (by decide)
theorem start_0 (k : Fin 50000) (b : Fin 256) (idx : IVec S50000x1 32) : dims.start (ix2 k b) idx 0 = (idx (ix2 k (0 : Fin 1))).toInt := by
  have hm : (0 : Fin 2) ∈ dims.scatterDimsToOperandDims := by decide
  unfold ScatterDims.start
  rw [dif_pos hm]
  have hs : dims.siIdx (ix2 k b) ⟨dims.scatterDimsToOperandDims.idxOf 0, List.idxOf_lt_length_iff.2 hm⟩ = ix2 k (0 : Fin 1) := by
    funext z
    match z with
    | ⟨0, _⟩ => rfl
    | ⟨1, _⟩ => rfl
  rw [hs]

/-- Where an update lands. -/
theorem lands (idx : IVec S50000x1 32) (k : Fin 50000) (b' : Fin 256) (a : Fin 64) (b : Fin 256) :
    dims.resultIdx? (ix2 k b') idx = some (ix2 a b) ↔ (idx (ix2 k (0 : Fin 1))).toInt = (a.val : Int) ∧ b' = b := by
  refine (Routing.resultIdx?_ix2 dims (ix2 k b') idx a b).trans ?_
  rw [start_0, start_1, window_0, window_1, Fin.ext_iff]
  omega

/-- A word is a segment's number read signed exactly when it is that number read unsigned. -/
theorem toInt_eq_iff (v : BitVec 32) (a : Fin 64) : v.toInt = (a.val : Int) ↔ v.toNat = a.val := by
  have ha := a.isLt
  have hv := v.isLt
  rw [BitVec.toInt_eq_toNat_cond]
  split <;> omega

/-- The accumulating scatter from zeros is the sum over each segment's rows. -/
theorem scatter_seg (X : FVec Ideal S50000x256 .f32) (v : IVec S50000 32) (Y : Mat Ideal)
    (hY : ∀ (k : Fin 50000) (b : Fin 256), X (ix2 k b) = Y k.val b.val) (a : Fin 64) (b : Fin 256) :
    (Host.scatterAdd scatter_S64x256_S50000x1_S50000x256_1_0_0_1 (broadcastInDim S64x256 ![] bcast_S_S64x256 (constant (F := Ideal) S_ .f32 0x00000000#32))
      (broadcastInDim S50000x1 ![0] bcast_S50000_S50000x1_0 v) X (ix2 a b) : EReal) = seg (wordsOf v) Y 0 50000 a b := by
  have hi : ∀ k : Fin 50000, broadcastInDim S50000x1 ![0] bcast_S50000_S50000x1_0 v (ix2 k (0 : Fin 1)) = v (ix1 k) := fun k =>
    broadcastInDim_apply _ _ _ _ (ix1 k) fun z => by
      match z with
      | ⟨0, _⟩ => rfl
  refine (show _ = (Ideal.ofBits .f32 0x00000000#32 : EReal)
      + ∑ j ∈ Finset.univ.filter (fun j => dims.resultIdx? j (broadcastInDim S50000x1 ![0] bcast_S50000_S50000x1_0 v) = some (ix2 a b)), X j from rfl).trans ?_
  rw [Ideal.ofBits_zero_f32, zero_add, Finset.sum_filter, sum_idx2]
  unfold seg
  rw [Finset.sum_range]
  refine Finset.sum_congr rfl fun k _ => ?_
  have hk : wordsOf v (0 + k.val) = v (ix1 k) := by
    unfold wordsOf
    rw [dif_pos (show 0 + k.val < 50000 by have := k.isLt; omega)]
    exact congrArg (fun z : Fin 50000 => v (ix1 z)) (Fin.ext (Nat.zero_add _))
  rw [hk, Nat.zero_add, ← hY]
  rw [Finset.sum_eq_single b]
  · refine if_congr ?_ rfl rfl
    rw [lands, hi, toInt_eq_iff]
    exact and_iff_left rfl
  · intro b' _ hb
    rw [if_neg]
    rw [lands]
    exact fun h => hb h.2
  · exact fun h => absurd (Finset.mem_univ b) h

/-- What the reference does with the two sums, at one element. -/
theorem post_apply (Q S : FVec Ideal S64x256 .f32) (a : Fin 64) (b : Fin 256) :
    (Host.sqrt (addf (maximumf (subf Q (mulf S S)) (broadcastInDim S64x256 ![] bcast_S_S64x256 (constant (F := Ideal) S_ .f32 0x00000000#32)))
      (broadcastInDim S64x256 ![] bcast_S_S64x256 (constant (F := Ideal) S_ .f32 0x3727C5AC#32))) (ix2 a b) : EReal)
    = fin1 (Q (ix2 a b)) (S (ix2 a b)) := rfl

/-- The reference's result at one element. -/
theorem value_apply (X : FVec Ideal S50000x256 .f32) (v : IVec S50000 32) (a : Fin 64) (b : Fin 256) :
    (Host.sqrt (addf (maximumf (subf
      (Host.scatterAdd scatter_S64x256_S50000x1_S50000x256_1_0_0_1 (broadcastInDim S64x256 ![] bcast_S_S64x256 (constant (F := Ideal) S_ .f32 0x00000000#32))
        (broadcastInDim S50000x1 ![0] bcast_S50000_S50000x1_0 v) (mulf X X))
      (mulf
        (Host.scatterAdd scatter_S64x256_S50000x1_S50000x256_1_0_0_1 (broadcastInDim S64x256 ![] bcast_S_S64x256 (constant (F := Ideal) S_ .f32 0x00000000#32))
          (broadcastInDim S50000x1 ![0] bcast_S50000_S50000x1_0 v) X)
        (Host.scatterAdd scatter_S64x256_S50000x1_S50000x256_1_0_0_1 (broadcastInDim S64x256 ![] bcast_S_S64x256 (constant (F := Ideal) S_ .f32 0x00000000#32))
          (broadcastInDim S50000x1 ![0] bcast_S50000_S50000x1_0 v) X)))
      (broadcastInDim S64x256 ![] bcast_S_S64x256 (constant (F := Ideal) S_ .f32 0x00000000#32)))
      (broadcastInDim S64x256 ![] bcast_S_S64x256 (constant (F := Ideal) S_ .f32 0x3727C5AC#32))) (ix2 a b) : EReal)
    = fin1 (seg (wordsOf v) (sqm (matOf X)) 0 50000 a b) (seg (wordsOf v) (matOf X) 0 50000 a b) := by
  have hX : ∀ (k : Fin 50000) (b : Fin 256), X (ix2 k b) = matOf X k.val b.val := fun k b => by
    unfold matOf
    rw [dif_pos ⟨k.isLt, b.isLt⟩]
  have h1 := scatter_seg X v (matOf X) hX a b
  have h2 := scatter_seg (mulf X X) v (sqm (matOf X)) (fun k b => by
    show FloatOps.mulf (X (ix2 k b)) (X (ix2 k b)) = FloatOps.mulf (matOf X k.val b.val) (matOf X k.val b.val)
    rw [hX]) a b
  refine (post_apply _ _ a b).trans ?_
  rw [h1, h2]

end Cert.ReferenceIdeal.Sums

end
-- ==== Proof.Ideal.Algebraic.lean ====
/-
  The program and the reference over the extended reals end with equal results: what the precondition says of the ids, and
  the two runs read at their result arrays.
-/
module

public import proofs.«01_k».proof.Proof.Ideal.Frame
public import proofs.«01_k».proof.Proof.Ideal.RefValue
public import Idealize.ShloMosaic.Lib.Decide

@[expose] public section

noncomputable section

/-- The side conditions of the precondition's text. -/
instance Cert.Pre_sorted_segments.facts : Cert.Pre_sorted_segments.Facts where
  bcast_S_S50000 := by decide
  reducesTo_S50000_S_d0 := by decide
  h_S_ := by decide
  slices_S50000_S49999_0 := by decide
  slices_S50000_S49999_1 := by decide
  reducesTo_S49999_S_d0 := by decide

namespace Cert.KernelIdeal.Tile

open Idealize.ShloMosaic Idealize.ShloMosaic.ValueIdx Idealize.SL.Sem

/-- The precondition's text, read: every id is below sixty-four, and none is above the next. -/
theorem sorted_of_fn (x : FVec Ideal Cert.Pre_sorted_segments.S50000x256 .f32) (v : IVec Cert.Pre_sorted_segments.S50000 32)
    (h : Cert.Pre_sorted_segments.fn (F := Ideal) x v = fun _ => 1#1) :
    (∀ j : Cert.Pre_sorted_segments.S50000.Idx, (v j).toNat < 64)
      ∧ ∀ (n : ℕ) (hn : n + 1 < 50000), (v (ix1 (⟨n, by omega⟩ : Fin 50000))).toNat ≤ (v (ix1 (⟨n + 1, hn⟩ : Fin 50000))).toNat := by
  have e := congrFun h (Shape.Idx.first Cert.Pre_sorted_segments.Facts.h_S_)
  simp only [Cert.Pre_sorted_segments.fn] at e
  obtain ⟨e1, e2⟩ := IntOp.andi_eq_one.mp (show IntOp.andi _ _ = 1#1 from e)
  have hl : ∀ j : Cert.Pre_sorted_segments.S50000.Idx, (v j).toNat < 64 := fun j => toNat_of_range _ (Host.reduce_andi_all _ _ _ _ _ e1 j)
  refine ⟨hl, fun n hn => ?_⟩
  have e3 := Host.reduce_andi_all _ _ _ _ _ e2 (ix1 (⟨n, by omega⟩ : Fin 49999))
  have e4 : IntOp.cmpi .sle (v (ix1 (⟨n, by omega⟩ : Fin 50000))) (v (ix1 (⟨n + 1, hn⟩ : Fin 50000))) = 1#1 := by
    refine Eq.trans (congrArg₂ (IntOp.cmpi .sle) ?_ ?_) e3
    · refine (extractStridedSlice_apply _ _ _ _ (ix1 (⟨n, by omega⟩ : Fin 50000)) fun a => ?_).symm
      match a with
      | ⟨0, _⟩ => show n = 0 + n; omega
    · refine (extractStridedSlice_apply _ _ _ _ (ix1 (⟨n + 1, hn⟩ : Fin 50000)) fun a => ?_).symm
      match a with
      | ⟨0, _⟩ => show n + 1 = 1 + n; omega
  have h5 := IntOp.cmpi_sle.mp e4
  have ha := hl (ix1 (⟨n, by omega⟩ : Fin 50000))
  have hb := hl (ix1 (⟨n + 1, hn⟩ : Fin 50000))
  rw [BitVec.toInt_eq_toNat_cond, BitVec.toInt_eq_toNat_cond, if_pos (by omega), if_pos (by omega)] at h5
  omega

/-- The precondition on a launch, as the run wants it. -/
theorem ok_of_sorted (m) (h : Cert.Pre_KernelIdeal_sorted_segments m) : PreOK m := fun d j => (sorted_of_fn _ _ (h d)).1 j

/-- And as the sums want it: the ids are in order. -/
theorem words_sorted (m) (h : Cert.Pre_KernelIdeal_sorted_segments m) (d : Dev Cert.KernelIdeal.nD) : Sorted (wordsOf (m (iLoc d))) 50000 := by
  intro i j hij
  induction j, hij using Nat.le_induction with
  | base => exact fun _ => le_refl _
  | succ j _ ih =>
    intro hj
    refine (ih (by omega)).trans ?_
    unfold wordsOf
    rw [dif_pos hj, dif_pos (show j < 50000 by omega)]
    exact (sorted_of_fn _ _ (h d)).2 j hj

/-- The frame under the stronger precondition. -/
theorem frame_sorted : Cert.quiescent_KernelIdeal_pre_sorted_segments := fun m ρ hpre =>
  (θ_run Cert.KernelIdeal.defs _ _).mono (fun _ h => ⟨fun c => ⟨(h.1 c).1, (h.1 c).2.1⟩, h.2⟩) (run_main m ρ (ok_of_sorted m hpre))

/-- The program and the reference, from memories that agree on the arguments, end with equal results. -/
theorem agrees : Cert.algebraic_KernelIdeal_ReferenceIdeal_pre_sorted_segments := by
  intro m g m' g' hpre hm
  refine ⟨fun c => outV m c, (θ_run Cert.KernelIdeal.defs _ _).mono (fun _ h c => ⟨(h.1 c).2.2, (h.1 c).1, (h.1 c).2.1⟩) (run_main m g (ok_of_sorted m hpre)),
    (θ_run Cert.ReferenceIdeal.defs _ _).mono (fun _ h c => ⟨(h c).1.trans ?_, (h c).2⟩) (Cert.ReferenceIdeal.Value.run (F := Ideal) m' g')⟩
  rw [(hm c).1, (hm c).2]
  funext j
  obtain ⟨a, b, rfl⟩ : ∃ (a : Fin 64) (b : Fin 256), j = ix2 a b := ⟨j 0, j 1, eq_ix2 j⟩
  exact (Cert.ReferenceIdeal.Sums.value_apply _ _ a b).trans (outV_ideal m c (words_sorted m hpre c) a b).symm

end Cert.KernelIdeal.Tile

end
-- ==== Proof.lean ====
/-
  The proof of `Cert.Claim`: the frames of the program at the device's floats and at the extended reals, the frame of the
  reference, that the program read at the extended reals is the program's own text, and that it and the reference there end
  with equal results.
-/
module

public import proofs.«01_k».proof.Defs
public import proofs.«01_k».proof.Proof.Device.Frame
public import proofs.«01_k».proof.Proof.Ideal.Frame
public import proofs.«01_k».proof.Proof.Ideal.Algebraic
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The frame of the reference: its run leaves the arguments as they were, and it declares no semaphore. -/
theorem frame_ref : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The same under the precondition of the equality of results. -/
theorem frame_ref_sorted : Cert.quiescent_ReferenceIdeal_pre_sorted_segments := fun m ρ _ => frame_ref m ρ trivial

/-- What is claimed: the frames, that no operation was rewritten, and that the results are equal. -/
theorem claim : Cert.Claim :=
  ⟨Cert.Kernel.Gen.facts, Cert.KernelIdeal.Gen.facts, Cert.ReferenceIdeal.Gen.facts, Cert.Pre_ids_in_range.Gen.facts,
    Cert.Pre_sorted_segments.facts, Cert.Kernel.Tile.frame, Cert.KernelIdeal.Tile.frame, Cert.KernelIdeal.Tile.frame_sorted, frame_ref,
    frame_ref_sorted, trivial, Cert.KernelIdeal.Tile.agrees⟩

end Cert.Proof

end
